-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_q_and_k [hPre_finite_q_and_k : Cert.Pre_finite_q_and_k.Facts] (m : (ℓ : Loc Cert.KernelIdeal.nD Cert.KernelIdeal.τ Cert.KernelIdeal.sig) → Buf (Elt Ideal) ℓ) : Prop :=
  ∀ c : Dev Cert.KernelIdeal.nD,
    (Cert.Pre_finite_q_and_k.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_q_and_k [hPre_finite_q_and_k : Cert.Pre_finite_q_and_k.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_q_and_k.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_q_and_k [hKernelIdeal : Cert.KernelIdeal.Facts] [hPre_finite_q_and_k : Cert.Pre_finite_q_and_k.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_q_and_k m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_q_and_k [hReferenceIdeal : Cert.ReferenceIdeal.Facts] [hPre_finite_q_and_k : Cert.Pre_finite_q_and_k.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_q_and_k m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal_pre_finite_q_and_k [hKernelIdeal : Cert.KernelIdeal.Facts] [hReferenceIdeal : Cert.ReferenceIdeal.Facts] [hPre_finite_q_and_k : Cert.Pre_finite_q_and_k.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_q_and_k m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v39)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v39) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v102) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v50_0)) (v1 : (c : Dev Cert.Kernel3Ideal.nD) → Buf (Elt Ideal) ((c.tc : Thread Cert.Kernel3Ideal.nD Cert.Kernel3Ideal.τ).loc Cert.Kernel3Ideal.main_v50_1)) (v2 : (c : Dev Cert.Kernel3Ideal.nD) → Buf (Elt Ideal) ((c.tc : Thread Cert.Kernel3Ideal.nD Cert.Kernel3Ideal.τ).loc Cert.Kernel3Ideal.main_v50_2)) (v3 : (c : Dev Cert.Kernel3Ideal.nD) → Buf (Elt Ideal) ((c.tc : Thread Cert.Kernel3Ideal.nD Cert.Kernel3Ideal.τ).loc Cert.Kernel3Ideal.main_v50_3)) (v4 : (c : Dev Cert.Kernel3Ideal.nD) → Buf (Elt Ideal) ((c.tc : Thread Cert.Kernel3Ideal.nD Cert.Kernel3Ideal.τ).loc Cert.Kernel3Ideal.main_v50_4)) (v5 : (c : Dev Cert.Kernel3Ideal.nD) → Buf (Elt Ideal) ((c.tc : Thread Cert.Kernel3Ideal.nD Cert.Kernel3Ideal.τ).loc Cert.Kernel3Ideal.main_v50_5)) (v6 : (c : Dev Cert.Kernel3Ideal.nD) → Buf (Elt Ideal) ((c.tc : Thread Cert.Kernel3Ideal.nD Cert.Kernel3Ideal.τ).loc Cert.Kernel3Ideal.main_v50_6)) (v7 : (c : Dev Cert.Kernel3Ideal.nD) → Buf (Elt Ideal) ((c.tc : Thread Cert.Kernel3Ideal.nD Cert.Kernel3Ideal.τ).loc Cert.Kernel3Ideal.main_v50_7)) (v8 : (c : Dev Cert.Kernel3Ideal.nD) → Buf (Elt Ideal) ((c.tc : Thread Cert.Kernel3Ideal.nD Cert.Kernel3Ideal.τ).loc Cert.Kernel3Ideal.main_v50_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v50_0) = v0 c
          ∧ r.2.mem ((c.tc : Thread Cert.Kernel3Ideal.nD Cert.Kernel3Ideal.τ).loc Cert.Kernel3Ideal.main_v50_1) = v1 c
          ∧ r.2.mem ((c.tc : Thread Cert.Kernel3Ideal.nD Cert.Kernel3Ideal.τ).loc Cert.Kernel3Ideal.main_v50_2) = v2 c
          ∧ r.2.mem ((c.tc : Thread Cert.Kernel3Ideal.nD Cert.Kernel3Ideal.τ).loc Cert.Kernel3Ideal.main_v50_3) = v3 c
          ∧ r.2.mem ((c.tc : Thread Cert.Kernel3Ideal.nD Cert.Kernel3Ideal.τ).loc Cert.Kernel3Ideal.main_v50_4) = v4 c
          ∧ r.2.mem ((c.tc : Thread Cert.Kernel3Ideal.nD Cert.Kernel3Ideal.τ).loc Cert.Kernel3Ideal.main_v50_5) = v5 c
          ∧ r.2.mem ((c.tc : Thread Cert.Kernel3Ideal.nD Cert.Kernel3Ideal.τ).loc Cert.Kernel3Ideal.main_v50_6) = v6 c
          ∧ r.2.mem ((c.tc : Thread Cert.Kernel3Ideal.nD Cert.Kernel3Ideal.τ).loc Cert.Kernel3Ideal.main_v50_7) = v7 c
          ∧ r.2.mem ((c.tc : Thread Cert.Kernel3Ideal.nD Cert.Kernel3Ideal.τ).loc Cert.Kernel3Ideal.main_v50_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v130) = v0 c
          ∧ r.2.mem ((c.tc : Thread Cert.Reference3Ideal.nD Cert.Reference3Ideal.τ).loc Cert.Reference3Ideal.main_v131) = v1 c
          ∧ r.2.mem ((c.tc : Thread Cert.Reference3Ideal.nD Cert.Reference3Ideal.τ).loc Cert.Reference3Ideal.main_v132) = v2 c
          ∧ r.2.mem ((c.tc : Thread Cert.Reference3Ideal.nD Cert.Reference3Ideal.τ).loc Cert.Reference3Ideal.main_v134) = v3 c
          ∧ r.2.mem ((c.tc : Thread Cert.Reference3Ideal.nD Cert.Reference3Ideal.τ).loc Cert.Reference3Ideal.main_v136) = v4 c
          ∧ r.2.mem ((c.tc : Thread Cert.Reference3Ideal.nD Cert.Reference3Ideal.τ).loc Cert.Reference3Ideal.main_v137) = v5 c
          ∧ r.2.mem ((c.tc : Thread Cert.Reference3Ideal.nD Cert.Reference3Ideal.τ).loc Cert.Reference3Ideal.main_v138) = v6 c
          ∧ r.2.mem ((c.tc : Thread Cert.Reference3Ideal.nD Cert.Reference3Ideal.τ).loc Cert.Reference3Ideal.main_v139) = v7 c
          ∧ r.2.mem ((c.tc : Thread Cert.Reference3Ideal.nD Cert.Reference3Ideal.τ).loc Cert.Reference3Ideal.main_v140) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v53_0)) (v1 : (c : Dev Cert.Kernel4Ideal.nD) → Buf (Elt Ideal) ((c.tc : Thread Cert.Kernel4Ideal.nD Cert.Kernel4Ideal.τ).loc Cert.Kernel4Ideal.main_v53_1)) (v2 : (c : Dev Cert.Kernel4Ideal.nD) → Buf (Elt Ideal) ((c.tc : Thread Cert.Kernel4Ideal.nD Cert.Kernel4Ideal.τ).loc Cert.Kernel4Ideal.main_v53_2)) (v3 : (c : Dev Cert.Kernel4Ideal.nD) → Buf (Elt Ideal) ((c.tc : Thread Cert.Kernel4Ideal.nD Cert.Kernel4Ideal.τ).loc Cert.Kernel4Ideal.main_v53_3)) (v4 : (c : Dev Cert.Kernel4Ideal.nD) → Buf (Elt Ideal) ((c.tc : Thread Cert.Kernel4Ideal.nD Cert.Kernel4Ideal.τ).loc Cert.Kernel4Ideal.main_v53_4)) (v5 : (c : Dev Cert.Kernel4Ideal.nD) → Buf (Elt Ideal) ((c.tc : Thread Cert.Kernel4Ideal.nD Cert.Kernel4Ideal.τ).loc Cert.Kernel4Ideal.main_v53_5)) (v6 : (c : Dev Cert.Kernel4Ideal.nD) → Buf (Elt Ideal) ((c.tc : Thread Cert.Kernel4Ideal.nD Cert.Kernel4Ideal.τ).loc Cert.Kernel4Ideal.main_v53_6)) (v7 : (c : Dev Cert.Kernel4Ideal.nD) → Buf (Elt Ideal) ((c.tc : Thread Cert.Kernel4Ideal.nD Cert.Kernel4Ideal.τ).loc Cert.Kernel4Ideal.main_v53_7)) (v8 : (c : Dev Cert.Kernel4Ideal.nD) → Buf (Elt Ideal) ((c.tc : Thread Cert.Kernel4Ideal.nD Cert.Kernel4Ideal.τ).loc Cert.Kernel4Ideal.main_v53_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v53_0) = v0 c
          ∧ r.2.mem ((c.tc : Thread Cert.Kernel4Ideal.nD Cert.Kernel4Ideal.τ).loc Cert.Kernel4Ideal.main_v53_1) = v1 c
          ∧ r.2.mem ((c.tc : Thread Cert.Kernel4Ideal.nD Cert.Kernel4Ideal.τ).loc Cert.Kernel4Ideal.main_v53_2) = v2 c
          ∧ r.2.mem ((c.tc : Thread Cert.Kernel4Ideal.nD Cert.Kernel4Ideal.τ).loc Cert.Kernel4Ideal.main_v53_3) = v3 c
          ∧ r.2.mem ((c.tc : Thread Cert.Kernel4Ideal.nD Cert.Kernel4Ideal.τ).loc Cert.Kernel4Ideal.main_v53_4) = v4 c
          ∧ r.2.mem ((c.tc : Thread Cert.Kernel4Ideal.nD Cert.Kernel4Ideal.τ).loc Cert.Kernel4Ideal.main_v53_5) = v5 c
          ∧ r.2.mem ((c.tc : Thread Cert.Kernel4Ideal.nD Cert.Kernel4Ideal.τ).loc Cert.Kernel4Ideal.main_v53_6) = v6 c
          ∧ r.2.mem ((c.tc : Thread Cert.Kernel4Ideal.nD Cert.Kernel4Ideal.τ).loc Cert.Kernel4Ideal.main_v53_7) = v7 c
          ∧ r.2.mem ((c.tc : Thread Cert.Kernel4Ideal.nD Cert.Kernel4Ideal.τ).loc Cert.Kernel4Ideal.main_v53_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v131) = v0 c
          ∧ r.2.mem ((c.tc : Thread Cert.Reference4Ideal.nD Cert.Reference4Ideal.τ).loc Cert.Reference4Ideal.main_v132) = v1 c
          ∧ r.2.mem ((c.tc : Thread Cert.Reference4Ideal.nD Cert.Reference4Ideal.τ).loc Cert.Reference4Ideal.main_v133) = v2 c
          ∧ r.2.mem ((c.tc : Thread Cert.Reference4Ideal.nD Cert.Reference4Ideal.τ).loc Cert.Reference4Ideal.main_v135) = v3 c
          ∧ r.2.mem ((c.tc : Thread Cert.Reference4Ideal.nD Cert.Reference4Ideal.τ).loc Cert.Reference4Ideal.main_v137) = v4 c
          ∧ r.2.mem ((c.tc : Thread Cert.Reference4Ideal.nD Cert.Reference4Ideal.τ).loc Cert.Reference4Ideal.main_v124) = v5 c
          ∧ r.2.mem ((c.tc : Thread Cert.Reference4Ideal.nD Cert.Reference4Ideal.τ).loc Cert.Reference4Ideal.main_v138) = v6 c
          ∧ r.2.mem ((c.tc : Thread Cert.Reference4Ideal.nD Cert.Reference4Ideal.τ).loc Cert.Reference4Ideal.main_v139) = v7 c
          ∧ r.2.mem ((c.tc : Thread Cert.Reference4Ideal.nD Cert.Reference4Ideal.τ).loc Cert.Reference4Ideal.main_v140) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_q_and_k : Cert.Pre_finite_q_and_k.Facts),
    quiescent_Kernel (hKernel := hKernel)
    ∧ quiescent_KernelIdeal (hKernelIdeal := hKernelIdeal)
    ∧ quiescent_KernelIdeal_pre_finite_q_and_k (hKernelIdeal := hKernelIdeal) (hPre_finite_q_and_k := hPre_finite_q_and_k)
    ∧ quiescent_ReferenceIdeal (hReferenceIdeal := hReferenceIdeal)
    ∧ quiescent_ReferenceIdeal_pre_finite_q_and_k (hReferenceIdeal := hReferenceIdeal) (hPre_finite_q_and_k := hPre_finite_q_and_k)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_q_and_k (hKernelIdeal := hKernelIdeal) (hReferenceIdeal := hReferenceIdeal) (hPre_finite_q_and_k := hPre_finite_q_and_k)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_q_and_k.lean ====
abbrev S16384x512 : Shape := ⟨2, ![16384, 512]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)

variable [Facts]

def fn {F : FTy → Type} [FloatOps F] (main_arg0 : FVec F S16384x512 .bf16) (main_arg1 : FVec F S16384x512 .bf16) (main_arg2 : FVec F S16384x512 .bf16) : IVec S16384x512 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S16384x512 .f32 := (extf .f32 · bitsLt_bf16_f32) main_arg1
  let main_v5 : FVec F S16384x512 .f32 := Host.absf main_v4
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  let main_v8 : IVec S16384x512 1 := andi main_v3 main_v7
  main_v8
-- ==== Kernel.lean ====
abbrev S16384x512 : Shape := ⟨2, ![16384, 512]⟩
abbrev S128x128 : Shape := ⟨2, ![128, 128]⟩
abbrev S2048x128 : Shape := ⟨2, ![2048, 128]⟩
abbrev S256x384 : Shape := ⟨2, ![256, 384]⟩
abbrev S256x128 : Shape := ⟨2, ![256, 128]⟩
abbrev S128x256 : Shape := ⟨2, ![128, 256]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .f32⟩
  | .local _ .vmem, ⟨0, _⟩ => ⟨S128x128, .bf16⟩
  | .local _ .vmem, ⟨1, _⟩ => ⟨S128x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S128x128, .f32⟩
  | .local _ .vmem, ⟨7, _⟩ => ⟨S128x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 16], ![false, false, false]⟩

@[reducible] def k0_t1_loop (i : grid0.Coords) : Scf.Loop 32 :=
  let c0_i32_15 : BitVec 32 := 0#32
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v49 : BitVec 32 := Scalar.subi v20 c0_i32_15
  let c1_i32_16 : BitVec 32 := 1#32
  let v51 : BitVec 32 := Scalar.divsi v49 c1_i32_16
  let v52 : BitVec 32 := Scalar.muli v51 c1_i32_16
  let v53 : BitVec 32 := Scalar.addi c0_i32_15 v52
  let c1_i32_17 : BitVec 32 := 1#32
  ⟨c0_i32_15, v53, c1_i32_17⟩
def k0_mult1 (i : grid0.Coords) (k0_t1 : Fin (k0_t1_loop i).trips) : BitVec 32 :=
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_22 : BitVec 32 := 1#32
  let v62 : BitVec 32 := Scalar.subi v20 c1_i32_22
  let c0_i32_15 : BitVec 32 := 0#32
  let c1_i32_17 : BitVec 32 := 1#32
  let arg7 : BitVec 32 := Scf.iv c0_i32_15 c1_i32_17 k0_t1
  let v63 : BitVec 32 := Scalar.subi v62 arg7
  let c256_i32_23 : BitVec 32 := 256#32
  let v64 : BitVec 32 := Scalar.muli v63 c256_i32_23
  v64
def k0_off1 (i : grid0.Coords) (k0_t1 : Fin (k0_t1_loop i).trips) : Fin 2 → Nat :=
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_22 : BitVec 32 := 1#32
  let v62 : BitVec 32 := Scalar.subi v20 c1_i32_22
  let c0_i32_15 : BitVec 32 := 0#32
  let c1_i32_17 : BitVec 32 := 1#32
  let arg7 : BitVec 32 := Scf.iv c0_i32_15 c1_i32_17 k0_t1
  let v63 : BitVec 32 := Scalar.subi v62 arg7
  let c256_i32_23 : BitVec 32 := 256#32
  let v64 : BitVec 32 := Scalar.muli v63 c256_i32_23
  let v65 : BitVec 32 := v64
  let v69 : Index := Scalar.indexCast v65
  let c0_24 : Index := 0#32
  ![v69.toNat, 0]
@[reducible] def k0_t2_loop (i : grid0.Coords) : Scf.Loop 32 :=
  let c0_i32_15 : BitVec 32 := 0#32
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v49 : BitVec 32 := Scalar.subi v20 c0_i32_15
  let c1_i32_16 : BitVec 32 := 1#32
  let v51 : BitVec 32 := Scalar.divsi v49 c1_i32_16
  let v52 : BitVec 32 := Scalar.muli v51 c1_i32_16
  let v53 : BitVec 32 := Scalar.addi c0_i32_15 v52
  let v50 : BitVec 32 := Scalar.addi c0_i32_15 v49
  let c1_i32_18 : BitVec 32 := 1#32
  ⟨v53, v50, c1_i32_18⟩
def k0_mult2 (i : grid0.Coords) (k0_t2 : Fin (k0_t2_loop i).trips) : BitVec 32 :=
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_22 : BitVec 32 := 1#32
  let v62 : BitVec 32 := Scalar.subi v20 c1_i32_22
  let c0_i32_15 : BitVec 32 := 0#32
  let v49 : BitVec 32 := Scalar.subi v20 c0_i32_15
  let c1_i32_16 : BitVec 32 := 1#32
  let v51 : BitVec 32 := Scalar.divsi v49 c1_i32_16
  let v52 : BitVec 32 := Scalar.muli v51 c1_i32_16
  let v53 : BitVec 32 := Scalar.addi c0_i32_15 v52
  let c1_i32_18 : BitVec 32 := 1#32
  let arg7 : BitVec 32 := Scf.iv v53 c1_i32_18 k0_t2
  let v63 : BitVec 32 := Scalar.subi v62 arg7
  let c256_i32_23 : BitVec 32 := 256#32
  let v64 : BitVec 32 := Scalar.muli v63 c256_i32_23
  v64
def k0_off2 (i : grid0.Coords) (k0_t2 : Fin (k0_t2_loop i).trips) : Fin 2 → Nat :=
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_22 : BitVec 32 := 1#32
  let v62 : BitVec 32 := Scalar.subi v20 c1_i32_22
  let c0_i32_15 : BitVec 32 := 0#32
  let v49 : BitVec 32 := Scalar.subi v20 c0_i32_15
  let c1_i32_16 : BitVec 32 := 1#32
  let v51 : BitVec 32 := Scalar.divsi v49 c1_i32_16
  let v52 : BitVec 32 := Scalar.muli v51 c1_i32_16
  let v53 : BitVec 32 := Scalar.addi c0_i32_15 v52
  let c1_i32_18 : BitVec 32 := 1#32
  let arg7 : BitVec 32 := Scf.iv v53 c1_i32_18 k0_t2
  let v63 : BitVec 32 := Scalar.subi v62 arg7
  let c256_i32_23 : BitVec 32 := 256#32
  let v64 : BitVec 32 := Scalar.muli v63 c256_i32_23
  let v65 : BitVec 32 := v64
  let v69 : Index := Scalar.indexCast v65
  let c0_24 : Index := 0#32
  ![v69.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16384x512 : Shape := ⟨2, ![16384, 512]⟩
abbrev S8x2048x8x64 : Shape := ⟨4, ![8, 2048, 8, 64]⟩
abbrev S2048 : Shape := ⟨1, ![2048]⟩
abbrev S8x8x2048x2048 : Shape := ⟨4, ![8, 8, 2048, 2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S8x8x64x2048 : Shape := ⟨4, ![8, 8, 64, 2048]⟩

abbrev nBuf : Space → Nat
  | .hbm => 68
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .f32⟩
  | .hbm, ⟨4, _⟩ => ⟨S8x2048x8x64, .f32⟩
  | .hbm, ⟨5, _⟩ => ⟨S16384x512, .f32⟩
  | .hbm, ⟨6, _⟩ => ⟨S8x2048x8x64, .f32⟩
  | .hbm, ⟨7, _⟩ => ⟨S16384x512, .f32⟩
  | .hbm, ⟨8, _⟩ => ⟨S8x2048x8x64, .f32⟩
  | .hbm, ⟨9, _⟩ => ⟨S2048, .i32⟩
  | .hbm, ⟨10, _⟩ => ⟨S8x8x2048x2048, .f32⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S8x8x2048x2048, .f32⟩
  | .hbm, ⟨17, _⟩ => ⟨S_, .f32⟩
  | .hbm, ⟨18, _⟩ => ⟨S8x8x2048x2048, .f32⟩
  | .hbm, ⟨19, _⟩ => ⟨S8x8x2048x2048, .f32⟩
  | .hbm, ⟨20, _⟩ => ⟨S8x8x2048x2048, .f32⟩
  | .hbm, ⟨21, _⟩ => ⟨S8x8x2048x2048, .f32⟩
  | .hbm, ⟨22, _⟩ => ⟨S8x8x2048x2048, .i1⟩
  | .hbm, ⟨23, _⟩ => ⟨S8x8x2048x2048, .f32⟩
  | .hbm, ⟨24, _⟩ => ⟨S8x8x2048x2048, .f32⟩
  | .hbm, ⟨25, _⟩ => ⟨S8x8x2048x2048, .f32⟩
  | .hbm, ⟨26, _⟩ => ⟨S8x8x2048x2048, .f32⟩
  | .hbm, ⟨27, _⟩ => ⟨S8x8x2048x2048, .f32⟩
  | .hbm, ⟨28, _⟩ => ⟨S8x8x2048x2048, .f32⟩
  | .hbm, ⟨29, _⟩ => ⟨S8x8x2048x2048, .f32⟩
  | .hbm, ⟨30, _⟩ => ⟨S8x8x2048x2048, .f32⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S_, .f32⟩
  | .hbm, ⟨35, _⟩ => ⟨S8x8x2048x2048, .f32⟩
  | .hbm, ⟨36, _⟩ => ⟨S8x8x2048x2048, .f32⟩
  | .hbm, ⟨37, _⟩ => ⟨S8x8x2048x2048, .f32⟩
  | .hbm, ⟨38, _⟩ => ⟨S8x8x2048x2048, .f32⟩
  | .hbm, ⟨39, _⟩ => ⟨S8x8x2048x2048, .i1⟩
  | .hbm, ⟨40, _⟩ => ⟨S8x8x2048x2048, .f32⟩
  | .hbm, ⟨41, _⟩ => ⟨S8x8x2048x2048, .f32⟩
  | .hbm, ⟨42, _⟩ => ⟨S8x8x2048x2048, .f32⟩
  | .hbm, ⟨43, _⟩ => ⟨S8x8x2048x2048, .f32⟩
  | .hbm, ⟨44, _⟩ => ⟨S8x8x2048x2048, .f32⟩
  | .hbm, ⟨45, _⟩ => ⟨S8x8x2048x2048, .f32⟩
  | .hbm, ⟨46, _⟩ => ⟨S8x8x2048x2048, .f32⟩
  | .hbm, ⟨47, _⟩ => ⟨S8x8x2048x2048, .f32⟩
  | .hbm, ⟨48, _⟩ => ⟨S8x8x2048x2048, .f32⟩
  | .hbm, ⟨49, _⟩ => ⟨S_, .f32⟩
  | .hbm, ⟨50, _⟩ => ⟨S_, .f32⟩
  | .hbm, ⟨51, _⟩ => ⟨S8x8x2048x2048, .i1⟩
  | .hbm, ⟨52, _⟩ => ⟨S8x8x2048x2048, .f32⟩
  | .hbm, ⟨53, _⟩ => ⟨S8x8x2048x2048, .f32⟩
  | .hbm, ⟨54, _⟩ => ⟨S_, .f32⟩
  | .hbm, ⟨55, _⟩ => ⟨S_, .f32⟩
  | .hbm, ⟨56, _⟩ => ⟨S8x8x2048x2048, .f32⟩
  | .hbm, ⟨57, _⟩ => ⟨S8x8x2048x2048, .f32⟩
  | .hbm, ⟨58, _⟩ => ⟨S8x8x2048x2048, .f32⟩
  | .hbm, ⟨59, _⟩ => ⟨S8x8x2048x2048, .f32⟩
  | .hbm, ⟨60, _⟩ => ⟨S_, .f32⟩
  | .hbm, ⟨61, _⟩ => ⟨S_, .f32⟩
  | .hbm, ⟨62, _⟩ => ⟨S8x8x2048x2048, .i1⟩
  | .hbm, ⟨63, _⟩ => ⟨S8x8x2048x2048, .f32⟩
  | .hbm, ⟨64, _⟩ => ⟨S8x8x2048x2048, .f32⟩
  | .hbm, ⟨65, _⟩ => ⟨S8x8x64x2048, .f32⟩
  | .hbm, ⟨66, _⟩ => ⟨S8x2048x8x64, .f32⟩
  | .hbm, ⟨67, _⟩ => ⟨S16384x512, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_call0_cst : Ref sig .tc := ⟨.hbm, 34, rfl⟩
abbrev main_call1_call0_v0 : Ref sig .tc := ⟨.hbm, 35, rfl⟩
abbrev main_call1_call0_v1 : Ref sig .tc := ⟨.hbm, 36, rfl⟩
abbrev main_call1_call0_v2 : Ref sig .tc := ⟨.hbm, 37, rfl⟩
abbrev main_call1_call0_v3 : Ref sig .tc := ⟨.hbm, 38, rfl⟩
abbrev main_call1_call0_v4 : Ref sig .tc := ⟨.hbm, 39, rfl⟩
abbrev main_call1_call0_v5 : Ref sig .tc := ⟨.hbm, 40, rfl⟩
abbrev main_call1_call0_v6 : Ref sig .tc := ⟨.hbm, 41, rfl⟩
abbrev main_call1_call0_v7 : Ref sig .tc := ⟨.hbm, 42, rfl⟩
abbrev main_call1_call0_v8 : Ref sig .tc := ⟨.hbm, 43, rfl⟩
abbrev main_call1_call0_v9 : Ref sig .tc := ⟨.hbm, 44, rfl⟩
abbrev main_call1_call0_v10 : Ref sig .tc := ⟨.hbm, 45, rfl⟩
abbrev main_call1_call0_v11 : Ref sig .tc := ⟨.hbm, 46, rfl⟩
abbrev main_call1_v1 : Ref sig .tc := ⟨.hbm, 47, rfl⟩
abbrev main_v15 : Ref sig .tc := ⟨.hbm, 48, rfl⟩
abbrev main_cst : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v16 : Ref sig .tc := ⟨.hbm, 53, rfl⟩
abbrev main_call3_cst : Ref sig .tc := ⟨.hbm, 54, rfl⟩
abbrev main_call3_v0 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_0 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩

abbrev nD : Nat := 1
abbrev τ : Topo := Topo.v7x

variable {F : FTy → Type} [FloatOps F]
-- ==== Kernel2.lean ====
abbrev S8x2048x1024 : Shape := ⟨3, ![8, 2048, 1024]⟩
abbrev S16384x512 : Shape := ⟨2, ![16384, 512]⟩
abbrev S8x16384x128 : Shape := ⟨3, ![8, 16384, 128]⟩
abbrev S1x8x2048x256 : Shape := ⟨4, ![1, 8, 2048, 256]⟩
abbrev S1x128x8x64 : Shape := ⟨4, ![1, 128, 8, 64]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024 : Shape := ⟨1, ![1024]⟩
abbrev S128x8x64 : Shape := ⟨3, ![128, 8, 64]⟩
abbrev S8x128x64 : Shape := ⟨3, ![8, 128, 64]⟩
abbrev S8x8 : Shape := ⟨2, ![8, 8]⟩
abbrev S_ : Shape := ⟨0, ![]⟩
abbrev S8x1x8x1 : Shape := ⟨4, ![8, 1, 8, 1]⟩
abbrev S8x128x1x64 : Shape := ⟨4, ![8, 128, 1, 64]⟩
abbrev S8x128x8x64 : Shape := ⟨4, ![8, 128, 8, 64]⟩
abbrev S1024x512 : Shape := ⟨2, ![1024, 512]⟩
abbrev S512 : Shape := ⟨1, ![512]⟩
abbrev S1024x1024 : Shape := ⟨2, ![1024, 1024]⟩
abbrev S1024x2816 : Shape := ⟨2, ![1024, 2816]⟩
abbrev S2816x1024 : Shape := ⟨2, ![2816, 1024]⟩
abbrev S256x1024 : Shape := ⟨2, ![256, 1024]⟩
abbrev S16384x1024 : Shape := ⟨2, ![16384, 1024]⟩
abbrev S8x2048x256 : Shape := ⟨3, ![8, 2048, 256]⟩
abbrev S16384x256 : Shape := ⟨2, ![16384, 256]⟩
abbrev S256x512 : Shape := ⟨2, ![256, 512]⟩
abbrev S8x256x128 : Shape := ⟨3, ![8, 256, 128]⟩
abbrev S256x256 : Shape := ⟨2, ![256, 256]⟩
abbrev S1024x1408 : Shape := ⟨2, ![1024, 1408]⟩
abbrev S1408x1024 : Shape := ⟨2, ![1408, 1024]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x1408 : Shape := ⟨2, ![256, 1408]⟩

abbrev nBuf : Space → Nat
  | .hbm => 57
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .f32⟩
  | .hbm, ⟨2, _⟩ => ⟨S8x16384x128, .f32⟩
  | .hbm, ⟨3, _⟩ => ⟨S1x8x2048x256, .f32⟩
  | .hbm, ⟨4, _⟩ => ⟨S1x128x8x64, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1x1024, .f32⟩
  | .hbm, ⟨13, _⟩ => ⟨S1x1024x1024, .f32⟩
  | .hbm, ⟨14, _⟩ => ⟨S1x256x1024, .f32⟩
  | .hbm, ⟨15, _⟩ => ⟨S1024, .f32⟩
  | .hbm, ⟨16, _⟩ => ⟨S128x8x64, .f32⟩
  | .hbm, ⟨17, _⟩ => ⟨S8x128x64, .f32⟩
  | .hbm, ⟨18, _⟩ => ⟨S8x8, .i32⟩
  | .hbm, ⟨19, _⟩ => ⟨S8x8, .i32⟩
  | .hbm, ⟨20, _⟩ => ⟨S_, .i32⟩
  | .hbm, ⟨21, _⟩ => ⟨S8x8, .i32⟩
  | .hbm, ⟨22, _⟩ => ⟨S8x8, .i32⟩
  | .hbm, ⟨23, _⟩ => ⟨S8x8, .i1⟩
  | .hbm, ⟨24, _⟩ => ⟨S8x8, .f32⟩
  | .hbm, ⟨25, _⟩ => ⟨S8x1x8x1, .f32⟩
  | .hbm, ⟨26, _⟩ => ⟨S8x128x1x64, .f32⟩
  | .hbm, ⟨27, _⟩ => ⟨S8x128x8x64, .f32⟩
  | .hbm, ⟨28, _⟩ => ⟨S8x128x8x64, .f32⟩
  | .hbm, ⟨29, _⟩ => ⟨S8x128x8x64, .f32⟩
  | .hbm, ⟨30, _⟩ => ⟨S1024x512, .f32⟩
  | .hbm, ⟨31, _⟩ => ⟨S512, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S1024x512, .bf16⟩
  | .hbm, ⟨36, _⟩ => ⟨S1024x1024, .f32⟩
  | .hbm, ⟨37, _⟩ => ⟨S1024x1024, .bf16⟩
  | .hbm, ⟨38, _⟩ => ⟨S1024, .f32⟩
  | .hbm, ⟨39, _⟩ => ⟨S1x1024, .f32⟩
  | .hbm, ⟨40, _⟩ => ⟨S1024x2816, .f32⟩
  | .hbm, ⟨41, _⟩ => ⟨S1024x2816, .bf16⟩
  | .hbm, ⟨42, _⟩ => ⟨S1024x2816, .f32⟩
  | .hbm, ⟨43, _⟩ => ⟨S1024x2816, .bf16⟩
  | .hbm, ⟨44, _⟩ => ⟨S2816x1024, .f32⟩
  | .hbm, ⟨45, _⟩ => ⟨S2816x1024, .bf16⟩
  | .hbm, ⟨46, _⟩ => ⟨S1024, .f32⟩
  | .hbm, ⟨47, _⟩ => ⟨S1x1024, .f32⟩
  | .hbm, ⟨48, _⟩ => ⟨S1024x1024, .f32⟩
  | .hbm, ⟨49, _⟩ => ⟨S1024x1024, .bf16⟩
  | .hbm, ⟨50, _⟩ => ⟨S256x1024, .f32⟩
  | .hbm, ⟨51, _⟩ => ⟨S256x1024, .bf16⟩
  | .hbm, ⟨52, _⟩ => ⟨S1x1024, .f32⟩
  | .hbm, ⟨53, _⟩ => ⟨S16384x1024, .f32⟩
  | .hbm, ⟨54, _⟩ => ⟨S8x2048x256, .f32⟩
  | .hbm, ⟨55, _⟩ => ⟨S16384x256, .f32⟩
  | .hbm, ⟨56, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S8x256x128, .f32⟩
  | .local _ .vmem, ⟨5, _⟩ => ⟨S8x256x128, .f32⟩
  | .local _ .vmem, ⟨6, _⟩ => ⟨S256x256, .f32⟩
  | .local _ .vmem, ⟨7, _⟩ => ⟨S256x256, .f32⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x1024, .bf16⟩
  | .local _ .vmem, ⟨12, _⟩ => ⟨S1x1024, .f32⟩
  | .local _ .vmem, ⟨13, _⟩ => ⟨S1024x1408, .bf16⟩
  | .local _ .vmem, ⟨14, _⟩ => ⟨S1024x1408, .bf16⟩
  | .local _ .vmem, ⟨15, _⟩ => ⟨S1024x1408, .bf16⟩
  | .local _ .vmem, ⟨16, _⟩ => ⟨S1024x1408, .bf16⟩
  | .local _ .vmem, ⟨17, _⟩ => ⟨S1408x1024, .bf16⟩
  | .local _ .vmem, ⟨18, _⟩ => ⟨S1408x1024, .bf16⟩
  | .local _ .vmem, ⟨19, _⟩ => ⟨S1x1024, .f32⟩
  | .local _ .vmem, ⟨20, _⟩ => ⟨S1024x1024, .bf16⟩
  | .local _ .vmem, ⟨21, _⟩ => ⟨S256x1024, .bf16⟩
  | .local _ .vmem, ⟨22, _⟩ => ⟨S1x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1408x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Reference2Ideal.lean ====
abbrev S8x2048x1024 : Shape := ⟨3, ![8, 2048, 1024]⟩
abbrev S16384x512 : Shape := ⟨2, ![16384, 512]⟩
abbrev S8x16384x128 : Shape := ⟨3, ![8, 16384, 128]⟩
abbrev S1x8x2048x256 : Shape := ⟨4, ![1, 8, 2048, 256]⟩
abbrev S1x128x8x64 : Shape := ⟨4, ![1, 128, 8, 64]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024 : Shape := ⟨1, ![1024]⟩
abbrev S8x2048x256 : Shape := ⟨3, ![8, 2048, 256]⟩
abbrev S16384x8x128 : Shape := ⟨3, ![16384, 8, 128]⟩
abbrev S8x2048x8x128 : Shape := ⟨4, ![8, 2048, 8, 128]⟩
abbrev S128x8x64 : Shape := ⟨3, ![128, 8, 64]⟩
abbrev S8x64x8x2048 : Shape := ⟨4, ![8, 64, 8, 2048]⟩
abbrev S8x2048x8x64 : Shape := ⟨4, ![8, 2048, 8, 64]⟩
abbrev S8x2048x512 : Shape := ⟨3, ![8, 2048, 512]⟩
abbrev S512 : Shape := ⟨1, ![512]⟩
abbrev S_ : Shape := ⟨0, ![]⟩
abbrev S8x2048 : Shape := ⟨2, ![8, 2048]⟩
abbrev S8x2048x1 : Shape := ⟨3, ![8, 2048, 1]⟩
abbrev S1x1x512 : Shape := ⟨3, ![1, 1, 512]⟩
abbrev S1024x1024 : Shape := ⟨2, ![1024, 1024]⟩
abbrev S1x1x1024 : Shape := ⟨3, ![1, 1, 1024]⟩
abbrev S1024x2816 : Shape := ⟨2, ![1024, 2816]⟩
abbrev S8x2048x2816 : Shape := ⟨3, ![8, 2048, 2816]⟩
abbrev S2816x1024 : Shape := ⟨2, ![2816, 1024]⟩
abbrev S256x1024 : Shape := ⟨2, ![256, 1024]⟩
abbrev S16384x1024 : Shape := ⟨2, ![16384, 1024]⟩

abbrev nBuf : Space → Nat
  | .hbm => 144
  | .vmem => 0
  | .smem => 0
  | _ => 0

abbrev hbmTy0_0 (i : Nat) : BufTy := match i % 128 with
  | 0 => ⟨S8x2048x1024, .f32⟩
  | 1 => ⟨S16384x512, .f32⟩
  | 2 => ⟨S8x16384x128, .f32⟩
  | 3 => ⟨S1x8x2048x256, .f32⟩
  | 4 => ⟨S1x128x8x64, .f32⟩
  | 5 => ⟨S1x512, .f32⟩
  | 6 => ⟨S1x512, .f32⟩
  | 7 => ⟨S1x1024x1024, .f32⟩
  | 8 => ⟨S1x1024, .f32⟩
  | 9 => ⟨S1x1024x2816, .f32⟩
  | 10 => ⟨S1x1024x2816, .f32⟩
  | 11 => ⟨S1x2816x1024, .f32⟩
  | 12 => ⟨S1x1024, .f32⟩
  | 13 => ⟨S1x1024x1024, .f32⟩
  | 14 => ⟨S1x256x1024, .f32⟩
  | 15 => ⟨S1024, .f32⟩
  | 16 => ⟨S8x2048x256, .f32⟩
  | 17 => ⟨S16384x8x128, .f32⟩
  | 18 => ⟨S8x2048x8x128, .f32⟩
  | 19 => ⟨S128x8x64, .f32⟩
  | 20 => ⟨S8x64x8x2048, .f32⟩
  | 21 => ⟨S8x2048x8x64, .f32⟩
  | 22 => ⟨S8x2048x512, .f32⟩
  | 23 => ⟨S8x2048x512, .f32⟩
  | 24 => ⟨S512, .f32⟩
  | 25 => ⟨S8x2048x512, .f32⟩
  | 26 => ⟨S_, .f32⟩
  | 27 => ⟨S8x2048, .f32⟩
  | 28 => ⟨S8x2048x1, .f32⟩
  | 29 => ⟨S_, .f32⟩
  | 30 => ⟨S8x2048x1, .f32⟩
  | 31 => ⟨S8x2048x1, .f32⟩
  | 32 => ⟨S_, .f32⟩
  | 33 => ⟨S8x2048x1, .f32⟩
  | 34 => ⟨S8x2048x1, .f32⟩
  | 35 => ⟨S8x2048x1, .f32⟩
  | 36 => ⟨S8x2048x512, .f32⟩
  | 37 => ⟨S8x2048x512, .f32⟩
  | 38 => ⟨S1x1x512, .f32⟩
  | 39 => ⟨S8x2048x512, .f32⟩
  | 40 => ⟨S8x2048x512, .f32⟩
  | 41 => ⟨S512, .f32⟩
  | 42 => ⟨S8x2048x512, .f32⟩
  | 43 => ⟨S_, .f32⟩
  | 44 => ⟨S8x2048, .f32⟩
  | 45 => ⟨S8x2048x1, .f32⟩
  | 46 => ⟨S_, .f32⟩
  | 47 => ⟨S8x2048x1, .f32⟩
  | 48 => ⟨S8x2048x1, .f32⟩
  | 49 => ⟨S_, .f32⟩
  | 50 => ⟨S8x2048x1, .f32⟩
  | 51 => ⟨S8x2048x1, .f32⟩
  | 52 => ⟨S8x2048x1, .f32⟩
  | 53 => ⟨S8x2048x512, .f32⟩
  | 54 => ⟨S8x2048x512, .f32⟩
  | 55 => ⟨S1x1x512, .f32⟩
  | 56 => ⟨S8x2048x512, .f32⟩
  | 57 => ⟨S8x2048x512, .f32⟩
  | 58 => ⟨S8x2048x1024, .f32⟩
  | 59 => ⟨S1024x1024, .f32⟩
  | 60 => ⟨S8x2048x1024, .f32⟩
  | 61 => ⟨S8x2048x1024, .f32⟩
  | 62 => ⟨S1024, .f32⟩
  | 63 => ⟨S8x2048x1024, .f32⟩
  | 64 => ⟨S_, .f32⟩
  | 65 => ⟨S8x2048, .f32⟩
  | 66 => ⟨S8x2048x1, .f32⟩
  | 67 => ⟨S_, .f32⟩
  | 68 => ⟨S8x2048x1, .f32⟩
  | 69 => ⟨S8x2048x1, .f32⟩
  | 70 => ⟨S_, .f32⟩
  | 71 => ⟨S8x2048x1, .f32⟩
  | 72 => ⟨S8x2048x1, .f32⟩
  | 73 => ⟨S8x2048x1, .f32⟩
  | 74 => ⟨S8x2048x1024, .f32⟩
  | 75 => ⟨S8x2048x1024, .f32⟩
  | 76 => ⟨S1x1x1024, .f32⟩
  | 77 => ⟨S8x2048x1024, .f32⟩
  | 78 => ⟨S8x2048x1024, .f32⟩
  | 79 => ⟨S1024x2816, .f32⟩
  | 80 => ⟨S8x2048x2816, .f32⟩
  | 81 => ⟨S8x2048x2816, .f32⟩
  | 82 => ⟨S8x2048x2816, .f32⟩
  | 83 => ⟨S_, .f32⟩
  | 84 => ⟨S8x2048x2816, .f32⟩
  | 85 => ⟨S8x2048x2816, .f32⟩
  | 86 => ⟨S_, .f32⟩
  | 87 => ⟨S8x2048x2816, .f32⟩
  | 88 => ⟨S8x2048x2816, .f32⟩
  | 89 => ⟨S8x2048x2816, .f32⟩
  | 90 => ⟨S1024x2816, .f32⟩
  | 91 => ⟨S8x2048x2816, .f32⟩
  | 92 => ⟨S8x2048x2816, .f32⟩
  | 93 => ⟨S2816x1024, .f32⟩
  | 94 => ⟨S8x2048x1024, .f32⟩
  | 95 => ⟨S8x2048x1024, .f32⟩
  | 96 => ⟨S1024, .f32⟩
  | 97 => ⟨S8x2048x1024, .f32⟩
  | 98 => ⟨S_, .f32⟩
  | 99 => ⟨S8x2048, .f32⟩
  | 100 => ⟨S8x2048x1, .f32⟩
  | 101 => ⟨S_, .f32⟩
  | 102 => ⟨S8x2048x1, .f32⟩
  | 103 => ⟨S8x2048x1, .f32⟩
  | 104 => ⟨S_, .f32⟩
  | 105 => ⟨S8x2048x1, .f32⟩
  | 106 => ⟨S8x2048x1, .f32⟩
  | 107 => ⟨S8x2048x1, .f32⟩
  | 108 => ⟨S8x2048x1024, .f32⟩
  | 109 => ⟨S8x2048x1024, .f32⟩
  | 110 => ⟨S1x1x1024, .f32⟩
  | 111 => ⟨S8x2048x1024, .f32⟩
  | 112 => ⟨S8x2048x1024, .f32⟩
  | 113 => ⟨S1024x1024, .f32⟩
  | 114 => ⟨S8x2048x1024, .f32⟩
  | 115 => ⟨S8x2048x1024, .f32⟩
  | 116 => ⟨S8x2048x1024, .f32⟩
  | 117 => ⟨S_, .f32⟩
  | 118 => ⟨S8x2048x1024, .f32⟩
  | 119 => ⟨S8x2048x1024, .f32⟩
  | 120 => ⟨S_, .f32⟩
  | 121 => ⟨S8x2048x1024, .f32⟩
  | 122 => ⟨S8x2048x1024, .f32⟩
  | 123 => ⟨S256x1024, .f32⟩
  | 124 => ⟨S8x2048x1024, .f32⟩
  | 125 => ⟨S8x2048x1024, .f32⟩
  | 126 => ⟨S8x2048x1024, .f32⟩
  | 127 => ⟨S8x2048x1024, .f32⟩
  | _ => ⟨S8x2048x1024, .f32⟩

abbrev hbmTy0_1 (i : Nat) : BufTy := match i % 128 with
  | 0 => ⟨S_, .f32⟩
  | 1 => ⟨S8x2048, .f32⟩
  | 2 => ⟨S8x2048x1, .f32⟩
  | 3 => ⟨S_, .f32⟩
  | 4 => ⟨S8x2048x1, .f32⟩
  | 5 => ⟨S8x2048x1, .f32⟩
  | 6 => ⟨S_, .f32⟩
  | 7 => ⟨S8x2048x1, .f32⟩
  | 8 => ⟨S8x2048x1, .f32⟩
  | 9 => ⟨S8x2048x1, .f32⟩
  | 10 => ⟨S8x2048x1024, .f32⟩
  | 11 => ⟨S8x2048x1024, .f32⟩
  | 12 => ⟨S1x1x1024, .f32⟩
  | 13 => ⟨S8x2048x1024, .f32⟩
  | 14 => ⟨S8x2048x1024, .f32⟩
  | 15 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call0_v0 : Ref sig .tc := ⟨.hbm, 81, rfl⟩
abbrev main_call0_v1 : Ref sig .tc := ⟨.hbm, 82, rfl⟩
abbrev main_call0_cst : Ref sig .tc := ⟨.hbm, 83, rfl⟩
abbrev main_call0_v2 : Ref sig .tc := ⟨.hbm, 84, rfl⟩
abbrev main_call0_v3 : Ref sig .tc := ⟨.hbm, 85, rfl⟩
abbrev main_call0_cst_0 : Ref sig .tc := ⟨.hbm, 86, rfl⟩
abbrev main_call0_v4 : Ref sig .tc := ⟨.hbm, 87, rfl⟩
abbrev main_call0_v5 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_8 : Ref sig .tc := ⟨.hbm, 98, rfl⟩
abbrev main_v65 : Ref sig .tc := ⟨.hbm, 99, rfl⟩
abbrev main_v66 : Ref sig .tc := ⟨.hbm, 100, rfl⟩
abbrev main_cst_9 : Ref sig .tc := ⟨.hbm, 101, rfl⟩
abbrev main_v67 : Ref sig .tc := ⟨.hbm, 102, rfl⟩
abbrev main_v68 : Ref sig .tc := ⟨.hbm, 103, rfl⟩
abbrev main_cst_10 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_11 : Ref sig .tc := ⟨.hbm, 117, rfl⟩
abbrev main_v81 : Ref sig .tc := ⟨.hbm, 118, rfl⟩
abbrev main_v82 : Ref sig .tc := ⟨.hbm, 119, rfl⟩
abbrev main_cst_12 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_13 : Ref sig .tc := ⟨.hbm, 128, rfl⟩
abbrev main_v90 : Ref sig .tc := ⟨.hbm, 129, rfl⟩
abbrev main_v91 : Ref sig .tc := ⟨.hbm, 130, rfl⟩
abbrev main_cst_14 : Ref sig .tc := ⟨.hbm, 131, rfl⟩
abbrev main_v92 : Ref sig .tc := ⟨.hbm, 132, rfl⟩
abbrev main_v93 : Ref sig .tc := ⟨.hbm, 133, rfl⟩
abbrev main_cst_15 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x8x64 : Shape := ⟨3, ![128, 8, 64]⟩
abbrev S_ : Shape := ⟨0, ![]⟩
abbrev S1024x96 : Shape := ⟨2, ![1024, 96]⟩
abbrev S1024x2048 : Shape := ⟨2, ![1024, 2048]⟩
abbrev S256x8x96 : Shape := ⟨3, ![256, 8, 96]⟩
abbrev S256x8x64 : Shape := ⟨3, ![256, 8, 64]⟩
abbrev S256x512 : Shape := ⟨2, ![256, 512]⟩
abbrev S256x8x32 : Shape := ⟨3, ![256, 8, 32]⟩
abbrev S256x8x128 : Shape := ⟨3, ![256, 8, 128]⟩
abbrev S256x1024 : Shape := ⟨2, ![256, 1024]⟩
abbrev S8x64x128 : Shape := ⟨3, ![8, 64, 128]⟩
abbrev S8x8 : Shape := ⟨2, ![8, 8]⟩
abbrev S8x1x8x1 : Shape := ⟨4, ![8, 1, 8, 1]⟩
abbrev S8x64x1x128 : Shape := ⟨4, ![8, 64, 1, 128]⟩
abbrev S8x64x8x128 : Shape := ⟨4, ![8, 64, 8, 128]⟩
abbrev S512x1024 : Shape := ⟨2, ![512, 1024]⟩
abbrev S1x1024 : Shape := ⟨2, ![1, 1024]⟩
abbrev S1x256 : Shape := ⟨2, ![1, 256]⟩
abbrev S1x128 : Shape := ⟨2, ![1, 128]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S16384x1024 : Shape := ⟨2, ![16384, 1024]⟩
abbrev S16384x512 : Shape := ⟨2, ![16384, 512]⟩
abbrev S8x16384x256 : Shape := ⟨3, ![8, 16384, 256]⟩
abbrev S16384x128 : Shape := ⟨2, ![16384, 128]⟩
abbrev S16384x32 : Shape := ⟨2, ![16384, 32]⟩
abbrev S16384x256 : Shape := ⟨2, ![16384, 256]⟩
abbrev S512x128 : Shape := ⟨2, ![512, 128]⟩
abbrev S512x512 : Shape := ⟨2, ![512, 512]⟩
abbrev S8x512x256 : Shape := ⟨3, ![8, 512, 256]⟩
abbrev S512x32 : Shape := ⟨2, ![512, 32]⟩
abbrev S512x256 : Shape := ⟨2, ![512, 256]⟩
abbrev S512 : Shape := ⟨1, ![512]⟩
abbrev S512x1 : Shape := ⟨2, ![512, 1]⟩
abbrev S512x2048 : Shape := ⟨2, ![512, 2048]⟩
abbrev S1x512x256 : Shape := ⟨3, ![1, 512, 256]⟩

abbrev nBuf : Space → Nat
  | .hbm => 73
  | .vmem => 31
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1952, .f32⟩
  | .hbm, ⟨3, _⟩ => ⟨S256, .f32⟩
  | .hbm, ⟨4, _⟩ => ⟨S256x768, .f32⟩
  | .hbm, ⟨5, _⟩ => ⟨S128, .f32⟩
  | .hbm, ⟨6, _⟩ => ⟨S128x8x64, .f32⟩
  | .hbm, ⟨7, _⟩ => ⟨S_, .f32⟩
  | .hbm, ⟨8, _⟩ => ⟨S1024x96, .f32⟩
  | .hbm, ⟨9, _⟩ => ⟨S1024x2048, .f32⟩
  | .hbm, ⟨10, _⟩ => ⟨S256x8x96, .f32⟩
  | .hbm, ⟨11, _⟩ => ⟨S256x8x64, .f32⟩
  | .hbm, ⟨12, _⟩ => ⟨S256x512, .f32⟩
  | .hbm, ⟨13, _⟩ => ⟨S256x8x32, .f32⟩
  | .hbm, ⟨14, _⟩ => ⟨S_, .f32⟩
  | .hbm, ⟨15, _⟩ => ⟨S256x8x96, .f32⟩
  | .hbm, ⟨16, _⟩ => ⟨S256x8x128, .f32⟩
  | .hbm, ⟨17, _⟩ => ⟨S256x1024, .f32⟩
  | .hbm, ⟨18, _⟩ => ⟨S8x64x128, .f32⟩
  | .hbm, ⟨19, _⟩ => ⟨S8x8, .i32⟩
  | .hbm, ⟨20, _⟩ => ⟨S8x8, .i32⟩
  | .hbm, ⟨21, _⟩ => ⟨S_, .i32⟩
  | .hbm, ⟨22, _⟩ => ⟨S8x8, .i32⟩
  | .hbm, ⟨23, _⟩ => ⟨S8x8, .i32⟩
  | .hbm, ⟨24, _⟩ => ⟨S8x8, .i1⟩
  | .hbm, ⟨25, _⟩ => ⟨S8x8, .f32⟩
  | .hbm, ⟨26, _⟩ => ⟨S8x1x8x1, .f32⟩
  | .hbm, ⟨27, _⟩ => ⟨S8x64x1x128, .f32⟩
  | .hbm, ⟨28, _⟩ => ⟨S8x64x8x128, .f32⟩
  | .hbm, ⟨29, _⟩ => ⟨S8x64x8x128, .f32⟩
  | .hbm, ⟨30, _⟩ => ⟨S8x64x8x128, .f32⟩
  | .hbm, ⟨31, _⟩ => ⟨S512x1024, .f32⟩
  | .hbm, ⟨32, _⟩ => ⟨S1x1024, .f32⟩
  | .hbm, ⟨33, _⟩ => ⟨S1024x2048, .bf16⟩
  | .hbm, ⟨34, _⟩ => ⟨S1x256, .f32⟩
  | .hbm, ⟨35, _⟩ => ⟨S256x512, .bf16⟩
  | .hbm, ⟨36, _⟩ => ⟨S256x1024, .bf16⟩
  | .hbm, ⟨37, _⟩ => ⟨S512x1024, .bf16⟩
  | .hbm, ⟨38, _⟩ => ⟨S1x128, .f32⟩
  | .hbm, ⟨39, _⟩ => ⟨S2048, .i32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S2048, .f32⟩
  | .hbm, ⟨51, _⟩ => ⟨S2048x1, .f32⟩
  | .hbm, ⟨52, _⟩ => ⟨S1x16, .f32⟩
  | .hbm, ⟨53, _⟩ => ⟨S2048x16, .f32⟩
  | .hbm, ⟨54, _⟩ => ⟨S2048x16, .f32⟩
  | .hbm, ⟨55, _⟩ => ⟨S2048x16, .f32⟩
  | .hbm, ⟨56, _⟩ => ⟨S2048x16, .f32⟩
  | .hbm, ⟨57, _⟩ => ⟨S2048x16, .f32⟩
  | .hbm, ⟨58, _⟩ => ⟨S_, .f32⟩
  | .hbm, ⟨59, _⟩ => ⟨S2048x96, .f32⟩
  | .hbm, ⟨60, _⟩ => ⟨S2048x128, .f32⟩
  | .hbm, ⟨61, _⟩ => ⟨S2048x16, .f32⟩
  | .hbm, ⟨62, _⟩ => ⟨S2048x128, .f32⟩
  | .hbm, ⟨63, _⟩ => ⟨S16384x1024, .f32⟩
  | .hbm, ⟨64, _⟩ => ⟨S16384x512, .bf16⟩
  | .hbm, ⟨65, _⟩ => ⟨S16384x512, .f32⟩
  | .hbm, ⟨66, _⟩ => ⟨S16384x512, .f32⟩
  | .hbm, ⟨67, _⟩ => ⟨S16384x512, .bf16⟩
  | .hbm, ⟨68, _⟩ => ⟨S16384x512, .bf16⟩
  | .hbm, ⟨69, _⟩ => ⟨S8x16384x256, .bf16⟩
  | .hbm, ⟨70, _⟩ => ⟨S16384x128, .f32⟩
  | .hbm, ⟨71, _⟩ => ⟨S16384x32, .f32⟩
  | .hbm, ⟨72, _⟩ => ⟨S16384x256, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1024x2048, .bf16⟩
  | .local _ .vmem, ⟨8, _⟩ => ⟨S1x256, .f32⟩
  | .local _ .vmem, ⟨9, _⟩ => ⟨S256x512, .bf16⟩
  | .local _ .vmem, ⟨10, _⟩ => ⟨S256x1024, .bf16⟩
  | .local _ .vmem, ⟨11, _⟩ => ⟨S512x1024, .bf16⟩
  | .local _ .vmem, ⟨12, _⟩ => ⟨S1x128, .f32⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S8x512x256, .bf16⟩
  | .local _ .vmem, ⟨24, _⟩ => ⟨S8x512x256, .bf16⟩
  | .local _ .vmem, ⟨25, _⟩ => ⟨S512x128, .f32⟩
  | .local _ .vmem, ⟨26, _⟩ => ⟨S512x128, .f32⟩
  | .local _ .vmem, ⟨27, _⟩ => ⟨S512x32, .f32⟩
  | .local _ .vmem, ⟨28, _⟩ => ⟨S512x32, .f32⟩
  | .local _ .vmem, ⟨29, _⟩ => ⟨S512x256, .bf16⟩
  | .local _ .vmem, ⟨30, _⟩ => ⟨S512x256, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50_0 : Ref sig .tc := ⟨.hbm, 64, rfl⟩
abbrev main_v50_1 : Ref sig .tc := ⟨.hbm, 65, rfl⟩
abbrev main_v50_2 : Ref sig .tc := ⟨.hbm, 66, rfl⟩
abbrev main_v50_3 : Ref sig .tc := ⟨.hbm, 67, rfl⟩
abbrev main_v50_4 : Ref sig .tc := ⟨.hbm, 68, rfl⟩
abbrev main_v50_5 : Ref sig .tc := ⟨.hbm, 69, rfl⟩
abbrev main_v50_6 : Ref sig .tc := ⟨.hbm, 70, rfl⟩
abbrev main_v50_7 : Ref sig .tc := ⟨.hbm, 71, rfl⟩
abbrev main_v50_8 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S8x2048x1024 : Shape := ⟨3, ![8, 2048, 1024]⟩
abbrev S1024 : Shape := ⟨1, ![1024]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x8x64 : Shape := ⟨3, ![128, 8, 64]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S2048 : Shape := ⟨1, ![2048]⟩
abbrev S8x2048x1952 : Shape := ⟨3, ![8, 2048, 1952]⟩
abbrev S8x2048x512 : Shape := ⟨3, ![8, 2048, 512]⟩
abbrev S8x2048x256 : Shape := ⟨3, ![8, 2048, 256]⟩
abbrev S8x2048x128 : Shape := ⟨3, ![8, 2048, 128]⟩
abbrev S8x2048x32 : Shape := ⟨3, ![8, 2048, 32]⟩
abbrev S8x2048x8x64 : Shape := ⟨4, ![8, 2048, 8, 64]⟩
abbrev S1x1x256 : Shape := ⟨3, ![1, 1, 256]⟩
abbrev S8x2048x768 : Shape := ⟨3, ![8, 2048, 768]⟩
abbrev S8x2048x8x96 : Shape := ⟨4, ![8, 2048, 8, 96]⟩
abbrev S8x2048x8x32 : Shape := ⟨4, ![8, 2048, 8, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S8x2048x8x16 : Shape := ⟨4, ![8, 2048, 8, 16]⟩
abbrev S8x128x8x2048 : Shape := ⟨4, ![8, 128, 8, 2048]⟩
abbrev S8x2048x8x128 : Shape := ⟨4, ![8, 2048, 8, 128]⟩
abbrev S1x1x128 : Shape := ⟨3, ![1, 1, 128]⟩
abbrev S8x2048x1x32 : Shape := ⟨4, ![8, 2048, 1, 32]⟩
abbrev S8x2048x1x16 : Shape := ⟨4, ![8, 2048, 1, 16]⟩
abbrev S8x2048x8x160 : Shape := ⟨4, ![8, 2048, 8, 160]⟩
abbrev S8x2048x8x256 : Shape := ⟨4, ![8, 2048, 8, 256]⟩
abbrev S8x8x2048x256 : Shape := ⟨4, ![8, 8, 2048, 256]⟩
abbrev S8x16384x256 : Shape := ⟨3, ![8, 16384, 256]⟩
abbrev S8x2048x160 : Shape := ⟨3, ![8, 2048, 160]⟩
abbrev S8x2048x96 : Shape := ⟨3, ![8, 2048, 96]⟩
abbrev S16384x256 : Shape := ⟨2, ![16384, 256]⟩
abbrev S16384x512 : Shape := ⟨2, ![16384, 512]⟩
abbrev S16384x128 : Shape := ⟨2, ![16384, 128]⟩
abbrev S16384x32 : Shape := ⟨2, ![16384, 32]⟩

abbrev nBuf : Space → Nat
  | .hbm => 166
  | .vmem => 0
  | .smem => 0
  | _ => 0

abbrev hbmTy0_0 (i : Nat) : BufTy := match i % 128 with
  | 0 => ⟨S8x2048x1024, .f32⟩
  | 1 => ⟨S1024, .f32⟩
  | 2 => ⟨S1024x1952, .f32⟩
  | 3 => ⟨S256, .f32⟩
  | 4 => ⟨S256x768, .f32⟩
  | 5 => ⟨S128, .f32⟩
  | 6 => ⟨S128x8x64, .f32⟩
  | 7 => ⟨S8x2048x1024, .f32⟩
  | 8 => ⟨S_, .f32⟩
  | 9 => ⟨S8x2048, .f32⟩
  | 10 => ⟨S8x2048x1, .f32⟩
  | 11 => ⟨S_, .f32⟩
  | 12 => ⟨S8x2048x1, .f32⟩
  | 13 => ⟨S8x2048x1, .f32⟩
  | 14 => ⟨S_, .f32⟩
  | 15 => ⟨S8x2048x1, .f32⟩
  | 16 => ⟨S8x2048x1, .f32⟩
  | 17 => ⟨S8x2048x1, .f32⟩
  | 18 => ⟨S8x2048x1024, .f32⟩
  | 19 => ⟨S8x2048x1024, .f32⟩
  | 20 => ⟨S1x1x1024, .f32⟩
  | 21 => ⟨S8x2048x1024, .f32⟩
  | 22 => ⟨S8x2048x1024, .f32⟩
  | 23 => ⟨S2048, .i32⟩
  | 24 => ⟨S8x2048x1952, .f32⟩
  | 25 => ⟨S8x2048x512, .f32⟩
  | 26 => ⟨S8x2048x512, .f32⟩
  | 27 => ⟨S8x2048x512, .f32⟩
  | 28 => ⟨S8x2048x256, .f32⟩
  | 29 => ⟨S8x2048x128, .f32⟩
  | 30 => ⟨S8x2048x32, .f32⟩
  | 31 => ⟨S8x2048x8x64, .f32⟩
  | 32 => ⟨S8x2048x8x64, .f32⟩
  | 33 => ⟨S8x2048x8x64, .f32⟩
  | 34 => ⟨S8x2048x256, .f32⟩
  | 35 => ⟨S_, .f32⟩
  | 36 => ⟨S8x2048, .f32⟩
  | 37 => ⟨S8x2048x1, .f32⟩
  | 38 => ⟨S_, .f32⟩
  | 39 => ⟨S8x2048x1, .f32⟩
  | 40 => ⟨S8x2048x1, .f32⟩
  | 41 => ⟨S_, .f32⟩
  | 42 => ⟨S8x2048x1, .f32⟩
  | 43 => ⟨S8x2048x1, .f32⟩
  | 44 => ⟨S8x2048x1, .f32⟩
  | 45 => ⟨S8x2048x256, .f32⟩
  | 46 => ⟨S8x2048x256, .f32⟩
  | 47 => ⟨S1x1x256, .f32⟩
  | 48 => ⟨S8x2048x256, .f32⟩
  | 49 => ⟨S8x2048x256, .f32⟩
  | 50 => ⟨S8x2048x768, .f32⟩
  | 51 => ⟨S8x2048x8x96, .f32⟩
  | 52 => ⟨S8x2048x8x64, .f32⟩
  | 53 => ⟨S8x2048x8x32, .f32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S2048, .f32⟩
  | 65 => ⟨S2048x1, .f32⟩
  | 66 => ⟨S1x16, .f32⟩
  | 67 => ⟨S2048x16, .f32⟩
  | 68 => ⟨S2048x16, .f32⟩
  | 69 => ⟨S2048x16, .f32⟩
  | 70 => ⟨S2048x16, .f32⟩
  | 71 => ⟨S1x2048x1x16, .f32⟩
  | 72 => ⟨S2048x16, .f32⟩
  | 73 => ⟨S1x2048x1x16, .f32⟩
  | 74 => ⟨S8x2048x8x16, .f32⟩
  | 75 => ⟨S8x2048x8x16, .f32⟩
  | 76 => ⟨S8x2048x8x16, .f32⟩
  | 77 => ⟨S8x2048x8x16, .f32⟩
  | 78 => ⟨S8x2048x8x16, .f32⟩
  | 79 => ⟨S8x2048x8x16, .f32⟩
  | 80 => ⟨S8x2048x8x16, .f32⟩
  | 81 => ⟨S8x2048x8x16, .f32⟩
  | 82 => ⟨S8x2048x8x16, .f32⟩
  | 83 => ⟨S8x2048x8x16, .f32⟩
  | 84 => ⟨S8x2048x8x16, .f32⟩
  | 85 => ⟨S8x2048x8x16, .f32⟩
  | 86 => ⟨S8x2048x8x32, .f32⟩
  | 87 => ⟨S8x128x8x2048, .f32⟩
  | 88 => ⟨S8x2048x8x128, .f32⟩
  | 89 => ⟨S8x2048x128, .f32⟩
  | 90 => ⟨S_, .f32⟩
  | 91 => ⟨S8x2048, .f32⟩
  | 92 => ⟨S8x2048x1, .f32⟩
  | 93 => ⟨S_, .f32⟩
  | 94 => ⟨S8x2048x1, .f32⟩
  | 95 => ⟨S8x2048x1, .f32⟩
  | 96 => ⟨S_, .f32⟩
  | 97 => ⟨S8x2048x1, .f32⟩
  | 98 => ⟨S8x2048x1, .f32⟩
  | 99 => ⟨S8x2048x1, .f32⟩
  | 100 => ⟨S8x2048x128, .f32⟩
  | 101 => ⟨S8x2048x128, .f32⟩
  | 102 => ⟨S1x1x128, .f32⟩
  | 103 => ⟨S8x2048x128, .f32⟩
  | 104 => ⟨S8x2048x128, .f32⟩
  | 105 => ⟨S8x2048x1x32, .f32⟩
  | 106 => ⟨S16, .f32⟩
  | 107 => ⟨S_, .f32⟩
  | 108 => ⟨S16, .f32⟩
  | 109 => ⟨S16, .f32⟩
  | 110 => ⟨S_, .f32⟩
  | 111 => ⟨S16, .f32⟩
  | 112 => ⟨S16, .f32⟩
  | 113 => ⟨S_, .f32⟩
  | 114 => ⟨S16, .f32⟩
  | 115 => ⟨S16, .f32⟩
  | 116 => ⟨S2048, .f32⟩
  | 117 => ⟨S2048x1, .f32⟩
  | 118 => ⟨S1x16, .f32⟩
  | 119 => ⟨S2048x16, .f32⟩
  | 120 => ⟨S2048x16, .f32⟩
  | 121 => ⟨S2048x16, .f32⟩
  | 122 => ⟨S2048x16, .f32⟩
  | 123 => ⟨S1x2048x1x16, .f32⟩
  | 124 => ⟨S2048x16, .f32⟩
  | 125 => ⟨S1x2048x1x16, .f32⟩
  | 126 => ⟨S8x2048x1x16, .f32⟩
  | 127 => ⟨S8x2048x1x16, .f32⟩
  | _ => ⟨S8x2048x1024, .f32⟩

abbrev hbmTy0_1 (i : Nat) : BufTy := match i % 128 with
  | 0 => ⟨S8x2048x1x16, .f32⟩
  | 1 => ⟨S8x2048x1x16, .f32⟩
  | 2 => ⟨S8x2048x1x16, .f32⟩
  | 3 => ⟨S8x2048x1x16, .f32⟩
  | 4 => ⟨S8x2048x1x16, .f32⟩
  | 5 => ⟨S8x2048x1x16, .f32⟩
  | 6 => ⟨S8x2048x1x16, .f32⟩
  | 7 => ⟨S8x2048x1x16, .f32⟩
  | 8 => ⟨S8x2048x1x16, .f32⟩
  | 9 => ⟨S8x2048x1x16, .f32⟩
  | 10 => ⟨S8x2048x1x32, .f32⟩
  | 11 => ⟨S8x2048x32, .f32⟩
  | 12 => ⟨S8x2048x8x160, .f32⟩
  | 13 => ⟨S_, .f32⟩
  | 14 => ⟨S8x2048x8x96, .f32⟩
  | 15 => ⟨S8x2048x8x256, .f32⟩
  | 16 => ⟨S8x8x2048x256, .f32⟩
  | 17 => ⟨S8x16384x256, .f32⟩
  | 18 => ⟨S8x2048x160, .f32⟩
  | 19 => ⟨S_, .f32⟩
  | 20 => ⟨S8x2048x96, .f32⟩
  | 21 => ⟨S8x2048x256, .f32⟩
  | 22 => ⟨S16384x256, .f32⟩
  | 23 => ⟨S_, .f32⟩
  | 24 => ⟨S8x2048x8x64, .f32⟩
  | 25 => ⟨S8x2048x8x64, .f32⟩
  | 26 => ⟨S16384x512, .f32⟩
  | 27 => ⟨S16384x512, .bf16⟩
  | 28 => ⟨S16384x512, .f32⟩
  | 29 => ⟨S16384x512, .f32⟩
  | 30 => ⟨S16384x512, .f32⟩
  | 31 => ⟨S16384x512, .bf16⟩
  | 32 => ⟨S16384x512, .f32⟩
  | 33 => ⟨S16384x512, .bf16⟩
  | 34 => ⟨S8x16384x256, .bf16⟩
  | 35 => ⟨S16384x128, .f32⟩
  | 36 => ⟨S16384x32, .f32⟩
  | 37 => ⟨S16384x256, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_8 : Ref sig .tc := ⟨.hbm, 90, rfl⟩
abbrev main_v74 : Ref sig .tc := ⟨.hbm, 91, rfl⟩
abbrev main_v75 : Ref sig .tc := ⟨.hbm, 92, rfl⟩
abbrev main_cst_9 : Ref sig .tc := ⟨.hbm, 93, rfl⟩
abbrev main_v76 : Ref sig .tc := ⟨.hbm, 94, rfl⟩
abbrev main_v77 : Ref sig .tc := ⟨.hbm, 95, rfl⟩
abbrev main_cst_10 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_11 : Ref sig .tc := ⟨.hbm, 107, rfl⟩
abbrev main_v88 : Ref sig .tc := ⟨.hbm, 108, rfl⟩
abbrev main_v89 : Ref sig .tc := ⟨.hbm, 109, rfl⟩
abbrev main_cst_12 : Ref sig .tc := ⟨.hbm, 110, rfl⟩
abbrev main_v90 : Ref sig .tc := ⟨.hbm, 111, rfl⟩
abbrev main_v91 : Ref sig .tc := ⟨.hbm, 112, rfl⟩
abbrev main_cst_13 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_cst_14 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_cst_15 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_cst_16 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩

abbrev nD : Nat := 1
abbrev τ : Topo := Topo.v7x

variable {F : FTy → Type} [FloatOps F]
-- ==== Kernel4.lean ====
abbrev S128x8x1024 : Shape := ⟨3, ![128, 8, 1024]⟩
abbrev S1024 : Shape := ⟨1, ![1024]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x8x64 : Shape := ⟨3, ![128, 8, 64]⟩
abbrev S_ : Shape := ⟨0, ![]⟩
abbrev S1024x96 : Shape := ⟨2, ![1024, 96]⟩
abbrev S1024x2048 : Shape := ⟨2, ![1024, 2048]⟩
abbrev S256x8x96 : Shape := ⟨3, ![256, 8, 96]⟩
abbrev S256x8x64 : Shape := ⟨3, ![256, 8, 64]⟩
abbrev S256x512 : Shape := ⟨2, ![256, 512]⟩
abbrev S256x8x32 : Shape := ⟨3, ![256, 8, 32]⟩
abbrev S256x8x128 : Shape := ⟨3, ![256, 8, 128]⟩
abbrev S256x1024 : Shape := ⟨2, ![256, 1024]⟩
abbrev S8x64x128 : Shape := ⟨3, ![8, 64, 128]⟩
abbrev S8x8 : Shape := ⟨2, ![8, 8]⟩
abbrev S8x1x8x1 : Shape := ⟨4, ![8, 1, 8, 1]⟩
abbrev S8x64x1x128 : Shape := ⟨4, ![8, 64, 1, 128]⟩
abbrev S8x64x8x128 : Shape := ⟨4, ![8, 64, 8, 128]⟩
abbrev S512x1024 : Shape := ⟨2, ![512, 1024]⟩
abbrev S1x1024 : Shape := ⟨2, ![1, 1024]⟩
abbrev S1x256 : Shape := ⟨2, ![1, 256]⟩
abbrev S1x128 : Shape := ⟨2, ![1, 128]⟩
abbrev S512 : Shape := ⟨1, ![512]⟩
abbrev S16 : Shape := ⟨1, ![16]⟩
abbrev S512x1 : Shape := ⟨2, ![512, 1]⟩
abbrev S1x16 : Shape := ⟨2, ![1, 16]⟩
abbrev S512x16 : Shape := ⟨2, ![512, 16]⟩
abbrev S512x96 : Shape := ⟨2, ![512, 96]⟩
abbrev S512x128 : Shape := ⟨2, ![512, 128]⟩
abbrev S1024x1024 : Shape := ⟨2, ![1024, 1024]⟩
abbrev S1024x512 : Shape := ⟨2, ![1024, 512]⟩
abbrev S8x1024x256 : Shape := ⟨3, ![8, 1024, 256]⟩
abbrev S1024x128 : Shape := ⟨2, ![1024, 128]⟩
abbrev S1024x32 : Shape := ⟨2, ![1024, 32]⟩
abbrev S1024x256 : Shape := ⟨2, ![1024, 256]⟩
abbrev S512x512 : Shape := ⟨2, ![512, 512]⟩
abbrev S8x512x256 : Shape := ⟨3, ![8, 512, 256]⟩
abbrev S512x32 : Shape := ⟨2, ![512, 32]⟩
abbrev S512x256 : Shape := ⟨2, ![512, 256]⟩
abbrev S512x2048 : Shape := ⟨2, ![512, 2048]⟩
abbrev S1x512x256 : Shape := ⟨3, ![1, 512, 256]⟩

abbrev nBuf : Space → Nat
  | .hbm => 98
  | .vmem => 29
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x1952, .f32⟩
  | .hbm, ⟨3, _⟩ => ⟨S256, .f32⟩
  | .hbm, ⟨4, _⟩ => ⟨S256x768, .f32⟩
  | .hbm, ⟨5, _⟩ => ⟨S128, .f32⟩
  | .hbm, ⟨6, _⟩ => ⟨S128x8x64, .f32⟩
  | .hbm, ⟨7, _⟩ => ⟨S_, .f32⟩
  | .hbm, ⟨8, _⟩ => ⟨S1024x96, .f32⟩
  | .hbm, ⟨9, _⟩ => ⟨S1024x2048, .f32⟩
  | .hbm, ⟨10, _⟩ => ⟨S256x8x96, .f32⟩
  | .hbm, ⟨11, _⟩ => ⟨S256x8x64, .f32⟩
  | .hbm, ⟨12, _⟩ => ⟨S256x512, .f32⟩
  | .hbm, ⟨13, _⟩ => ⟨S256x8x32, .f32⟩
  | .hbm, ⟨14, _⟩ => ⟨S_, .f32⟩
  | .hbm, ⟨15, _⟩ => ⟨S256x8x96, .f32⟩
  | .hbm, ⟨16, _⟩ => ⟨S256x8x128, .f32⟩
  | .hbm, ⟨17, _⟩ => ⟨S256x1024, .f32⟩
  | .hbm, ⟨18, _⟩ => ⟨S8x64x128, .f32⟩
  | .hbm, ⟨19, _⟩ => ⟨S8x8, .i32⟩
  | .hbm, ⟨20, _⟩ => ⟨S8x8, .i32⟩
  | .hbm, ⟨21, _⟩ => ⟨S_, .i32⟩
  | .hbm, ⟨22, _⟩ => ⟨S8x8, .i32⟩
  | .hbm, ⟨23, _⟩ => ⟨S8x8, .i32⟩
  | .hbm, ⟨24, _⟩ => ⟨S8x8, .i1⟩
  | .hbm, ⟨25, _⟩ => ⟨S8x8, .f32⟩
  | .hbm, ⟨26, _⟩ => ⟨S8x1x8x1, .f32⟩
  | .hbm, ⟨27, _⟩ => ⟨S8x64x1x128, .f32⟩
  | .hbm, ⟨28, _⟩ => ⟨S8x64x8x128, .f32⟩
  | .hbm, ⟨29, _⟩ => ⟨S8x64x8x128, .f32⟩
  | .hbm, ⟨30, _⟩ => ⟨S8x64x8x128, .f32⟩
  | .hbm, ⟨31, _⟩ => ⟨S512x1024, .f32⟩
  | .hbm, ⟨32, _⟩ => ⟨S1x1024, .f32⟩
  | .hbm, ⟨33, _⟩ => ⟨S1024x2048, .bf16⟩
  | .hbm, ⟨34, _⟩ => ⟨S1x256, .f32⟩
  | .hbm, ⟨35, _⟩ => ⟨S256x512, .bf16⟩
  | .hbm, ⟨36, _⟩ => ⟨S256x1024, .bf16⟩
  | .hbm, ⟨37, _⟩ => ⟨S512x1024, .bf16⟩
  | .hbm, ⟨38, _⟩ => ⟨S1x128, .f32⟩
  | .hbm, ⟨39, _⟩ => ⟨S512, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S512, .i32⟩
  | .hbm, ⟨47, _⟩ => ⟨S512, .i32⟩
  | .hbm, ⟨48, _⟩ => ⟨S_, .i32⟩
  | .hbm, ⟨49, _⟩ => ⟨S512, .i32⟩
  | .hbm, ⟨50, _⟩ => ⟨S512, .i1⟩
  | .hbm, ⟨51, _⟩ => ⟨S_, .i32⟩
  | .hbm, ⟨52, _⟩ => ⟨S512, .i32⟩
  | .hbm, ⟨53, _⟩ => ⟨S512, .i1⟩
  | .hbm, ⟨54, _⟩ => ⟨S_, .i32⟩
  | .hbm, ⟨55, _⟩ => ⟨S_, .i1⟩
  | .hbm, ⟨56, _⟩ => ⟨S512, .i1⟩
  | .hbm, ⟨57, _⟩ => ⟨S512, .i1⟩
  | .hbm, ⟨58, _⟩ => ⟨S512, .i1⟩
  | .hbm, ⟨59, _⟩ => ⟨S512, .i32⟩
  | .hbm, ⟨60, _⟩ => ⟨S512, .i32⟩
  | .hbm, ⟨61, _⟩ => ⟨S512, .i32⟩
  | .hbm, ⟨62, _⟩ => ⟨S_, .i32⟩
  | .hbm, ⟨63, _⟩ => ⟨S512, .i32⟩
  | .hbm, ⟨64, _⟩ => ⟨S512, .i32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S512, .f32⟩
  | .hbm, ⟨76, _⟩ => ⟨S512x1, .f32⟩
  | .hbm, ⟨77, _⟩ => ⟨S1x16, .f32⟩
  | .hbm, ⟨78, _⟩ => ⟨S512x16, .f32⟩
  | .hbm, ⟨79, _⟩ => ⟨S512x16, .f32⟩
  | .hbm, ⟨80, _⟩ => ⟨S512x16, .f32⟩
  | .hbm, ⟨81, _⟩ => ⟨S512x16, .f32⟩
  | .hbm, ⟨82, _⟩ => ⟨S512x16, .f32⟩
  | .hbm, ⟨83, _⟩ => ⟨S_, .f32⟩
  | .hbm, ⟨84, _⟩ => ⟨S512x96, .f32⟩
  | .hbm, ⟨85, _⟩ => ⟨S512x128, .f32⟩
  | .hbm, ⟨86, _⟩ => ⟨S512x16, .f32⟩
  | .hbm, ⟨87, _⟩ => ⟨S512x128, .f32⟩
  | .hbm, ⟨88, _⟩ => ⟨S1024x1024, .f32⟩
  | .hbm, ⟨89, _⟩ => ⟨S1024x512, .f32⟩
  | .hbm, ⟨90, _⟩ => ⟨S1024x512, .f32⟩
  | .hbm, ⟨91, _⟩ => ⟨S1024x512, .f32⟩
  | .hbm, ⟨92, _⟩ => ⟨S1024x512, .bf16⟩
  | .hbm, ⟨93, _⟩ => ⟨S1024x512, .bf16⟩
  | .hbm, ⟨94, _⟩ => ⟨S8x1024x256, .f32⟩
  | .hbm, ⟨95, _⟩ => ⟨S1024x128, .f32⟩
  | .hbm, ⟨96, _⟩ => ⟨S1024x32, .f32⟩
  | .hbm, ⟨97, _⟩ => ⟨S1024x256, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S1x1024, .f32⟩
  | .local _ .vmem, ⟨5, _⟩ => ⟨S1024x2048, .bf16⟩
  | .local _ .vmem, ⟨6, _⟩ => ⟨S1x256, .f32⟩
  | .local _ .vmem, ⟨7, _⟩ => ⟨S256x512, .bf16⟩
  | .local _ .vmem, ⟨8, _⟩ => ⟨S256x1024, .bf16⟩
  | .local _ .vmem, ⟨9, _⟩ => ⟨S512x1024, .bf16⟩
  | .local _ .vmem, ⟨10, _⟩ => ⟨S1x128, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S8x512x256, .f32⟩
  | .local _ .vmem, ⟨22, _⟩ => ⟨S8x512x256, .f32⟩
  | .local _ .vmem, ⟨23, _⟩ => ⟨S512x128, .f32⟩
  | .local _ .vmem, ⟨24, _⟩ => ⟨S512x128, .f32⟩
  | .local _ .vmem, ⟨25, _⟩ => ⟨S512x32, .f32⟩
  | .local _ .vmem, ⟨26, _⟩ => ⟨S512x32, .f32⟩
  | .local _ .vmem, ⟨27, _⟩ => ⟨S512x256, .bf16⟩
  | .local _ .vmem, ⟨28, _⟩ => ⟨S512x256, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_1 : Ref sig .tc := ⟨.hbm, 40, rfl⟩
abbrev main_call0_v0 : Ref sig .tc := ⟨.hbm, 41, rfl⟩
abbrev main_call0_c : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_c_1 : Ref sig .tc := ⟨.hbm, 48, rfl⟩
abbrev main_call0_v5 : Ref sig .tc := ⟨.hbm, 49, rfl⟩
abbrev main_call0_v6 : Ref sig .tc := ⟨.hbm, 50, rfl⟩
abbrev main_call0_c_2 : Ref sig .tc := ⟨.hbm, 51, rfl⟩
abbrev main_call0_v7 : Ref sig .tc := ⟨.hbm, 52, rfl⟩
abbrev main_call0_v8 : Ref sig .tc := ⟨.hbm, 53, rfl⟩
abbrev main_call0_c_3 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_v12 : Ref sig .tc := ⟨.hbm, 58, rfl⟩
abbrev main_call0_v13 : Ref sig .tc := ⟨.hbm, 59, rfl⟩
abbrev main_call0_v14 : Ref sig .tc := ⟨.hbm, 60, rfl⟩
abbrev main_v30 : Ref sig .tc := ⟨.hbm, 61, rfl⟩
abbrev main_c_2 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_3 : Ref sig .tc := ⟨.hbm, 66, rfl⟩
abbrev main_v34 : Ref sig .tc := ⟨.hbm, 67, rfl⟩
abbrev main_v35 : Ref sig .tc := ⟨.hbm, 68, rfl⟩
abbrev main_cst_4 : Ref sig .tc := ⟨.hbm, 69, rfl⟩
abbrev main_v36 : Ref sig .tc := ⟨.hbm, 70, rfl⟩
abbrev main_v37 : Ref sig .tc := ⟨.hbm, 71, rfl⟩
abbrev main_cst_5 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_6 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53_0 : Ref sig .tc := ⟨.hbm, 89, rfl⟩
abbrev main_v53_1 : Ref sig .tc := ⟨.hbm, 90, rfl⟩
abbrev main_v53_2 : Ref sig .tc := ⟨.hbm, 91, rfl⟩
abbrev main_v53_3 : Ref sig .tc := ⟨.hbm, 92, rfl⟩
abbrev main_v53_4 : Ref sig .tc := ⟨.hbm, 93, rfl⟩
abbrev main_v53_5 : Ref sig .tc := ⟨.hbm, 94, rfl⟩
abbrev main_v53_6 : Ref sig .tc := ⟨.hbm, 95, rfl⟩
abbrev main_v53_7 : Ref sig .tc := ⟨.hbm, 96, rfl⟩
abbrev main_v53_8 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S128x8x1024 : Shape := ⟨3, ![128, 8, 1024]⟩
abbrev S1024 : Shape := ⟨1, ![1024]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x8x64 : Shape := ⟨3, ![128, 8, 64]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S8 : Shape := ⟨1, ![8]⟩
abbrev S128x8x1952 : Shape := ⟨3, ![128, 8, 1952]⟩
abbrev S128x8x512 : Shape := ⟨3, ![128, 8, 512]⟩
abbrev S128x8x256 : Shape := ⟨3, ![128, 8, 256]⟩
abbrev S128x8x128 : Shape := ⟨3, ![128, 8, 128]⟩
abbrev S128x8x32 : Shape := ⟨3, ![128, 8, 32]⟩
abbrev S128x8x8x64 : Shape := ⟨4, ![128, 8, 8, 64]⟩
abbrev S1x1x256 : Shape := ⟨3, ![1, 1, 256]⟩
abbrev S128x8x768 : Shape := ⟨3, ![128, 8, 768]⟩
abbrev S128x8x8x96 : Shape := ⟨4, ![128, 8, 8, 96]⟩
abbrev S128x8x8x32 : Shape := ⟨4, ![128, 8, 8, 32]⟩
abbrev S16 : Shape := ⟨1, ![16]⟩
abbrev S8x1 : Shape := ⟨2, ![8, 1]⟩
abbrev S1x16 : Shape := ⟨2, ![1, 16]⟩
abbrev S8x16 : Shape := ⟨2, ![8, 16]⟩
abbrev S1x8x1x16 : Shape := ⟨4, ![1, 8, 1, 16]⟩
abbrev S128x8x8x16 : Shape := ⟨4, ![128, 8, 8, 16]⟩
abbrev S8x128x128x8 : Shape := ⟨4, ![8, 128, 128, 8]⟩
abbrev S128x8x8x128 : Shape := ⟨4, ![128, 8, 8, 128]⟩
abbrev S1x1x128 : Shape := ⟨3, ![1, 1, 128]⟩
abbrev S128x8x1x32 : Shape := ⟨4, ![128, 8, 1, 32]⟩
abbrev S128x8x1x16 : Shape := ⟨4, ![128, 8, 1, 16]⟩
abbrev S128x8x8x160 : Shape := ⟨4, ![128, 8, 8, 160]⟩
abbrev S128x8x8x256 : Shape := ⟨4, ![128, 8, 8, 256]⟩
abbrev S8x128x8x256 : Shape := ⟨4, ![8, 128, 8, 256]⟩
abbrev S8x1024x256 : Shape := ⟨3, ![8, 1024, 256]⟩
abbrev S128x8x160 : Shape := ⟨3, ![128, 8, 160]⟩
abbrev S128x8x96 : Shape := ⟨3, ![128, 8, 96]⟩
abbrev S1024x256 : Shape := ⟨2, ![1024, 256]⟩
abbrev S1024x512 : Shape := ⟨2, ![1024, 512]⟩
abbrev S1024x128 : Shape := ⟨2, ![1024, 128]⟩
abbrev S1024x32 : Shape := ⟨2, ![1024, 32]⟩

abbrev nBuf : Space → Nat
  | .hbm => 167
  | .vmem => 0
  | .smem => 0
  | _ => 0

abbrev hbmTy0_0 (i : Nat) : BufTy := match i % 128 with
  | 0 => ⟨S128x8x1024, .f32⟩
  | 1 => ⟨S1024, .f32⟩
  | 2 => ⟨S1024x1952, .f32⟩
  | 3 => ⟨S256, .f32⟩
  | 4 => ⟨S256x768, .f32⟩
  | 5 => ⟨S128, .f32⟩
  | 6 => ⟨S128x8x64, .f32⟩
  | 7 => ⟨S128x8x1024, .f32⟩
  | 8 => ⟨S_, .f32⟩
  | 9 => ⟨S128x8, .f32⟩
  | 10 => ⟨S128x8x1, .f32⟩
  | 11 => ⟨S_, .f32⟩
  | 12 => ⟨S128x8x1, .f32⟩
  | 13 => ⟨S128x8x1, .f32⟩
  | 14 => ⟨S_, .f32⟩
  | 15 => ⟨S128x8x1, .f32⟩
  | 16 => ⟨S128x8x1, .f32⟩
  | 17 => ⟨S128x8x1, .f32⟩
  | 18 => ⟨S128x8x1024, .f32⟩
  | 19 => ⟨S128x8x1024, .f32⟩
  | 20 => ⟨S1x1x1024, .f32⟩
  | 21 => ⟨S128x8x1024, .f32⟩
  | 22 => ⟨S128x8x1024, .f32⟩
  | 23 => ⟨S8, .i32⟩
  | 24 => ⟨S_, .i32⟩
  | 25 => ⟨S8, .i32⟩
  | 26 => ⟨S8, .i32⟩
  | 27 => ⟨S128x8x1952, .f32⟩
  | 28 => ⟨S128x8x512, .f32⟩
  | 29 => ⟨S128x8x512, .f32⟩
  | 30 => ⟨S128x8x512, .f32⟩
  | 31 => ⟨S128x8x256, .f32⟩
  | 32 => ⟨S128x8x128, .f32⟩
  | 33 => ⟨S128x8x32, .f32⟩
  | 34 => ⟨S128x8x8x64, .f32⟩
  | 35 => ⟨S128x8x8x64, .f32⟩
  | 36 => ⟨S128x8x8x64, .f32⟩
  | 37 => ⟨S128x8x256, .f32⟩
  | 38 => ⟨S_, .f32⟩
  | 39 => ⟨S128x8, .f32⟩
  | 40 => ⟨S128x8x1, .f32⟩
  | 41 => ⟨S_, .f32⟩
  | 42 => ⟨S128x8x1, .f32⟩
  | 43 => ⟨S128x8x1, .f32⟩
  | 44 => ⟨S_, .f32⟩
  | 45 => ⟨S128x8x1, .f32⟩
  | 46 => ⟨S128x8x1, .f32⟩
  | 47 => ⟨S128x8x1, .f32⟩
  | 48 => ⟨S128x8x256, .f32⟩
  | 49 => ⟨S128x8x256, .f32⟩
  | 50 => ⟨S1x1x256, .f32⟩
  | 51 => ⟨S128x8x256, .f32⟩
  | 52 => ⟨S128x8x256, .f32⟩
  | 53 => ⟨S128x8x768, .f32⟩
  | 54 => ⟨S128x8x8x96, .f32⟩
  | 55 => ⟨S128x8x8x64, .f32⟩
  | 56 => ⟨S128x8x8x32, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S_, .f32⟩
  | 65 => ⟨S16, .f32⟩
  | 66 => ⟨S16, .f32⟩
  | 67 => ⟨S8, .f32⟩
  | 68 => ⟨S8x1, .f32⟩
  | 69 => ⟨S1x16, .f32⟩
  | 70 => ⟨S8x16, .f32⟩
  | 71 => ⟨S8x16, .f32⟩
  | 72 => ⟨S8x16, .f32⟩
  | 73 => ⟨S8x16, .f32⟩
  | 74 => ⟨S1x8x1x16, .f32⟩
  | 75 => ⟨S8x16, .f32⟩
  | 76 => ⟨S1x8x1x16, .f32⟩
  | 77 => ⟨S128x8x8x16, .f32⟩
  | 78 => ⟨S128x8x8x16, .f32⟩
  | 79 => ⟨S128x8x8x16, .f32⟩
  | 80 => ⟨S128x8x8x16, .f32⟩
  | 81 => ⟨S128x8x8x16, .f32⟩
  | 82 => ⟨S128x8x8x16, .f32⟩
  | 83 => ⟨S128x8x8x16, .f32⟩
  | 84 => ⟨S128x8x8x16, .f32⟩
  | 85 => ⟨S128x8x8x16, .f32⟩
  | 86 => ⟨S128x8x8x16, .f32⟩
  | 87 => ⟨S128x8x8x16, .f32⟩
  | 88 => ⟨S128x8x8x16, .f32⟩
  | 89 => ⟨S128x8x8x32, .f32⟩
  | 90 => ⟨S8x128x128x8, .f32⟩
  | 91 => ⟨S128x8x8x128, .f32⟩
  | 92 => ⟨S128x8x128, .f32⟩
  | 93 => ⟨S_, .f32⟩
  | 94 => ⟨S128x8, .f32⟩
  | 95 => ⟨S128x8x1, .f32⟩
  | 96 => ⟨S_, .f32⟩
  | 97 => ⟨S128x8x1, .f32⟩
  | 98 => ⟨S128x8x1, .f32⟩
  | 99 => ⟨S_, .f32⟩
  | 100 => ⟨S128x8x1, .f32⟩
  | 101 => ⟨S128x8x1, .f32⟩
  | 102 => ⟨S128x8x1, .f32⟩
  | 103 => ⟨S128x8x128, .f32⟩
  | 104 => ⟨S128x8x128, .f32⟩
  | 105 => ⟨S1x1x128, .f32⟩
  | 106 => ⟨S128x8x128, .f32⟩
  | 107 => ⟨S128x8x128, .f32⟩
  | 108 => ⟨S128x8x1x32, .f32⟩
  | 109 => ⟨S16, .f32⟩
  | 110 => ⟨S_, .f32⟩
  | 111 => ⟨S16, .f32⟩
  | 112 => ⟨S16, .f32⟩
  | 113 => ⟨S_, .f32⟩
  | 114 => ⟨S16, .f32⟩
  | 115 => ⟨S16, .f32⟩
  | 116 => ⟨S_, .f32⟩
  | 117 => ⟨S16, .f32⟩
  | 118 => ⟨S16, .f32⟩
  | 119 => ⟨S8, .f32⟩
  | 120 => ⟨S8x1, .f32⟩
  | 121 => ⟨S1x16, .f32⟩
  | 122 => ⟨S8x16, .f32⟩
  | 123 => ⟨S8x16, .f32⟩
  | 124 => ⟨S8x16, .f32⟩
  | 125 => ⟨S8x16, .f32⟩
  | 126 => ⟨S1x8x1x16, .f32⟩
  | 127 => ⟨S8x16, .f32⟩
  | _ => ⟨S128x8x1024, .f32⟩

abbrev hbmTy0_1 (i : Nat) : BufTy := match i % 128 with
  | 0 => ⟨S1x8x1x16, .f32⟩
  | 1 => ⟨S128x8x1x16, .f32⟩
  | 2 => ⟨S128x8x1x16, .f32⟩
  | 3 => ⟨S128x8x1x16, .f32⟩
  | 4 => ⟨S128x8x1x16, .f32⟩
  | 5 => ⟨S128x8x1x16, .f32⟩
  | 6 => ⟨S128x8x1x16, .f32⟩
  | 7 => ⟨S128x8x1x16, .f32⟩
  | 8 => ⟨S128x8x1x16, .f32⟩
  | 9 => ⟨S128x8x1x16, .f32⟩
  | 10 => ⟨S128x8x1x16, .f32⟩
  | 11 => ⟨S128x8x1x16, .f32⟩
  | 12 => ⟨S128x8x1x16, .f32⟩
  | 13 => ⟨S128x8x1x32, .f32⟩
  | 14 => ⟨S128x8x32, .f32⟩
  | 15 => ⟨S128x8x8x160, .f32⟩
  | 16 => ⟨S_, .f32⟩
  | 17 => ⟨S128x8x8x96, .f32⟩
  | 18 => ⟨S128x8x8x256, .f32⟩
  | 19 => ⟨S8x128x8x256, .f32⟩
  | 20 => ⟨S8x1024x256, .f32⟩
  | 21 => ⟨S128x8x160, .f32⟩
  | 22 => ⟨S_, .f32⟩
  | 23 => ⟨S128x8x96, .f32⟩
  | 24 => ⟨S128x8x256, .f32⟩
  | 25 => ⟨S1024x256, .f32⟩
  | 26 => ⟨S_, .f32⟩
  | 27 => ⟨S128x8x8x64, .f32⟩
  | 28 => ⟨S128x8x8x64, .f32⟩
  | 29 => ⟨S1024x512, .f32⟩
  | 30 => ⟨S1024x512, .f32⟩
  | 31 => ⟨S1024x512, .f32⟩
  | 32 => ⟨S1024x512, .f32⟩
  | 33 => ⟨S1024x512, .bf16⟩
  | 34 => ⟨S1024x512, .f32⟩
  | 35 => ⟨S1024x512, .bf16⟩
  | 36 => ⟨S1024x128, .f32⟩
  | 37 => ⟨S1024x32, .f32⟩
  | 38 => ⟨S1024x256, .bf16⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_8 : Ref sig .tc := ⟨.hbm, 93, rfl⟩
abbrev main_v76 : Ref sig .tc := ⟨.hbm, 94, rfl⟩
abbrev main_v77 : Ref sig .tc := ⟨.hbm, 95, rfl⟩
abbrev main_cst_9 : Ref sig .tc := ⟨.hbm, 96, rfl⟩
abbrev main_v78 : Ref sig .tc := ⟨.hbm, 97, rfl⟩
abbrev main_v79 : Ref sig .tc := ⟨.hbm, 98, rfl⟩
abbrev main_cst_10 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_11 : Ref sig .tc := ⟨.hbm, 110, rfl⟩
abbrev main_v90 : Ref sig .tc := ⟨.hbm, 111, rfl⟩
abbrev main_v91 : Ref sig .tc := ⟨.hbm, 112, rfl⟩
abbrev main_cst_12 : Ref sig .tc := ⟨.hbm, 113, rfl⟩
abbrev main_v92 : Ref sig .tc := ⟨.hbm, 114, rfl⟩
abbrev main_v93 : Ref sig .tc := ⟨.hbm, 115, rfl⟩
abbrev main_cst_13 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_cst_14 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_15 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_cst_16 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩

abbrev nD : Nat := 1
abbrev τ : Topo := Topo.v7x

variable {F : FTy → Type} [FloatOps F]
-- ==== Proof.SbBlock.lean ====
module
public import proofs.«01_k».proof.Proof.Gen.KernelIdeal.Value
/-! What one grid point of the stick-breaking kernel writes: the state of its loop over the key blocks, and how a
trip changes that state. -/
@[expose] public section
set_option maxRecDepth 16384
noncomputable section
open Idealize.ShloMosaic Idealize.ShloMosaic.TcCoe Idealize.ShloMosaic.Tactic Idealize.SL Idealize.SL.RA Idealize.SL.BI Idealize.ShloMosaic.Rounds
open Idealize.ShloMosaic.Pipeline (Dat Cfg Window BodyObligation cellOf)
open Cert.KernelIdeal Cert.KernelIdeal.Gen
namespace Cert.Sb
variable {F : FTy → Type} [FloatOps F]

/-- The word that holds the number of key blocks a query block looks at, as the program computes it. -/
def nkbW (i : grid0.Coords) : BitVec 32 :=
  let v3 : BitVec 32 := Scalar.subi (Scalar.addi (Scalar.muli (Scalar.addi (BitVec.ofNat 32 (i 2).val) 1#32) 128#32) 256#32) 1#32
  let v4 : BitVec 32 := Scalar.divsi v3 256#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 256#32 0#32)) (Scalar.extui (Scalar.cmpi .slt 256#32 0#32))
  let v18 : BitVec 1 := Scalar.andi (Scalar.cmpi .ne v9 v14) (Scalar.cmpi .ne (Scalar.remsi v3 256#32) 0#32)
  Scalar.select v18 (Scalar.subi v4 1#32) v4

/-- The number of key blocks is half the query block's index, plus one. -/
theorem nkbW_eq (i : grid0.Coords) : nkbW i = BitVec.ofNat 32 ((i 2).val / 2 + 1) := by
  unfold nkbW
  generalize i 2 = a
  change Fin 16 at a
  revert a
  decide +kernel

/-- The loop makes one trip per key block. -/
theorem trips1 (i : grid0.Coords) : (k0_t1_loop i).trips = (i 2).val / 2 + 1 := by
  unfold k0_t1_loop
  generalize i 2 = a
  change Fin 16 at a
  revert a
  decide +kernel

/-- The remainder loop makes no trip. -/
theorem trips2 (i : grid0.Coords) : (k0_t2_loop i).trips = 0 := by
  unfold k0_t2_loop
  generalize i 2 = a
  change Fin 16 at a
  revert a
  decide +kernel

/-- The loop's state (what the later keys add up to, the weighted values so far) before trip `k`. -/
def st1 (c : Dev nD) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S128x128 .f32) (harg6 : arg6.IsWhole) (x0 : Vec F S128x128 .bf16) (x1 x2 : Vec F S2048x128 .bf16) (k : ℕ) : FVec F S256x128 .f32 × FVec F S256x128 .f32 :=
  st_k0_t1 (F := F) Variants.none c none i arg3 harg3 arg4 harg4 arg5 harg5 arg6 harg6 (BitVec.ofNat 32 (i 2).val) (nkbW i) k0_pay18 x0 (iota .tc S128x128 32 [1] iota_S128x128_d1_w32) k0_pay19 (k0_pay20 x0) k0_pay21 (harg4.unread x1) (harg5.unread x2) (k0_pay3, k0_pay4) k

/-- Before the first trip both parts are zero. -/
theorem st1_zero (c : Dev nD) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S128x128 .f32) (harg6 : arg6.IsWhole) (x0 : Vec F S128x128 .bf16) (x1 x2 : Vec F S2048x128 .bf16) :
    st1 c i arg3 harg3 arg4 harg4 arg5 harg5 arg6 harg6 x0 x1 x2 0 = (k0_pay3, k0_pay4) := rfl

/-- What one trip makes of the state: it loads its block of keys and of values. -/
theorem st1_succ (c : Dev nD) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S128x128 .f32) (harg6 : arg6.IsWhole) (x0 : Vec F S128x128 .bf16) (x1 x2 : Vec F S2048x128 .bf16) (k : Fin (k0_t1_loop i).trips) :
    st1 c i arg3 harg3 arg4 harg4 arg5 harg5 arg6 harg6 x0 x1 x2 (k.val + 1) =
      (k0_pay10 i (BitVec.ofNat 32 (i 2).val) (nkbW i) k0_pay18 x0 (iota .tc S128x128 32 [1] iota_S128x128_d1_w32) k0_pay19 (k0_pay20 x0) k0_pay21 k (st1 c i arg3 harg3 arg4 harg4 arg5 harg5 arg6 harg6 x0 x1 x2 k.val).1 (View.ld x1 (Rect.unit (s := S2048x128) (k0_off1 i k) S256x128.size (k0_off1_inb i k))),
       k0_pay9 i (BitVec.ofNat 32 (i 2).val) (nkbW i) k0_pay18 x0 (iota .tc S128x128 32 [1] iota_S128x128_d1_w32) k0_pay19 (k0_pay20 x0) k0_pay21 k (st1 c i arg3 harg3 arg4 harg4 arg5 harg5 arg6 harg6 x0 x1 x2 k.val).1 (st1 c i arg3 harg3 arg4 harg4 arg5 harg5 arg6 harg6 x0 x1 x2 k.val).2 (View.ld x2 (Rect.unit (s := S2048x128) (k0_off1 i k) S256x128.size (k0_off1_inb i k))) (View.ld x1 (Rect.unit (s := S2048x128) (k0_off1 i k) S256x128.size (k0_off1_inb i k)))) := by
  unfold st1
  rw [st_k0_t1_succ]
  generalize st_k0_t1 (F := F) _ _ _ _ _ _ _ _ _ _ _ _ _ _ _ _ _ _ _ _ _ _ _ _ = acc
  unfold tripR_k0_t1 trip_k0_t1
  dsimp only
  simp only [View.readAt_eq_ld, harg4.read_unread, harg5.read_unread]

/-- The block a grid point writes: the head halves of the loop's last state. -/
theorem block_eq (c : Dev nD) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S128x128 .f32) (harg6 : arg6.IsWhole) (x0 : Vec F S128x128 .bf16) (x1 x2 : Vec F S2048x128 .bf16) :
    out0_A_3 c i arg3 harg3 arg4 harg4 arg5 harg5 arg6 harg6 x0 x1 x2 =
      k0_pay17 (iota .tc S128x128 32 [1] iota_S128x128_d1_w32) (st1 c i arg3 harg3 arg4 harg4 arg5 harg5 arg6 harg6 x0 x1 x2 (k0_t1_loop i).trips).2 := by
  unfold out0_A_3
  rw [View.read_writes_eq_canon _ _ _ (cover0_A_3 c i arg3 harg3 arg4 harg4 arg5 harg5 arg6 harg6 x0 x1 x2)]
  unfold kernelRun0_A
  dsimp only
  sl_unfold_words
  simp only [View.readAt_eq_ld, harg3.read_unread, harg4.read_unread, harg5.read_unread]
  refine (View.canon_unit_zero (by decide) _ _).trans ?_
  rw [View.ld_unit_zero (by decide)]
  refine congrArg (k0_pay17 _) ?_
  refine congrArg Prod.snd ?_
  refine Eq.trans (congrArg _ (trips2 i)) ?_
  rw [st_k0_t2_zero]
  rfl
end Cert.Sb
-- ==== Proof.SbMath.lean ====
module
public import Idealize.ShloMosaic.Lib.Pointwise
/-! Stick-breaking attention over the reals: the weight of each key, and the arithmetic of its logarithms. -/
@[expose] public section
set_option maxRecDepth 16384
noncomputable section
open Idealize.ShloMosaic
namespace Cert.Sb

/-- The logarithm of the logistic function of a score. -/
def Lb (z : ℝ) : ℝ := min z 0 - Real.log (1 + Real.exp (-|z|))
/-- The logarithm of the logistic function of the negated score. -/
def Lk (z : ℝ) : ℝ := Lb z - z
/-- What key `s` leaves of the stick for the query at position `p`, as a logarithm: nothing is taken at or past `p`. -/
def K (p : ℕ) (Z : ℕ → ℝ) (s : ℕ) : ℝ := if s < p then Lk (Z s) else 0
/-- The weight of key `s` for the query at position `p`: its own share of what the later keys left. -/
def Wt (p : ℕ) (Z : ℕ → ℝ) (s : ℕ) : ℝ := if s < p then Real.exp (Lb (Z s) + ∑ s' ∈ Finset.Ico (s + 1) 2048, K p Z s') else 0

/-- A finite sum of reals, read as an extended real, is the sum of the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem one_add_exp_pos (z : ℝ) : 0 < 1 + Real.exp z := by positivity

theorem coe_min (a b : ℝ) : ((min a b : ℝ) : EReal) = min (a : EReal) b := by
  rcases le_total a b with h | h
  · rw [min_eq_left h, min_eq_left (EReal.coe_le_coe_iff.2 h)]
  · rw [min_eq_right h, min_eq_right (EReal.coe_le_coe_iff.2 h)]

theorem coe_max (a b : ℝ) : ((max a b : ℝ) : EReal) = max (a : EReal) b := by
  rcases le_total a b with h | h
  · rw [max_eq_right h, max_eq_right (EReal.coe_le_coe_iff.2 h)]
  · rw [max_eq_left h, max_eq_left (EReal.coe_le_coe_iff.2 h)]

theorem coe_abs (a : ℝ) : ((|a| : ℝ) : EReal) = max (a : EReal) (-a) := by
  rw [abs_eq_max_neg, coe_max, EReal.coe_neg]

/-- The kernel's logarithm of the logistic, on a real score. -/
theorem lb_kernel (z : ℝ) : min (z : EReal) 0 - Ideal.log (1 + Ideal.exp (0 - max (z : EReal) (-z))) = (Lb z : EReal) := by
  rw [← coe_abs, zero_sub, ← EReal.coe_neg, Ideal.exp_coe, show (1 : EReal) = ((1 : ℝ) : EReal) from rfl, ← EReal.coe_add,
    Ideal.log_coe, if_neg (not_le.2 (one_add_exp_pos _)), show (0 : EReal) = ((0 : ℝ) : EReal) from rfl, ← coe_min, ← EReal.coe_sub]
  rfl

/-- The reference's softplus, on a real. -/
theorem softplus_ref (z : ℝ) : max (z : EReal) 0 + Ideal.log1p (Ideal.exp (-max (z : EReal) (-z))) = ((max z 0 + Real.log (1 + Real.exp (-|z|)) : ℝ) : EReal) := by
  unfold Ideal.log1p
  rw [← coe_abs, ← EReal.coe_neg, Ideal.exp_coe, show (1 : EReal) = ((1 : ℝ) : EReal) from rfl, ← EReal.coe_add,
    Ideal.log_coe, if_neg (not_le.2 (one_add_exp_pos _)), show (0 : EReal) = ((0 : ℝ) : EReal) from rfl, ← coe_max, ← EReal.coe_add]

/-- Minus the softplus of the negated score is the logarithm of the logistic. -/
theorem neg_softplus_neg (z : ℝ) : -(max (-z) 0 + Real.log (1 + Real.exp (-|-z|))) = Lb z := by
  unfold Lb
  rw [abs_neg, neg_add, ← min_neg_neg, neg_neg, neg_zero]; ring

/-- Minus the softplus of the score is the logarithm of the logistic of the negated score. -/
theorem neg_softplus (z : ℝ) : -(max z 0 + Real.log (1 + Real.exp (-|z|))) = Lk z := by
  unfold Lk Lb
  have : min z 0 + max z 0 = z := by rw [min_add_max, add_zero]
  linarith

/-- A sum over 256 keys from `B` on, as a sum over an interval. -/
theorem sum_fin_block {M : Type} [AddCommMonoid M] (f : ℕ → M) (B n : ℕ) : ∑ x : Fin n, f (B + x) = ∑ s ∈ Finset.Ico B (B + n), f s := by
  rw [Finset.sum_Ico_eq_sum_range, Finset.sum_range, Nat.add_sub_cancel_left]

/-- The keys of a block after its `c`-th, summed through a 0/1 factor. -/
theorem sum_later (f : ℕ → ℝ) (B : ℕ) (c : Fin 256) :
    ∑ x : Fin 256, (f (B + x) : EReal) * (if (c : ℕ) < x then 1 else 0) = ((∑ s ∈ Finset.Ico (B + c + 1) (B + 256), f s : ℝ) : EReal) := by
  have h : ∀ x : Fin 256, (f (B + x) : EReal) * (if (c : ℕ) < x then 1 else 0) = ((if B + c < B + x then f (B + x) else 0 : ℝ) : EReal) := by
    intro x
    by_cases hx : (c : ℕ) < x
    · rw [if_pos hx, if_pos (by omega), mul_one]
    · rw [if_neg hx, if_neg (by omega), mul_zero]; rfl
  rw [Finset.sum_congr rfl fun x _ => h x, ← coe_sum, sum_fin_block (fun s => if B + c < s then f s else 0)]
  congr 1
  rw [← Finset.sum_filter]
  congr 1
  ext s
  simp only [Finset.mem_filter, Finset.mem_Ico]
  omega

/-- The same with every key of the block counted. -/
theorem sum_all (f : ℕ → ℝ) (B : ℕ) : ∑ x : Fin 256, (f (B + x) : EReal) * 1 = ((∑ s ∈ Finset.Ico B (B + 256), f s : ℝ) : EReal) := by
  simp only [mul_one]
  rw [coe_sum, sum_fin_block (fun s => (f s : EReal))]

/-- What the later blocks left, and the later keys of this block. -/
theorem later_split (f : ℕ → ℝ) (B c : ℕ) (hc : c < 256) (hB : B + 256 ≤ 2048) :
    ∑ s ∈ Finset.Ico (B + c + 1) (B + 256), f s + ∑ s ∈ Finset.Ico (B + 256) 2048, f s = ∑ s ∈ Finset.Ico (B + c + 1) 2048, f s :=
  Finset.sum_Ico_consecutive _ (by omega) (by omega)

/-- An array of 16384 rows of 512, read by numbers; outside it reads zero. -/
def rd (X : FVec Ideal ⟨2, ![16384, 512]⟩ .bf16) (R L : ℕ) : EReal := if h : R < 16384 ∧ L < 512 then X (ix2 ⟨R, h.1⟩ ⟨L, h.2⟩) else 0

theorem rd_of (X : FVec Ideal ⟨2, ![16384, 512]⟩ .bf16) (R L : ℕ) (hR : R < 16384) (hL : L < 512) : rd X R L = X (ix2 ⟨R, hR⟩ ⟨L, hL⟩) := dif_pos ⟨hR, hL⟩

/-- The score of the query in row `R` of sequence `b` against that sequence's key `s`, for head `h`. -/
def score (Q Kb : FVec Ideal ⟨2, ![16384, 512]⟩ .bf16) (R b h s : ℕ) : ℝ :=
  ∑ d ∈ Finset.range 64, (rd Q R (64 * h + d)).toReal * (rd Kb (2048 * b + s) (64 * h + d)).toReal

/-- The attention's output at row `R`, lane `L`: the values of the row's sequence, each times its stick-breaking weight. -/
def outAt (Q Kb Vb : FVec Ideal ⟨2, ![16384, 512]⟩ .bf16) (R L : ℕ) : EReal :=
  ∑ s ∈ Finset.range 2048, ((Wt (R % 2048) (score Q Kb R (R / 2048) (L / 64)) s : ℝ) : EReal) * rd Vb (2048 * (R / 2048) + s) L

/-- No entry is infinite. -/
def Fin2 (X : FVec Ideal ⟨2, ![16384, 512]⟩ .bf16) : Prop := ∀ i, X i ≠ ⊤ ∧ X i ≠ ⊥

theorem rd_real (X : FVec Ideal ⟨2, ![16384, 512]⟩ .bf16) (hX : Fin2 X) (R L : ℕ) : rd X R L = (((rd X R L).toReal : ℝ) : EReal) := by
  unfold rd
  by_cases h : R < 16384 ∧ L < 512
  · rw [dif_pos h]; exact (EReal.coe_toReal (hX _).1 (hX _).2).symm
  · rw [dif_neg h]; rfl

/-- With finite queries and keys the sum of products over a head's lanes is the real score. -/
theorem score_coe (Q Kb : FVec Ideal ⟨2, ![16384, 512]⟩ .bf16) (hQ : Fin2 Q) (hK : Fin2 Kb) (R b h s : ℕ) :
    ∑ d ∈ Finset.range 64, rd Q R (64 * h + d) * rd Kb (2048 * b + s) (64 * h + d) = ((score Q Kb R b h s : ℝ) : EReal) := by
  unfold score
  rw [coe_sum]
  refine Finset.sum_congr rfl fun d _ => ?_
  rw [EReal.coe_mul, ← rd_real Q hQ, ← rd_real Kb hK]

/-- Of 128 lanes only one half's count. -/
theorem sum_half {M : Type} [AddCommMonoid M] (F : ℕ → M) (h : ℕ) (hh : h < 2) :
    ∑ l ∈ Finset.range 128, (if l / 64 = h then F l else 0) = ∑ d ∈ Finset.range 64, F (64 * h + d) := by
  rw [show 128 = 64 + 64 from rfl, Finset.sum_range_add]
  have hlt : ∀ d ∈ Finset.range 64, d < 64 := fun d hd => Finset.mem_range.1 hd
  interval_cases h
  · rw [Finset.sum_congr rfl fun d hd => if_pos (by have := hlt d hd; omega), Finset.sum_congr rfl fun d hd => if_neg (by have := hlt d hd; omega)]
    simp
  · rw [Finset.sum_congr rfl fun d hd => if_neg (by have := hlt d hd; omega), Finset.sum_congr rfl fun d hd => if_pos (by have := hlt d hd; omega)]
    simp

end Cert.Sb
-- ==== Proof.SbPay.lean ====
module
public import proofs.«01_k».proof.Proof.Gen.KernelIdeal.Skeleton
public import proofs.«01_k».proof.Proof.SbMath
public import Idealize.ShloMosaic.Lib.Pointwise
public import Idealize.ShloMosaic.Lib.WordCmp
/-! What one trip of the stick-breaking kernel's loop computes, on real scores: it adds one block of keys. -/
@[expose] public section
set_option maxRecDepth 16384
noncomputable section
open Idealize.ShloMosaic Idealize.ShloMosaic.TcCoe Idealize.SL.Sem
open Cert.KernelIdeal Cert.KernelIdeal.Gen
namespace Cert.Sb

/-- The queries of row `r` of the stacked pair: the first half of the rows keeps head 0's lanes, the second head 1's. -/
def q2 (x0 : FVec Ideal S128x128 .bf16) (r : Fin 256) (l : Fin 128) : EReal :=
  if (l : ℕ) / 64 = (r : ℕ) / 128 then x0 (ix2 ⟨(r : ℕ) % 128, by omega⟩ l) else 0

/-- The scores of a trip: the stacked queries against the block's keys. -/
theorem pay6_apply (x0 : FVec Ideal S128x128 .bf16) (v72 : FVec Ideal S256x128 .bf16) (r c : Fin 256) :
    k0_pay6 (F := Ideal) x0 (iota .tc S128x128 32 [1] iota_S128x128_d1_w32) k0_pay19 (k0_pay20 x0) k0_pay21 v72 (ix2 r c)
      = ∑ l : Fin 128, q2 x0 r l * v72 (ix2 c l) := by
  pointwise [k0_pay6, k0_pay1, k0_pay19, k0_pay20, k0_pay21]
  refine Finset.sum_congr rfl fun l _ => ?_
  refine congrArg (· * _) ?_
  have hl := l.isLt
  have hr := r.isLt
  have hs : IntOp.cmpi CmpIPredicate.slt (BitVec.ofNat 32 (l : ℕ)) 64#32 = BitVec.ofBool (decide ((l : ℕ) < 64)) := by
    word_cmp
  rw [hs]
  unfold q2
  by_cases h : (r : ℕ) < 128
  · rw [dif_pos h, WordCmp.select_decide]
    by_cases h' : (l : ℕ) < 64
    · rw [if_pos h', if_pos (by omega)]; congr 2; apply Fin.ext; show (r : ℕ) = (r : ℕ) % 128; omega
    · rw [if_neg h', if_neg (by omega)]
  · rw [dif_neg h, WordCmp.select_decide]
    by_cases h' : (l : ℕ) < 64
    · rw [if_pos h', if_neg (by omega)]
    · rw [if_neg h']
      refine Eq.trans ?_ (if_pos (by omega)).symm
      refine congrArg x0 (congrArg (fun q : Fin 128 => ix2 q l) (Fin.ext ?_))
      show (r : ℕ) - 128 = (r : ℕ) % 128; omega

/-- The mask of a trip: the key's position comes before the query's. -/
theorem pay5_apply (i : grid0.Coords) (j n : ℕ) (hj : j < 16) (hn : n ≤ 8) (k : Fin (k0_t1_loop i).trips) (hk : (k : ℕ) < n) (r c : Fin 256) :
    k0_pay5 i (BitVec.ofNat 32 j) (BitVec.ofNat 32 n) k (ix2 r c)
      = BitVec.ofBool (decide (256 * (n - 1 - k) + (c : ℕ) < 128 * j + (r : ℕ) % 128)) := by
  pointwise [k0_pay5, k0_pay2]
  have hB : Scalar.muli (Scalar.subi (Scalar.subi (BitVec.ofNat 32 n) 1#32) (Scf.iv 0#32 1#32 (k : ℕ))) 256#32 = BitVec.ofNat 32 (256 * (n - 1 - k)) := by
    generalize (k : ℕ) = k' at hk
    have : ∀ n : Fin 9, ∀ k : Fin 9, k.val < n.val → Scalar.muli (Scalar.subi (Scalar.subi (BitVec.ofNat 32 n) 1#32) (Scf.iv 0#32 1#32 k.val)) 256#32 = BitVec.ofNat 32 (256 * (n.val - 1 - k.val)) := by decide +kernel
    exact this ⟨n, by omega⟩ ⟨k', by omega⟩ hk
  have hP : Scalar.muli (BitVec.ofNat 32 j) 128#32 = BitVec.ofNat 32 (128 * j) := by
    have : ∀ j : Fin 16, Scalar.muli (BitVec.ofNat 32 j.val) 128#32 = BitVec.ofNat 32 (128 * j.val) := by decide +kernel
    exact this ⟨j, hj⟩
  rw [hB, hP]
  have hr := r.isLt
  have hc := c.isLt
  generalize hb : 256 * (n - 1 - (k : ℕ)) = B
  have hB' : B < 2048 := by omega
  have key : ∀ e : ℕ, e < 128 → IntOp.cmpi CmpIPredicate.slt (IntOp.addi (BitVec.ofNat 32 B) (BitVec.ofNat 32 (c : ℕ))) (IntOp.addi (BitVec.ofNat 32 (128 * j)) (BitVec.ofNat 32 e)) = BitVec.ofBool (decide (B + (c : ℕ) < 128 * j + e)) := by
    intro e he
    rw [WordCmp.addi_ofNat, WordCmp.addi_ofNat]
    word_cmp
  by_cases h : (r : ℕ) < 128
  · rw [dif_pos h, key _ h, Nat.mod_eq_of_lt h]
  · rw [dif_neg h, key _ (by omega), show (r : ℕ) % 128 = (r : ℕ) - 128 by omega]

/-- The 0/1 factors: later keys of the block, and in the last columns all of them. -/
theorem pay18_apply (r : Fin 256) (c : Fin 384) :
    k0_pay18 (F := Ideal) (ix2 r c) = if (c : ℕ) < r ∨ 256 ≤ (c : ℕ) then 1 else 0 := by
  pointwise [k0_pay18]
  have hr := r.isLt
  have hc := c.isLt
  have h1 : IntOp.cmpi CmpIPredicate.sgt (BitVec.ofNat 32 (r : ℕ)) (BitVec.ofNat 32 (c : ℕ)) = BitVec.ofBool (decide ((c : ℕ) < r)) := by word_cmp
  have h2 : IntOp.cmpi CmpIPredicate.sge (BitVec.ofNat 32 (c : ℕ)) 256#32 = BitVec.ofBool (decide (256 ≤ (c : ℕ))) := by word_cmp
  rw [h1, h2, WordCmp.ori_ofBool, ← Bool.decide_or, WordCmp.select_decide]

section Trip
variable (i : grid0.Coords) (arg2 v20 : BitVec 32) (k : Fin (k0_t1_loop i).trips) (x0 : FVec Ideal S128x128 .bf16) (a : IVec S128x128 32)
  (b : FVec Ideal S128x128 .bf16) (d : FVec Ideal S128x128 .bf16) (e : IVec S128x128 32) (v70 v72 : FVec Ideal S256x128 .bf16)
  (A8 A9 : FVec Ideal S256x128 .f32) (B : ℕ) (p : Fin 256 → ℕ) (Z : Fin 256 → ℕ → ℝ) (V : ℕ → Fin 128 → EReal)

/-- The logarithm of the logistic of a trip's real score. -/
theorem pay7_real (hz : ∀ r c : Fin 256, k0_pay6 (F := Ideal) x0 a b d e v72 (ix2 r c) = ((Z r (B + c) : ℝ) : EReal)) (r c : Fin 256) :
    k0_pay7 (F := Ideal) x0 a b d e v72 (ix2 r c) = ((Lb (Z r (B + c)) : ℝ) : EReal) := by
  pointwise [k0_pay7]
  rw [hz, Ideal.absf_def]
  exact lb_kernel _

/-- A trip's sums of what the keys leave: column `c` sums the block's keys after the `c`-th, a last column all of them. -/
theorem pay8_real (hz : ∀ r c : Fin 256, k0_pay6 (F := Ideal) x0 a b d e v72 (ix2 r c) = ((Z r (B + c) : ℝ) : EReal))
    (hm : ∀ r c : Fin 256, k0_pay5 i arg2 v20 k (ix2 r c) = BitVec.ofBool (decide (B + (c : ℕ) < p r))) (r : Fin 256) (c : Fin 384) :
    k0_pay8 (F := Ideal) i arg2 v20 k0_pay18 x0 a b d e k v72 (ix2 r c)
      = ∑ x : Fin 256, ((K (p r) (Z r) (B + x) : ℝ) : EReal) * (if (c : ℕ) < x ∨ 256 ≤ (c : ℕ) then 1 else 0) := by
  have hK : ∀ x : Fin 256, Scalar.select (k0_pay5 i arg2 v20 k (ix2 r x))
      (k0_pay7 (F := Ideal) x0 a b d e v72 (ix2 r x) - k0_pay6 (F := Ideal) x0 a b d e v72 (ix2 r x) : EReal) 0 = ((K (p r) (Z r) (B + x) : ℝ) : EReal) := by
    intro x
    rw [hm, WordCmp.select_decide, pay7_real x0 a b d e v72 B Z hz, hz]
    unfold K Lk
    by_cases h : B + (x : ℕ) < p r
    · rw [if_pos h, if_pos h, EReal.coe_sub]
    · rw [if_neg h, if_neg h]; rfl
  pointwise [k0_pay8]
  rw [show ∀ y z : EReal, z = 0 → y + z = y from fun y z h => by rw [h, add_zero]]
  · refine Finset.sum_congr rfl fun x _ => ?_
    rw [← pay18_apply, ← hK x, hm]
    rw [WordCmp.select_decide, WordCmp.select_decide]
    by_cases h : B + (x : ℕ) < p r
    · rw [if_pos h, if_pos h]
    · rw [if_neg h, if_neg h, zero_mul]
  · refine Finset.sum_eq_zero fun x _ => ?_
    rw [hK x, ← EReal.coe_sub, sub_self]
    exact zero_mul _

/-- After a trip the first part of the state holds the sum over the block's keys and all later ones. -/
theorem pay10_real (hB : B + 256 ≤ 2048) (hz : ∀ r c : Fin 256, k0_pay6 (F := Ideal) x0 a b d e v72 (ix2 r c) = ((Z r (B + c) : ℝ) : EReal))
    (hm : ∀ r c : Fin 256, k0_pay5 i arg2 v20 k (ix2 r c) = BitVec.ofBool (decide (B + (c : ℕ) < p r)))
    (h8 : ∀ (r : Fin 256) (l : Fin 128), A8 (ix2 r l) = ((∑ s ∈ Finset.Ico (B + 256) 2048, K (p r) (Z r) s : ℝ) : EReal)) (r : Fin 256) (l : Fin 128) :
    k0_pay10 (F := Ideal) i arg2 v20 k0_pay18 x0 a b d e k A8 v72 (ix2 r l) = ((∑ s ∈ Finset.Ico B 2048, K (p r) (Z r) s : ℝ) : EReal) := by
  pointwise [k0_pay10]
  rw [h8, pay8_real i arg2 v20 k x0 a b d e v72 B p Z hz hm]
  rw [Finset.sum_congr rfl fun (x : Fin 256) _ => congrArg (((K (p r) (Z r) (B + x) : ℝ) : EReal) * ·) (if_pos (Or.inr (Nat.le_add_right 256 (l : ℕ)))), sum_all, ← EReal.coe_add, add_comm]
  exact congrArg _ (Finset.sum_Ico_consecutive _ (by omega) hB)

/-- After a trip the second part holds the weighted values of the block's keys and of all later ones. -/
theorem pay9_real (hB : B + 256 ≤ 2048) (hz : ∀ r c : Fin 256, k0_pay6 (F := Ideal) x0 a b d e v72 (ix2 r c) = ((Z r (B + c) : ℝ) : EReal))
    (hm : ∀ r c : Fin 256, k0_pay5 i arg2 v20 k (ix2 r c) = BitVec.ofBool (decide (B + (c : ℕ) < p r)))
    (hv : ∀ (c : Fin 256) (l : Fin 128), v70 (ix2 c l) = V (B + c) l)
    (h8 : ∀ (r : Fin 256) (l : Fin 128), A8 (ix2 r l) = ((∑ s ∈ Finset.Ico (B + 256) 2048, K (p r) (Z r) s : ℝ) : EReal))
    (h9 : ∀ (r : Fin 256) (l : Fin 128), A9 (ix2 r l) = ∑ s ∈ Finset.Ico (B + 256) 2048, ((Wt (p r) (Z r) s : ℝ) : EReal) * V s l) (r : Fin 256) (l : Fin 128) :
    k0_pay9 (F := Ideal) i arg2 v20 k0_pay18 x0 a b d e k A8 A9 v70 v72 (ix2 r l) = ∑ s ∈ Finset.Ico B 2048, ((Wt (p r) (Z r) s : ℝ) : EReal) * V s l := by
  have key : ∀ (c : Fin 256) (c' : Fin 384) (l' : Fin 128), (c' : ℕ) = c → Scalar.select (k0_pay5 i arg2 v20 k (ix2 r c))
      (Ideal.exp (k0_pay7 (F := Ideal) x0 a b d e v72 (ix2 r c) + (k0_pay8 (F := Ideal) i arg2 v20 k0_pay18 x0 a b d e k v72 (ix2 r c') + A8 (ix2 r l'))) * v70 (ix2 c l) : EReal) 0
        = ((Wt (p r) (Z r) (B + c) : ℝ) : EReal) * V (B + c) l := by
    intro c c' l' hc
    have h8' : k0_pay8 (F := Ideal) i arg2 v20 k0_pay18 x0 a b d e k v72 (ix2 r c') = ((∑ s ∈ Finset.Ico (B + c + 1) (B + 256), K (p r) (Z r) s : ℝ) : EReal) := by
      rw [pay8_real i arg2 v20 k x0 a b d e v72 B p Z hz hm, ← sum_later]
      refine Finset.sum_congr rfl fun x _ => congrArg (_ * ·) ?_
      have := c.isLt
      exact if_congr (by rw [hc]; constructor <;> intro h <;> omega) rfl rfl
    rw [hm, WordCmp.select_decide, h8', pay7_real x0 a b d e v72 B Z hz, h8, hv, ← EReal.coe_add, ← EReal.coe_add, Ideal.exp_coe,
      later_split _ _ _ c.isLt hB]
    unfold Wt
    by_cases h : B + (c : ℕ) < p r
    · rw [if_pos h, if_pos h]
    · rw [if_neg h, if_neg h]; exact (zero_mul _).symm
  pointwise [k0_pay9]
  have e1 : (∑ x : Fin 128, ((Wt (p r) (Z r) (B + x) : ℝ) : EReal) * V (B + x) l) = _ := sum_fin_block (fun s => ((Wt (p r) (Z r) s : ℝ) : EReal) * V s l) B 128
  have e2 : (∑ x : Fin 128, ((Wt (p r) (Z r) (B + (128 + x)) : ℝ) : EReal) * V (B + (128 + x)) l) = ∑ s ∈ Finset.Ico (B + 128) (B + 128 + 128), ((Wt (p r) (Z r) s : ℝ) : EReal) * V s l :=
    (Finset.sum_congr rfl fun x _ => by rw [Nat.add_assoc]).trans (sum_fin_block (fun s => ((Wt (p r) (Z r) s : ℝ) : EReal) * V s l) (B + 128) 128)
  have t1 : ∀ x : Fin 128, _ := fun x => key ⟨(x : ℕ), by omega⟩ ⟨(x : ℕ), by omega⟩ x rfl
  have t2 : ∀ x : Fin 128, _ := fun x => key ⟨128 + (x : ℕ), by omega⟩ ⟨128 + (x : ℕ), by omega⟩ x rfl
  refine (Ideal.add_congr (h9 r l) (Ideal.add_congr ((Finset.sum_congr rfl fun x _ => t1 x).trans e1) ((Finset.sum_congr rfl fun x _ => t2 x).trans e2))).trans ?_
  rw [Finset.sum_Ico_consecutive _ (by omega) (by omega), add_comm, Finset.sum_Ico_consecutive _ (by omega) (by omega)]
end Trip
end Cert.Sb
-- ==== Proof.SbLoop.lean ====
module
public import proofs.«01_k».proof.Proof.SbBlock
public import proofs.«01_k».proof.Proof.SbPay
public import Idealize.ShloMosaic.Lib.Pipeline.ValueKit
/-! The stick-breaking kernel's loop from start to end: what one grid point writes is the weighted sum of the values. -/
@[expose] public section
set_option maxRecDepth 16384
noncomputable section
open Idealize.ShloMosaic Idealize.ShloMosaic.TcCoe Idealize.SL.Sem
open Cert.KernelIdeal Cert.KernelIdeal.Gen
namespace Cert.Sb

/-- Where a trip's block of keys begins. -/
theorem off1_eq (i : grid0.Coords) (k : Fin (k0_t1_loop i).trips) : k0_off1 i k = ![256 * ((i 2).val / 2 + 1 - 1 - k.val), 0] := by
  have hk : k.val < (i 2).val / 2 + 1 := lt_of_lt_of_eq k.isLt (trips1 i)
  have hj : (i 2).val < 16 := (i 2).isLt
  have e : k0_off1 i k = ![(Scalar.muli (Scalar.subi (Scalar.subi (nkbW i) 1#32) (Scf.iv 0#32 1#32 k.val)) 256#32).toNat, 0] := rfl
  rw [e, nkbW_eq]
  generalize k.val = k' at hk
  generalize (i 2).val = j at hk hj
  have : ∀ n : Fin 9, ∀ k : Fin 9, k.val < n.val → (Scalar.muli (Scalar.subi (Scalar.subi (BitVec.ofNat 32 n.val) 1#32) (Scf.iv 0#32 1#32 k.val)) 256#32).toNat = 256 * (n.val - 1 - k.val) := by decide +kernel
  rw [this ⟨j / 2 + 1, by omega⟩ ⟨k', by omega⟩ hk]

/-- A row of a staged block of keys or values, by its number; rows past the end read zero. -/
def rowOf (x : FVec Ideal S2048x128 .bf16) (s : ℕ) (l : Fin 128) : EReal := if h : s < 2048 then x (ix2 ⟨s, h⟩ l) else 0

/-- What a trip loads: 256 rows from where its block begins. -/
theorem ld_block (i : grid0.Coords) (k : Fin (k0_t1_loop i).trips) (x : Vec Ideal S2048x128 .bf16) (r : Fin 256) (l : Fin 128) :
    (View.ld x (Rect.unit (s := S2048x128) (k0_off1 i k) S256x128.size (k0_off1_inb i k)) : Vec Ideal S256x128 .bf16) (ix2 r l)
      = rowOf x (256 * ((i 2).val / 2 + 1 - 1 - k.val) + r.val) l := by
  have hk : k.val < (i 2).val / 2 + 1 := lt_of_lt_of_eq k.isLt (trips1 i)
  have hj : (i 2).val < 16 := (i 2).isLt
  have hr := r.isLt
  unfold rowOf
  rw [dif_pos (by omega)]
  refine congrArg x (funext fun a => Fin.ext ((Rect.idx_unit_val _ _ _ (ix2 r l) a).trans ?_))

  refine (congrArg (· + ((ix2 r l : S256x128.Idx) a).val) (congrFun (off1_eq i k) a)).trans ?_
  fin_cases a
  · rfl
  · exact Nat.zero_add _

section Loop
variable (c : Dev nD) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S128x128 .f32) (harg6 : arg6.IsWhole)
  (x0 : FVec Ideal S128x128 .bf16) (x1 x2 : FVec Ideal S2048x128 .bf16) (Z : Fin 256 → ℕ → ℝ)

/-- After `k` trips the state holds the sums over the keys from block `n - k` on. -/
theorem loop_inv (hz : ∀ (r : Fin 256) (s : ℕ), s < 2048 → ∑ l : Fin 128, q2 x0 r l * rowOf x1 s l = ((Z r s : ℝ) : EReal)) (k : ℕ) (hk : k ≤ (i 2).val / 2 + 1) :
    (∀ (r : Fin 256) (l : Fin 128), (st1 (F := Ideal) c i arg3 harg3 arg4 harg4 arg5 harg5 arg6 harg6 x0 x1 x2 k).1 (ix2 r l)
        = ((∑ s ∈ Finset.Ico (256 * ((i 2).val / 2 + 1 - k)) 2048, K (128 * (i 2).val + r.val % 128) (Z r) s : ℝ) : EReal))
    ∧ (∀ (r : Fin 256) (l : Fin 128), (st1 (F := Ideal) c i arg3 harg3 arg4 harg4 arg5 harg5 arg6 harg6 x0 x1 x2 k).2 (ix2 r l)
        = ∑ s ∈ Finset.Ico (256 * ((i 2).val / 2 + 1 - k)) 2048, ((Wt (128 * (i 2).val + r.val % 128) (Z r) s : ℝ) : EReal) * rowOf x2 s l) := by
  have hj : (i 2).val < 16 := (i 2).isLt
  induction k with
  | zero =>
    rw [st1_zero]
    refine ⟨fun r l => ?_, fun r l => ?_⟩
    · rw [Finset.sum_eq_zero]
      · pointwise [k0_pay3]; rfl
      · intro s hs
        have := (Finset.mem_Ico.1 hs).1
        have := Nat.mod_lt r.val (show 128 > 0 by decide)
        exact if_neg (by omega)
    · rw [Finset.sum_eq_zero]
      · pointwise [k0_pay4]
      · intro s hs
        have := (Finset.mem_Ico.1 hs).1
        have := Nat.mod_lt r.val (show 128 > 0 by decide)
        unfold Wt
        rw [if_neg (by omega)]
        exact zero_mul _
  | succ k ih =>
    obtain ⟨ih1, ih2⟩ := ih (by omega)
    have hk' : k < (k0_t1_loop i).trips := by rw [trips1]; omega
    have e := st1_succ (F := Ideal) c i arg3 harg3 arg4 harg4 arg5 harg5 arg6 harg6 x0 x1 x2 ⟨k, hk'⟩
    dsimp only at e
    rw [e]
    have hB : 256 * ((i 2).val / 2 + 1 - k) = 256 * ((i 2).val / 2 + 1 - 1 - k) + 256 := by omega
    have hB' : 256 * ((i 2).val / 2 + 1 - (k + 1)) = 256 * ((i 2).val / 2 + 1 - 1 - k) := by omega
    rw [hB] at ih1 ih2
    rw [hB', nkbW_eq]
    have hz' : ∀ r c : Fin 256, k0_pay6 (F := Ideal) x0 (iota .tc S128x128 32 [1] iota_S128x128_d1_w32) k0_pay19 (k0_pay20 x0) k0_pay21 (View.ld x1 (Rect.unit (s := S2048x128) (k0_off1 i ⟨k, hk'⟩) S256x128.size (k0_off1_inb i ⟨k, hk'⟩))) (ix2 r c)
        = ((Z r (256 * ((i 2).val / 2 + 1 - 1 - k) + c) : ℝ) : EReal) := by
      intro r c
      have hc := c.isLt
      refine (pay6_apply x0 _ r c).trans ?_
      rw [← hz r _ (by omega)]
      exact Finset.sum_congr rfl fun l _ => congrArg (q2 x0 r l * ·) (ld_block i ⟨k, hk'⟩ x1 c l)
    have hm := pay5_apply i (i 2).val ((i 2).val / 2 + 1) hj (by omega) ⟨k, hk'⟩ (by show k < _; omega)
    refine ⟨fun r l => ?_, fun r l => ?_⟩
    · exact pay10_real i _ _ ⟨k, hk'⟩ x0 _ _ _ _ _ _ _ (fun r => 128 * (i 2).val + r.val % 128) Z (by omega) hz' hm ih1 r l
    · exact pay9_real i _ _ ⟨k, hk'⟩ x0 _ _ _ _ _ _ _ _ _ (fun r => 128 * (i 2).val + r.val % 128) Z (rowOf x2) (by omega) hz' hm (ld_block i ⟨k, hk'⟩ x2) ih1 ih2 r l

/-- What a grid point writes: at lane `l` the weighted values under the scores of that lane's head. -/
theorem block_value (hz : ∀ (r : Fin 256) (s : ℕ), s < 2048 → ∑ l : Fin 128, q2 x0 r l * rowOf x1 s l = ((Z r s : ℝ) : EReal)) (r l : Fin 128) :
    out0_A_3 (F := Ideal) c i arg3 harg3 arg4 harg4 arg5 harg5 arg6 harg6 x0 x1 x2 (ix2 r l)
      = ∑ s ∈ Finset.range 2048, ((Wt (128 * (i 2).val + r.val) (Z ⟨128 * (l.val / 64) + r.val, by omega⟩) s : ℝ) : EReal) * rowOf x2 s l := by
  rw [block_eq, trips1]
  obtain ⟨-, h⟩ := loop_inv c i arg3 harg3 arg4 harg4 arg5 harg5 arg6 harg6 x0 x1 x2 Z hz ((i 2).val / 2 + 1) le_rfl
  rw [Nat.sub_self, Nat.mul_zero, ← Finset.range_eq_Ico] at h
  generalize (st1 (F := Ideal) c i arg3 harg3 arg4 harg4 arg5 harg5 arg6 harg6 x0 x1 x2 ((i 2).val / 2 + 1)).2 = acc at h
  show k0_pay17 (F := Ideal) _ acc (ix2 r l) = _
  pointwise [k0_pay17]
  have hr := r.isLt
  have hl := l.isLt
  have hs : IntOp.cmpi CmpIPredicate.slt (BitVec.ofNat 32 (l : ℕ)) 64#32 = BitVec.ofBool (decide ((l : ℕ) < 64)) := by
    word_cmp
  rw [hs, WordCmp.select_decide]
  by_cases hl' : (l : ℕ) < 64
  · rw [if_pos hl']
    refine (h ⟨r.val, by omega⟩ l).trans ?_
    have e : (⟨128 * (l.val / 64) + r.val, by omega⟩ : Fin 256) = ⟨r.val, by omega⟩ := Fin.ext (by show 128 * (l.val / 64) + r.val = r.val; omega)
    rw [e]
    show (∑ s ∈ _, ((Wt (128 * (i 2).val + r.val % 128) _ s : ℝ) : EReal) * _) = _
    rw [Nat.mod_eq_of_lt hr]
  · rw [if_neg hl']
    refine (h ⟨128 + r.val, by omega⟩ l).trans ?_
    have e : (⟨128 * (l.val / 64) + r.val, by omega⟩ : Fin 256) = ⟨128 + r.val, by omega⟩ := Fin.ext (by show 128 * (l.val / 64) + r.val = 128 + r.val; omega)
    rw [e]
    show (∑ s ∈ _, ((Wt (128 * (i 2).val + (128 + r.val) % 128) _ s : ℝ) : EReal) * _) = _
    rw [show (128 + r.val) % 128 = r.val by omega]
end Loop
end Cert.Sb
-- ==== Proof.SbArray.lean ====
module
public import proofs.«01_k».proof.Proof.SbLoop
/-! The stick-breaking kernel's result array after the run. -/
@[expose] public section
set_option maxRecDepth 16384
noncomputable section
open Idealize.ShloMosaic Idealize.ShloMosaic.TcCoe Idealize.SL.Sem
open Idealize.ShloMosaic.Pipeline (Dat)
open Cert.KernelIdeal Cert.KernelIdeal.Gen
namespace Cert.Sb
variable (m : (ℓ : Loc nD τ sig) → Buf (Elt Ideal) ℓ)

/-- The blocks a grid point stages: grid coordinates are the sequence, the pair of heads and the query block. -/
theorem idx : ∀ t : Fin cfg0.N,
    win0_0.index t = ![(grid0.coords t 0).val * 16 + (grid0.coords t 2).val, (grid0.coords t 1).val]
    ∧ win0_1.index t = ![(grid0.coords t 0).val, (grid0.coords t 1).val]
    ∧ win0_2.index t = ![(grid0.coords t 0).val, (grid0.coords t 1).val]
    ∧ win0_3.index t = ![(grid0.coords t 0).val * 16 + (grid0.coords t 2).val, (grid0.coords t 1).val]
    ∧ (grid0.coords t 0).val < 8 ∧ (grid0.coords t 1).val < 4 ∧ (grid0.coords t 2).val < 16 :=
  (by decide +kernel : ∀ t : Fin grid0.N, _)

/-- The queries, keys and values as launched. -/
abbrev Qm (c : Dev nD) : FVec Ideal S16384x512 .bf16 := m ((c : Thread nD τ).loc main_arg0)
abbrev Km (c : Dev nD) : FVec Ideal S16384x512 .bf16 := m ((c : Thread nD τ).loc main_arg1)
abbrev Vm (c : Dev nD) : FVec Ideal S16384x512 .bf16 := m ((c : Thread nD τ).loc main_arg2)

theorem iblk0 (c : Dev nD) (t : Fin cfg0.N) (r l : Fin 128) :
    (show FVec Ideal S128x128 .bf16 from iblk m c 0 t) (ix2 r l)
      = rd (Qm m c) (2048 * (grid0.coords t 0).val + (128 * (grid0.coords t 2).val + r.val)) (128 * (grid0.coords t 1).val + l.val) := by
  obtain ⟨h0, h1, h2, h3, hb, hp, hj⟩ := idx t
  have hr := r.isLt
  have hl := l.isLt
  rw [rd_of _ _ _ (by omega) (by omega)]
  show iblk m c 0 t (ix2 r l) = _
  blk_ext [iblk, V, h0]

theorem iblk1 (c : Dev nD) (t : Fin cfg0.N) (s : ℕ) (hs : s < 2048) (l : Fin 128) :
    rowOf (iblk m c 1 t) s l
      = rd (Km m c) (2048 * (grid0.coords t 0).val + s) (128 * (grid0.coords t 1).val + l.val) := by
  obtain ⟨h0, h1, h2, h3, hb, hp, hj⟩ := idx t
  have hl := l.isLt
  rw [rd_of _ _ _ (by omega) (by omega)]
  unfold rowOf
  rw [dif_pos hs]
  blk_ext [iblk, V, h1]

theorem iblk2 (c : Dev nD) (t : Fin cfg0.N) (s : ℕ) (hs : s < 2048) (l : Fin 128) :
    rowOf (iblk m c 2 t) s l
      = rd (Vm m c) (2048 * (grid0.coords t 0).val + s) (128 * (grid0.coords t 1).val + l.val) := by
  obtain ⟨h0, h1, h2, h3, hb, hp, hj⟩ := idx t
  have hl := l.isLt
  rw [rd_of _ _ _ (by omega) (by omega)]
  unfold rowOf
  rw [dif_pos hs]
  blk_ext [iblk, V, h2]

/-- The scores at a grid point: row `r` of the stacked pair meets the keys with its own head's lanes. -/
theorem scores (c : Dev nD) (hQ : Fin2 (Qm m c)) (hK : Fin2 (Km m c)) (t : Fin cfg0.N) (r : Fin 256) (s : ℕ) (hs : s < 2048) :
    ∑ l : Fin 128, q2 (iblk m c 0 t) r l * rowOf (iblk m c 1 t) s l
      = ((score (Qm m c) (Km m c) (2048 * (grid0.coords t 0).val + (128 * (grid0.coords t 2).val + r.val % 128)) (grid0.coords t 0).val (2 * (grid0.coords t 1).val + r.val / 128) s : ℝ) : EReal) := by
  rw [← score_coe _ _ hQ hK]
  have hr := r.isLt
  have e : ∀ l : Fin 128, q2 (iblk m c 0 t) r l * rowOf (iblk m c 1 t) s l
      = (fun l : ℕ => if l / 64 = r.val / 128 then rd (Qm m c) (2048 * (grid0.coords t 0).val + (128 * (grid0.coords t 2).val + r.val % 128)) (128 * (grid0.coords t 1).val + l) * rd (Km m c) (2048 * (grid0.coords t 0).val + s) (128 * (grid0.coords t 1).val + l) else 0) l.val := by
    intro l
    unfold q2
    rw [iblk1 m c t s hs l]
    show _ = if l.val / 64 = r.val / 128 then _ else _
    by_cases h : l.val / 64 = r.val / 128
    · rw [if_pos h, if_pos h]
      exact congrArg (· * _) (iblk0 m c t ⟨r.val % 128, by omega⟩ l)
    · rw [if_neg h, if_neg h, zero_mul]
  refine ((Finset.sum_congr rfl fun l _ => e l).trans ((Finset.sum_range _).symm.trans (sum_half (fun l => rd (Qm m c) (2048 * (grid0.coords t 0).val + (128 * (grid0.coords t 2).val + r.val % 128)) (128 * (grid0.coords t 1).val + l) * rd (Km m c) (2048 * (grid0.coords t 0).val + s) (128 * (grid0.coords t 1).val + l)) _ (by omega)))).trans ?_
  refine Finset.sum_congr rfl fun d _ => ?_
  rw [show 128 * (grid0.coords t 1).val + (64 * (r.val / 128) + d) = 64 * (2 * (grid0.coords t 1).val + r.val / 128) + d by ring]

/-- The attention over the whole arrays. -/
def SB (Q Kb Vb : FVec Ideal S16384x512 .bf16) : FVec Ideal S16384x512 .f32 := fun i => outAt Q Kb Vb (i 0).val (i 1).val

/-- What a grid point writes at an index of its block is the attention at the index's place in the array. -/
theorem point (c : Dev nD) (hQ : Fin2 (Qm m c)) (hK : Fin2 (Km m c)) (t : Fin cfg0.N) (r l : Fin 128) :
    (show FVec Ideal S128x128 .f32 from out0_A_3 (F := Ideal) c (grid0.coords t) (ms0_0 t) (hs0_0 t) (ms0_1 t) (hs0_1 t) (ms0_2 t) (hs0_2 t) (ms0_3 t) (hs0_3 t) (iblk m c 0 t) (iblk m c 1 t) (iblk m c 2 t)) (ix2 r l)
      = outAt (Qm m c) (Km m c) (Vm m c) (2048 * (grid0.coords t 0).val + (128 * (grid0.coords t 2).val + r.val)) (128 * (grid0.coords t 1).val + l.val) := by
  obtain ⟨-, -, -, -, hb, hp, hj⟩ := idx t
  have hr := r.isLt
  have hl := l.isLt
  refine (block_value c (grid0.coords t) _ _ _ _ _ _ _ _ (iblk m c 0 t) (iblk m c 1 t) (iblk m c 2 t) _ (fun r s hs => scores m c hQ hK t r s hs) r l).trans ?_
  unfold outAt
  refine Finset.sum_congr rfl fun s hs => ?_
  rw [iblk2 m c t s (Finset.mem_range.1 hs) l]
  generalize (grid0.coords t 0).val = b at *
  generalize (grid0.coords t 1).val = p at *
  generalize (grid0.coords t 2).val = j at *
  rw [show (2048 * b + (128 * j + r.val)) % 2048 = 128 * j + r.val by omega, show (2048 * b + (128 * j + r.val)) / 2048 = b by omega,
    show (128 * p + l.val) / 64 = 2 * p + l.val / 64 by omega]
  show ((Wt _ (score _ _ (2048 * b + (128 * j + (128 * (l.val / 64) + r.val) % 128)) b (2 * p + (128 * (l.val / 64) + r.val) / 128)) s : ℝ) : EReal) * _ = _
  rw [show (128 * (l.val / 64) + r.val) % 128 = r.val by omega, show (128 * (l.val / 64) + r.val) / 128 = l.val / 64 by omega]

/-- The result array after the run. -/
theorem final (c : Dev nD) (hQ : Fin2 (Qm m c)) (hK : Fin2 (Km m c)) :
    (dats m 0 c).arrAt 3 (cfgs 0).N = SB (Qm m c) (Km m c) (Vm m c) := by
  refine (dats m 0 c).arrAt_eq_of_covers 3 _ (by decide +kernel) fun t _ y => ?_
  blk_simp
  rw [after0_3]
  unfold outsAt0
  idx_vars y
  refine (point m c hQ hK t y0 y1).trans ?_
  obtain ⟨-, -, -, h3, -, -, -⟩ := idx t
  unfold SB
  congr 1
  · blk_simp [h3]
    simp
    omega
  · blk_simp [h3]
    simp
    omega
end Cert.Sb
-- ==== Proof.SbRef.lean ====
module
public import proofs.«01_k».proof.Proof.Gen.ReferenceIdeal.Read
public import proofs.«01_k».proof.Proof.SbMath
public import Idealize.ShloMosaic.Lib.Pointwise
public import Idealize.ShloMosaic.Lib.WordCmp
/-! What the stick-breaking reference computes, read at an index. -/
@[expose] public section
set_option maxRecDepth 16384
noncomputable section
open Idealize.ShloMosaic Idealize.ShloMosaic.TcCoe Idealize.SL.Sem
open Cert.ReferenceIdeal Cert.ReferenceIdeal.Read
namespace Cert.SbRef
open Cert.Sb

/-- Adding up a list from a start. -/
theorem foldl_add {ι : Type} (g : ι → EReal) (l : List ι) (a : EReal) : l.foldl (fun r n => r + g n) a = a + (l.map g).sum := by
  induction l generalizing a with
  | nil => simp
  | cons x l ih => rw [List.foldl_cons, ih, List.map_cons, List.sum_cons, add_assoc]

/-- A window of one row: its positions are its last coordinate. -/
def winEquiv : (⟨4, ![1, 1, 1, 2048]⟩ : Shape).Idx ≃ Fin 2048 where
  toFun i := i 3
  invFun n := ix4 0 0 0 n
  left_inv i := by
    have h0 : i 0 = (0 : Fin 1) := Subsingleton.elim (α := Fin 1) _ _
    have h1 : i 1 = (0 : Fin 1) := Subsingleton.elim (α := Fin 1) _ _
    have h2 : i 2 = (0 : Fin 1) := Subsingleton.elim (α := Fin 1) _ _
    funext a
    fin_cases a
    · exact h0.symm
    · exact h1.symm
    · exact h2.symm
    · rfl
  right_inv n := rfl

/-- The running sum from the end: at `s` it adds the entries from `s` on. -/
theorem window_sum (x : FVec Ideal S8x8x2048x2048 .f32) (w : FVec Ideal S_ .f32) (hw : w ix0 = 0)
    (hr : S8x8x2048x2048.ReduceWindows ![1, 1, 1, 2048] ![1, 1, 1, 1] ![0, 0, 0, 0] ![0, 0, 0, 2047] S8x8x2048x2048) (hu : 0 < S_.numel)
    (b h : Fin 8) (q s : Fin 2048) (f : ℕ → EReal) (hf : ∀ s' : Fin 2048, x (ix4 b h q s') = f s') :
    Host.reduceWindowAdd (F := Ideal) (φ := .f32) ![1, 1, 1, 2048] ![1, 1, 1, 1] ![0, 0, 0, 0] ![0, 0, 0, 2047] x w hr hu (ix4 b h q s)
      = ∑ s' ∈ Finset.Ico s.val 2048, f s' := by
  have hw' : w (Shape.Idx.first hu) = 0 := (congrArg w (funext fun a => a.elim0)).trans hw
  unfold Host.reduceWindowAdd
  rw [Ideal.hostReduceWindowAdd_def]
  unfold Ideal.hostReduceWindowAdd
  rw [hw']
  unfold Host.reduceWindow
  dsimp only
  rw [foldl_add, zero_add, ← Fin.sum_univ_def]
  have hs := s.isLt
  have key : ∀ i : (⟨4, ![1, 1, 1, 2048]⟩ : Shape).Idx,
      (if hin : ∀ a : Fin 4, (![0, 0, 0, 0] : Fin 4 → ℕ) a ≤ (ix4 b h q s (a.cast hr.1.symm)).val * (![1, 1, 1, 1] : Fin 4 → ℕ) a + (i a).val
          ∧ (ix4 b h q s (a.cast hr.1.symm)).val * (![1, 1, 1, 1] : Fin 4 → ℕ) a + (i a).val - (![0, 0, 0, 0] : Fin 4 → ℕ) a < S8x8x2048x2048.size a
        then x (fun a => ⟨(ix4 b h q s (a.cast hr.1.symm)).val * (![1, 1, 1, 1] : Fin 4 → ℕ) a + (i a).val - (![0, 0, 0, 0] : Fin 4 → ℕ) a, (hin a).2⟩) else (0 : EReal))
      = if s.val + (winEquiv i).val < 2048 then f (s.val + (winEquiv i).val) else 0 := by
    intro i
    obtain ⟨n, rfl⟩ := winEquiv.symm.surjective i
    rw [Equiv.apply_symm_apply]
    by_cases hn : s.val + n.val < 2048
    · rw [if_pos hn, dif_pos]
      · refine Eq.trans (congrArg x (funext fun a => Fin.ext ?_)) (hf ⟨s.val + n.val, hn⟩)
        fin_cases a
        · show b.val * 1 + 0 - 0 = b.val; omega
        · show h.val * 1 + 0 - 0 = h.val; omega
        · show q.val * 1 + 0 - 0 = q.val; omega
        · show s.val * 1 + n.val - 0 = s.val + n.val; omega
      · intro a
        have hb := b.isLt
        have hh := h.isLt
        have hq := q.isLt
        fin_cases a
        · show 0 ≤ b.val * 1 + 0 ∧ b.val * 1 + 0 - 0 < 8; omega
        · show 0 ≤ h.val * 1 + 0 ∧ h.val * 1 + 0 - 0 < 8; omega
        · show 0 ≤ q.val * 1 + 0 ∧ q.val * 1 + 0 - 0 < 2048; omega
        · show 0 ≤ s.val * 1 + n.val ∧ s.val * 1 + n.val - 0 < 2048; omega
    · rw [if_neg hn, dif_neg]
      intro hin
      have := (hin 3).2
      change s.val * 1 + n.val - 0 < 2048 at this
      omega
  refine Eq.trans ?_ (Eq.trans (Equiv.sum_comp (⟨4, ![1, 1, 1, 2048]⟩ : Shape).rowMajor.symm fun i => if s.val + (winEquiv i).val < 2048 then f (s.val + (winEquiv i).val) else 0) ?_)
  · refine Finset.sum_congr rfl fun n _ => ?_
    refine Eq.trans ?_ (key ((⟨4, ![1, 1, 1, 2048]⟩ : Shape).rowMajor.symm n))
    congr
  refine (Equiv.sum_comp winEquiv fun n : Fin 2048 => if s.val + n.val < 2048 then f (s.val + n.val) else 0).trans ?_
  rw [sum_fin_block (fun t => if t < 2048 then f t else 0) s.val 2048, ← Finset.sum_filter]
  congr 1
  ext t
  simp only [Finset.mem_filter, Finset.mem_Ico]
  omega

variable (Q Kb Vb : FVec Ideal S16384x512 .bf16)

/-- The reference's scores. -/
theorem v7_at (hQ : Fin2 Q) (hK : Fin2 Kb) (b h : Fin 8) (q s : Fin 2048) :
    val_main_v7 (F := Ideal) Q Kb (ix4 b h q s) = ((score Q Kb (2048 * b.val + q.val) b h s : ℝ) : EReal) := by
  rw [← score_coe _ _ hQ hK]
  pointwise [val_main_v7, val_main_v1, val_main_v0, val_main_v3, val_main_v2]
  rw [Finset.sum_range]
  refine Finset.sum_congr rfl fun d _ => ?_
  have hb := b.isLt
  have hh := h.isLt
  have hq := q.isLt
  have hs := s.isLt
  have hd := d.isLt
  rw [rd_of _ _ _ (by omega) (by omega), rd_of _ _ _ (by omega) (by omega)]
  refine Ideal.mul_congr (congrArg Q ?_) (congrArg Kb ?_)
  · exact (ix2_inj ..).2 ⟨Fin.ext (congrArg (· + q.val) (Nat.mul_comm _ _)), Fin.ext (congrArg (· + d.val) (Nat.mul_comm _ _))⟩
  · exact (ix2_inj ..).2 ⟨Fin.ext (congrArg (· + s.val) (Nat.mul_comm _ _)), Fin.ext (congrArg (· + d.val) (Nat.mul_comm _ _))⟩

/-- The logarithm of the logistic of a real score. -/
theorem v13_at (b h : Fin 8) (q s : Fin 2048) (z : ℝ) (hz : val_main_v7 (F := Ideal) Q Kb (ix4 b h q s) = (z : EReal)) :
    val_main_v13 (F := Ideal) Q Kb (ix4 b h q s) = ((Lb z : ℝ) : EReal) := by
  pointwise [val_main_v13, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  rw [if_neg (fun h => h rfl), hz, ← EReal.coe_neg, Ideal.absf_def, softplus_ref, ← EReal.coe_neg, neg_softplus_neg]

/-- What a key leaves, as a logarithm, where the mask keeps it. -/
theorem v15_at (b h : Fin 8) (q s : Fin 2048) (z : ℝ) (hz : val_main_v7 (F := Ideal) Q Kb (ix4 b h q s) = (z : EReal)) :
    val_main_v15 (F := Ideal) Q Kb (ix4 b h q s) = ((Lk z : ℝ) : EReal) := by
  pointwise [val_main_v15, val_main_call1_v1, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0, val_main_v14]
  rw [hz, neg_neg, if_neg (fun h => h rfl), Ideal.absf_def, softplus_ref, ← EReal.coe_neg, neg_softplus]

/-- The mask: a key comes before the query. -/
theorem mask_at (q s : Fin 2048) : IntOp.cmpi CmpIPredicate.slt (BitVec.ofNat 32 (s : ℕ)) (BitVec.ofNat 32 (q : ℕ)) = BitVec.ofBool (decide ((s : ℕ) < q)) := by
  have hq := q.isLt
  have hs := s.isLt
  word_cmp

/-- What a key leaves, masked. -/
theorem v16_at (b h : Fin 8) (q s : Fin 2048) (Z : ℕ → ℝ) (hz : val_main_v7 (F := Ideal) Q Kb (ix4 b h q s) = (Z s : EReal)) :
    val_main_v16 (F := Ideal) Q Kb (ix4 b h q s) = ((K q Z s : ℝ) : EReal) := by
  pointwise [val_main_v16, val_main_v12, val_main_v11, val_main_v10, val_main_v9, val_main_v8, val_main_v6, val_main_call2_v1, val_main_call2_v2, val_main_call2_v0, val_main_cst]
  rw [mask_at, WordCmp.select_decide, v15_at Q Kb b h q s _ hz]
  unfold K
  by_cases hsq : s.val < q.val
  · rw [if_pos hsq, if_pos hsq]
  · rw [if_neg hsq, if_neg hsq]; exact Ideal.ofBits_zero_f32

/-- The running sum of what the keys leave, from the end. -/
theorem v17_at (b h : Fin 8) (q s : Fin 2048) (Z : ℕ → ℝ) (hz : ∀ s : Fin 2048, val_main_v7 (F := Ideal) Q Kb (ix4 b h q s) = (Z s : EReal)) :
    val_main_v17 (F := Ideal) Q Kb (ix4 b h q s) = ((∑ s' ∈ Finset.Ico s.val 2048, K q Z s' : ℝ) : EReal) := by
  unfold val_main_v17
  rw [coe_sum]
  refine window_sum _ _ ?_ _ _ b h q s (fun s' => ((K q Z s' : ℝ) : EReal)) fun s' => v16_at Q Kb b h q s' Z (hz s')
  pointwise [val_main_call3_v0, val_main_call3_cst]

/-- The weight of a key. -/
theorem v21_at (b h : Fin 8) (q s : Fin 2048) (Z : ℕ → ℝ) (hz : ∀ s : Fin 2048, val_main_v7 (F := Ideal) Q Kb (ix4 b h q s) = (Z s : EReal)) :
    val_main_v21 (F := Ideal) Q Kb (ix4 b h q s) = ((Wt q Z s : ℝ) : EReal) := by
  pointwise [val_main_v21, val_main_v20, val_main_v19, val_main_v18, val_main_v12, val_main_v11, val_main_v10, val_main_v9, val_main_v8, val_main_v6, val_main_call4_v1, val_main_call4_v2, val_main_call4_v0, val_main_cst_0]
  rw [mask_at, WordCmp.select_decide, v17_at Q Kb b h q s Z hz, v16_at Q Kb b h q s Z (hz s), v13_at Q Kb b h q s _ (hz s), ← EReal.coe_sub, ← EReal.coe_add, Ideal.exp_coe]
  unfold Wt
  have hs := s.isLt
  rw [Finset.sum_eq_sum_Ico_succ_bot hs, add_sub_cancel_left]
  by_cases hsq : s.val < q.val
  · rw [if_pos hsq, if_pos hsq]
  · rw [if_neg hsq, if_neg hsq]; exact Ideal.ofBits_zero_f32

/-- The reference's result is the attention of the arrays. -/
theorem v24_at (hQ : Fin2 Q) (hK : Fin2 Kb) (r : Fin 16384) (l : Fin 512) :
    val_main_v24 (F := Ideal) Q Kb Vb (ix2 r l) = outAt Q Kb Vb r l := by
  have hr := r.isLt
  have hl := l.isLt
  unfold outAt
  rw [Finset.sum_range]
  pointwise [val_main_v24, val_main_v23, val_main_v22, val_main_v5, val_main_v4]
  refine Finset.sum_congr rfl fun s _ => ?_
  have hs := s.isLt
  rw [mul_comm]
  refine Ideal.mul_congr ((v21_at Q Kb ⟨r.val / 2048, by omega⟩ ⟨l.val / 64, by omega⟩ ⟨r.val % 2048, by omega⟩ s _ (fun s => v7_at Q Kb hQ hK _ _ _ s)).trans ?_) ?_
  · show ((Wt (r.val % 2048) (score Q Kb (2048 * (r.val / 2048) + r.val % 2048) (r.val / 2048) (l.val / 64)) s : ℝ) : EReal) = _
    rw [show 2048 * (r.val / 2048) + r.val % 2048 = r.val by omega]
  · rw [rd_of _ _ _ (by omega) (by omega)]
    refine congrArg Vb ((ix2_inj ..).2 ⟨Fin.ext ?_, rfl⟩)
    exact congrArg (· + s.val) (Nat.mul_comm _ _)
end Cert.SbRef
-- ==== Proof.SbPre.lean ====
/- The precondition read: the queries and the keys are real numbers. -/
module

public import proofs.«01_k».proof.Pre_finite_q_and_k
public import proofs.«01_k».proof.Proof.SbMath
public import Idealize.ShloMosaic.Lib.Pointwise
public import Idealize.ShloMosaic.Lib.WordCmp

@[expose] public section

noncomputable section

open Idealize.ShloMosaic

namespace Cert.SbPre

open Cert.Sb

/-- The side conditions of the precondition's operations. -/
instance facts : Cert.Pre_finite_q_and_k.Facts where
  bitsLt_bf16_f32 := by decide
  bcast_S_S16384x512 := by decide

theorem inf_word : Ideal.ofBits .f32 0x7F800000#32 = (⊤ : EReal) := by
  simp [Ideal.ofBits, Ideal.ieee]

/-- A number whose absolute value is below infinity is real. -/
theorem real_of_abs (x : EReal) (h : max x (-x) < ⊤) : x ≠ ⊤ ∧ x ≠ ⊥ := by
  constructor
  · rintro rfl; simp at h
  · rintro rfl; simp at h

/-- The precondition says that queries and keys are real. -/
theorem real_of_pre (Q Kb Vb : FVec Ideal Cert.Pre_finite_q_and_k.S16384x512 .bf16)
    (h : Cert.Pre_finite_q_and_k.fn (F := Ideal) Q Kb Vb = fun _ => 1#1) : Fin2 Q ∧ Fin2 Kb := by
  have key : ∀ i, (Q i ≠ ⊤ ∧ Q i ≠ ⊥) ∧ (Kb i ≠ ⊤ ∧ Kb i ≠ ⊥) := by
    intro i
    have e : Cert.Pre_finite_q_and_k.fn (F := Ideal) Q Kb Vb i = IntOp.andi (BitVec.ofBool (decide (max (Q i) (-(Q i)) < (⊤ : EReal)))) (BitVec.ofBool (decide (max (Kb i) (-(Kb i)) < (⊤ : EReal)))) := by
      rw [← inf_word]
      rfl
    have hi := e.symm.trans (congrFun h i)
    by_cases hq : max (Q i) (-(Q i)) < (⊤ : EReal)
    · by_cases hk : max (Kb i) (-(Kb i)) < (⊤ : EReal)
      · exact ⟨real_of_abs _ hq, real_of_abs _ hk⟩
      · rw [decide_eq_false hk, decide_eq_true hq] at hi
        exact absurd hi (by decide)
    · rw [decide_eq_false hq] at hi
      cases hk : decide (max (Kb i) (-(Kb i)) < (⊤ : EReal)) <;> rw [hk] at hi <;> exact absurd hi (by decide)
  exact ⟨fun i => (key i).1, fun i => (key i).2⟩

end Cert.SbPre
-- ==== Proof.SbClaim.lean ====
/- The stick-breaking attention: the kernel and the reference end with the same array. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.SbArray
public import proofs.«01_k».proof.Proof.SbRef
public import proofs.«01_k».proof.Proof.SbPre
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.SbClaim

open Cert.Sb

/-- The reference runs, leaves its arguments and every counter. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩) (Cert.ReferenceIdeal.Value.run m g)

/-- The array the reference leaves is the attention of its arguments. -/
theorem reference_array (m : (ℓ : Loc Cert.ReferenceIdeal.nD Cert.ReferenceIdeal.τ Cert.ReferenceIdeal.sig) → Buf (Elt Ideal) ℓ) (c : Dev Cert.ReferenceIdeal.nD)
    (Q Kb Vb : FVec Ideal Cert.ReferenceIdeal.S16384x512 .bf16)
    (h0 : m ((c.tc : Thread Cert.ReferenceIdeal.nD Cert.ReferenceIdeal.τ).loc Cert.ReferenceIdeal.main_arg0) = Q)
    (h1 : m ((c.tc : Thread Cert.ReferenceIdeal.nD Cert.ReferenceIdeal.τ).loc Cert.ReferenceIdeal.main_arg1) = Kb)
    (h2 : m ((c.tc : Thread Cert.ReferenceIdeal.nD Cert.ReferenceIdeal.τ).loc Cert.ReferenceIdeal.main_arg2) = Vb)
    (hQ : Fin2 Q) (hK : Fin2 Kb) :
    Cert.ReferenceIdeal.Value.res_main_v24 (F := Ideal) m c = SB Q Kb Vb := by
  rw [Cert.ReferenceIdeal.Read.val_main_v24_eq, h0, h1, h2]
  funext i
  obtain ⟨r, l, rfl⟩ : ∃ (r : Fin 16384) (l : Fin 512), i = ix2 r l := ⟨i 0, i 1, eq_ix2 i⟩
  exact Cert.SbRef.v24_at Q Kb Vb hQ hK r l

/-- Over the extended reals, where queries and keys are real, kernel and reference end with the same array. -/
theorem algebraic [hP : Cert.Pre_finite_q_and_k.Facts] : Cert.algebraic_KernelIdeal_ReferenceIdeal_pre_finite_q_and_k := by
  intro m g m' g' hpre hargs
  have hf : ∀ c, Fin2 (Qm m c) ∧ Fin2 (Km m c) := fun c => Cert.SbPre.real_of_pre (Qm m c) (Km m c) (Vm m c) (hpre c)
  refine ⟨fun c => SB (Qm m c) (Km m c) (Vm m c), ?_, ?_⟩
  · exact (θ_run Cert.KernelIdeal.defs _ _).mono (fun r h c => ⟨(h c).1.trans (final m c (hf c).1 (hf c).2), (h c).2⟩) (Cert.KernelIdeal.Value.run_blocks m g)
  · refine (θ_run Cert.ReferenceIdeal.defs _ _).mono (fun r h c => ⟨(h c).1.trans ?_, (h c).2⟩) (Cert.ReferenceIdeal.Value.run m' g')
    exact reference_array m' c (Qm m c) (Km m c) (Vm m c) (hargs c).1 (hargs c).2.1 (hargs c).2.2 (hf c).1 (hf c).2

end Cert.SbClaim
-- ==== Proof.TailMath.lean ====
module
public import Idealize.ShloMosaic.Lib.Pointwise
public import Idealize.ShloMosaic.Lib.Pipeline.ValueKit
/-! One token's row through the tail of the layer, over the extended reals. -/
@[expose] public section
set_option maxRecDepth 16384
noncomputable section
open Idealize.ShloMosaic
namespace Cert.Tail

/-- The constant added to a mean square. -/
def eps : EReal := Ideal.ofBits .f32 0x358637BD#32
/-- The mean square's number of entries: 512. -/
def c512 : EReal := Ideal.ofBits .f32 0x44000000#32
/-- The mean square's number of entries: 1024. -/
def c1024 : EReal := Ideal.ofBits .f32 0x44800000#32

/-- A row divided by the root of its mean square, times a gain. -/
def rms {n : ℕ} (cnt : EReal) (x g : Fin n → EReal) (l : Fin n) : EReal :=
  x l * Ideal.rsqrt (Ideal.div (∑ k, x k * x k) cnt + eps) * g l

/-- A row times a matrix. -/
def vm {n k : ℕ} (x : Fin n → EReal) (w : Fin n → Fin k → EReal) (l : Fin k) : EReal := ∑ j, x j * w j l

/-- The logistic function. -/
def lg (x : EReal) : EReal := Ideal.div 1 (1 + Ideal.exp (-x))

/-- The latent attention's values: each head's latent row through that head's up-projection. -/
def mlaO (lat : Fin 8 → Fin 128 → EReal) (uv : Fin 128 → Fin 8 → Fin 64 → EReal) (l : Fin 512) : EReal :=
  ∑ c, lat ⟨l.val / 64, by omega⟩ c * uv c ⟨l.val / 64, by omega⟩ ⟨l.val % 64, by omega⟩

/-- The two attentions side by side. -/
def merged (a b : Fin 512 → EReal) (l : Fin 1024) : EReal :=
  if h : l.val < 512 then a ⟨l.val, h⟩ else b ⟨l.val - 512, by omega⟩

/-- The row after the attention's output projection. -/
def x1 (x : Fin 1024 → EReal) (sb mo gsb gmla : Fin 512 → EReal) (wo : Fin 1024 → Fin 1024 → EReal) (l : Fin 1024) : EReal :=
  x l + vm (merged (rms c512 sb gsb) (rms c512 mo gmla)) wo l

/-- The gated hidden unit `j` of the feed-forward block. -/
def act (h : Fin 1024 → EReal) (wg wu : Fin 1024 → Fin 2816 → EReal) (j : Fin 2816) : EReal :=
  vm h wg j * lg (vm h wg j) * vm h wu j

/-- The row after the feed-forward block. -/
def x2 (x h : Fin 1024 → EReal) (wg wu : Fin 1024 → Fin 2816 → EReal) (wd : Fin 2816 → Fin 1024 → EReal) (l : Fin 1024) : EReal :=
  x l + vm (act h wg wu) wd l

/-- The row after the per-layer embedding is added through its gate. -/
def x3 (x g : Fin 1024 → EReal) (wpg : Fin 1024 → Fin 1024 → EReal) (p : Fin 256 → EReal) (wpp : Fin 256 → Fin 1024 → EReal)
    (l : Fin 1024) : EReal :=
  x l + lg (vm (rms c1024 x g) wpg l) * vm p wpp l

/-- The whole row through the tail: the two attentions normalised and projected onto the row, the feed-forward block, the gated
per-layer embedding, and the last normalisation. -/
def tailRow (x : Fin 1024 → EReal) (sb : Fin 512 → EReal) (lat : Fin 8 → Fin 128 → EReal) (ple : Fin 256 → EReal)
    (uv : Fin 128 → Fin 8 → Fin 64 → EReal) (gsb gmla : Fin 512 → EReal) (wo : Fin 1024 → Fin 1024 → EReal) (gffn : Fin 1024 → EReal)
    (wg wu : Fin 1024 → Fin 2816 → EReal) (wd : Fin 2816 → Fin 1024 → EReal) (gple : Fin 1024 → EReal)
    (wpg : Fin 1024 → Fin 1024 → EReal) (wpp : Fin 256 → Fin 1024 → EReal) (gfin : Fin 1024 → EReal) (l : Fin 1024) : EReal :=
  rms c1024 (x3 (x2 (x1 x sb (mlaO lat uv) gsb gmla wo) (rms c1024 (x1 x sb (mlaO lat uv) gsb gmla wo) gffn) wg wu wd) gple wpg ple wpp) gfin l

/-- The side-by-side row times a matrix is its two halves times the matrix's two halves. -/
theorem vm_merged {k : ℕ} (a b : Fin 512 → EReal) (w : Fin 1024 → Fin k → EReal) (l : Fin k) :
    vm (merged a b) w l = ∑ x : Fin 512, a x * w ⟨x.val, by omega⟩ l + ∑ x : Fin 512, b x * w ⟨512 + x.val, by omega⟩ l := by
  unfold vm
  refine (Fin.sum_univ_add (a := 512) (b := 512) _).trans ?_
  refine congrArg₂ (· + ·) (Finset.sum_congr rfl fun x _ => ?_) (Finset.sum_congr rfl fun x _ => ?_)
  · refine congrArg (· * _) ?_
    unfold merged
    exact dif_pos x.isLt
  · refine congrArg (· * _) ?_
    unfold merged
    refine (dif_neg (show ¬ 512 + x.val < 512 by omega)).trans (congrArg b (Fin.ext ?_))
    show 512 + x.val - 512 = x.val
    omega

/-- A sum over 2816 is the sum over its two halves. -/
theorem sum_halves (f : Fin 2816 → EReal) :
    ∑ j, f j = ∑ x : Fin 1408, f ⟨x.val, by omega⟩ + ∑ x : Fin 1408, f ⟨1408 + x.val, by omega⟩ :=
  Fin.sum_univ_add (a := 1408) (b := 1408) f

/-- A row of eight stacked pieces times a matrix that is nonzero only where the piece of the row is the block of the column. -/
theorem sum_block (lat : Fin 8 → Fin 128 → EReal) (uv : Fin 128 → Fin 8 → Fin 64 → EReal) (y : Fin 1024 → EReal) (w : Fin 1024 → EReal)
    (l : Fin 512) (hy : ∀ k : Fin 1024, y k = lat ⟨k.val / 128, by omega⟩ ⟨k.val % 128, by omega⟩)
    (hw : ∀ k : Fin 1024, w k = if k.val / 128 = l.val / 64 then uv ⟨k.val % 128, by omega⟩ ⟨l.val / 64, by omega⟩ ⟨l.val % 64, by omega⟩ else 0) :
    ∑ k, y k * w k = mlaO lat uv l := by
  have e : ∑ k : Fin 1024, y k * w k = ∑ h : Fin 8, ∑ c : Fin 128,
      if h.val = l.val / 64 then lat h c * uv c ⟨l.val / 64, by omega⟩ ⟨l.val % 64, by omega⟩ else 0 := by
    symm
    refine Fin.sum_mul_add_congr fun h c hl => ?_
    rw [hy, hw]
    have hc := c.isLt
    have h1 : (h.val * 128 + c.val) / 128 = h.val := by omega
    have h2 : (h.val * 128 + c.val) % 128 = c.val := by omega
    simp only [h1, h2]
    split_ifs with hh
    · rfl
    · rw [mul_zero]
  rw [e, Finset.sum_eq_single (⟨l.val / 64, by omega⟩ : Fin 8)]
  · exact Finset.sum_congr rfl fun c _ => if_pos rfl
  · intro h _ hne
    exact Finset.sum_eq_zero fun c _ => if_neg fun hh => hne (Fin.ext hh)
  · intro h
    exact absurd (Finset.mem_univ _) h

end Cert.Tail
-- ==== Proof.TailPay.lean ====
module
public import proofs.«01_k».proof.Proof.Gen.Kernel2Ideal.Skeleton
public import proofs.«01_k».proof.Proof.TailMath
public import Idealize.ShloMosaic.Lib.Pointwise
/-! What the tail's kernel stores, read at an index. -/
@[expose] public section
set_option maxRecDepth 16384
noncomputable section
open Idealize.ShloMosaic Idealize.ShloMosaic.TcCoe Idealize.SL.Sem
open Cert.Kernel2Ideal Cert.Kernel2Ideal.Gen
namespace Cert.TailPay
open Cert.Tail

/-- The feed-forward step: what was added up so far, plus this half's hidden units times its rows of the down-projection. -/
theorem pay3_at (h : Vec Ideal S256x1024 .bf16) (wg wu : Vec Ideal S1024x1408 .bf16) (acc : Vec Ideal S256x1024 .f32) (wd : Vec Ideal S1408x1024 .bf16)
    (r : Fin 256) (l : Fin 1024) (off : ℕ) (hoff : off + 1408 ≤ 2816) (H : Fin 1024 → EReal) (Wg Wu : Fin 1024 → Fin 2816 → EReal) (Wd : Fin 2816 → Fin 1024 → EReal)
    (hh : ∀ k, h (ix2 r k) = H k) (hg : ∀ k j, wg (ix2 k j) = Wg k ⟨off + j.val, by omega⟩) (hu : ∀ k j, wu (ix2 k j) = Wu k ⟨off + j.val, by omega⟩)
    (hd : ∀ j l, wd (ix2 j l) = Wd ⟨off + j.val, by omega⟩ l) :
    k0_pay3 (F := Ideal) h wg wu acc wd (ix2 r l) = acc (ix2 r l) + ∑ j : Fin 1408, act H Wg Wu ⟨off + j.val, by omega⟩ * Wd ⟨off + j.val, by omega⟩ l := by
  pointwise [k0_pay3]
  simp only [hh, hg, hu, hd]
  rfl

/-- The latent attention's values. -/
theorem pay5_at (L : Fin 8 → Vec Ideal S1x256x128 .f32) (w : Vec Ideal S1024x512 .bf16) (r : Fin 256) (l : Fin 512)
    (lat : Fin 8 → Fin 128 → EReal) (uv : Fin 128 → Fin 8 → Fin 64 → EReal)
    (hL : ∀ h c, L h (ix3 0 r c) = lat h c)
    (hw : ∀ k : Fin 1024, w (ix2 k l) = if k.val / 128 = l.val / 64 then uv ⟨k.val % 128, by omega⟩ ⟨l.val / 64, by omega⟩ ⟨l.val % 64, by omega⟩ else 0) :
    k0_pay5 (F := Ideal) (L 0) (L 1) (L 2) (L 3) (L 4) (L 5) (L 6) (L 7) w (ix2 r l) = mlaO lat uv l := by
  pointwise [k0_pay5]
  refine sum_block lat uv _ (fun k => w (ix2 k l)) l (fun k => ?_) hw
  simp only [hL]
  have hk := k.isLt
  split_ifs <;> exact congrArg₂ lat (Fin.ext (by first | (show (0 : ℕ) = k.val / 128; omega) | (show (1 : ℕ) = k.val / 128; omega) | (show (2 : ℕ) = k.val / 128; omega) | (show (3 : ℕ) = k.val / 128; omega) | (show (4 : ℕ) = k.val / 128; omega) | (show (5 : ℕ) = k.val / 128; omega) | (show (6 : ℕ) = k.val / 128; omega) | (show (7 : ℕ) = k.val / 128; omega))) (Fin.ext (by show _ = k.val % 128; dsimp only; omega))

/-- The latent attention's values, from the eight heads' pieces. -/
theorem pay5_at8 (L0 L1 L2 L3 L4 L5 L6 L7 : Vec Ideal S1x256x128 .f32) (w : Vec Ideal S1024x512 .bf16) (r : Fin 256) (l : Fin 512)
    (lat : Fin 8 → Fin 128 → EReal) (uv : Fin 128 → Fin 8 → Fin 64 → EReal)
    (h0 : ∀ c, L0 (ix3 0 r c) = lat ⟨0, by decide⟩ c) (h1 : ∀ c, L1 (ix3 0 r c) = lat ⟨1, by decide⟩ c) (h2 : ∀ c, L2 (ix3 0 r c) = lat ⟨2, by decide⟩ c) (h3 : ∀ c, L3 (ix3 0 r c) = lat ⟨3, by decide⟩ c) (h4 : ∀ c, L4 (ix3 0 r c) = lat ⟨4, by decide⟩ c) (h5 : ∀ c, L5 (ix3 0 r c) = lat ⟨5, by decide⟩ c) (h6 : ∀ c, L6 (ix3 0 r c) = lat ⟨6, by decide⟩ c) (h7 : ∀ c, L7 (ix3 0 r c) = lat ⟨7, by decide⟩ c)
    (hw : ∀ k : Fin 1024, w (ix2 k l) = if k.val / 128 = l.val / 64 then uv ⟨k.val % 128, by omega⟩ ⟨l.val / 64, by omega⟩ ⟨l.val % 64, by omega⟩ else 0) :
    k0_pay5 (F := Ideal) L0 L1 L2 L3 L4 L5 L6 L7 w (ix2 r l) = mlaO lat uv l :=
  pay5_at ![L0, L1, L2, L3, L4, L5, L6, L7] w r l lat uv (fun h c => match h with
    | ⟨0, _⟩ => h0 c
    | ⟨1, _⟩ => h1 c
    | ⟨2, _⟩ => h2 c
    | ⟨3, _⟩ => h3 c
    | ⟨4, _⟩ => h4 c
    | ⟨5, _⟩ => h5 c
    | ⟨6, _⟩ => h6 c
    | ⟨7, _⟩ => h7 c) hw

/-- The row after the output projection. -/
theorem pay8_at (mo : FVec Ideal S256x512 .f32) (sb : Vec Ideal S256x512 .f32) (gsb gmla : Vec Ideal S1x512 .f32) (x : Vec Ideal S256x1024 .f32)
    (wo : Vec Ideal S1024x1024 .bf16) (r : Fin 256) (l : Fin 1024) (X : Fin 1024 → EReal) (Sb Mo Gsb Gmla : Fin 512 → EReal) (Wo : Fin 1024 → Fin 1024 → EReal)
    (hx : ∀ k, x (ix2 r k) = X k) (hsb : ∀ k, sb (ix2 r k) = Sb k) (hmo : ∀ k, mo (ix2 r k) = Mo k) (hgs : ∀ k, gsb (ix2 0 k) = Gsb k)
    (hgm : ∀ k, gmla (ix2 0 k) = Gmla k) (hwo : ∀ k l, wo (ix2 k l) = Wo k l) :
    k0_pay8 (F := Ideal) mo sb (k0_pay6 gsb) (k0_pay7 sb) (FloatOps.ofBits .f32 0x44000000#32) gmla x wo (ix2 r l) = x1 X Sb Mo Gsb Gmla Wo l := by
  unfold x1
  rw [vm_merged]
  pointwise [k0_pay8, k0_pay7, k0_pay6]
  simp only [hx, hsb, hmo, hgs, hgm, hwo]
  rfl

/-- The same row as it is kept. -/
theorem pay9_eq (mo : FVec Ideal S256x512 .f32) (sb : Vec Ideal S256x512 .f32) (gsb : FVec Ideal S1x512 .f32) (q : FVec Ideal S256x1 .f32) (n : Ideal .f32)
    (gmla : Vec Ideal S1x512 .f32) (x : Vec Ideal S256x1024 .f32) (wo : Vec Ideal S1024x1024 .bf16) (r : Fin 256) (l : Fin 1024) :
    k0_pay9 (F := Ideal) mo sb gsb q n gmla x wo (ix2 r l) = k0_pay8 (F := Ideal) mo sb gsb q n gmla x wo (ix2 r l) := by
  pointwise [k0_pay9]

/-- The normalised row before the feed-forward block. -/
theorem pay1_at (mo : FVec Ideal S256x512 .f32) (sb : Vec Ideal S256x512 .f32) (gsb : FVec Ideal S1x512 .f32) (q : FVec Ideal S256x1 .f32) (n : Ideal .f32)
    (gmla : Vec Ideal S1x512 .f32) (x : Vec Ideal S256x1024 .f32) (wo : Vec Ideal S1024x1024 .bf16) (g : Vec Ideal S1x1024 .f32) (r : Fin 256) (l : Fin 1024)
    (X G : Fin 1024 → EReal) (hx : ∀ l, k0_pay8 (F := Ideal) mo sb gsb q n gmla x wo (ix2 r l) = X l) (hg : ∀ l, g (ix2 0 l) = G l) :
    k0_pay1 (F := Ideal) (k0_pay8 mo sb gsb q n gmla x wo) (k0_pay10 g) (k0_pay11 mo sb gsb q n gmla x wo) (FloatOps.ofBits .f32 0x358637BD#32) (ix2 r l)
      = rms c1024 X G l := by
  unfold k0_pay11
  generalize k0_pay8 (F := Ideal) mo sb gsb q n gmla x wo = y at *
  pointwise [k0_pay1, k0_pay10]
  simp only [hx, hg]
  rfl

/-- The feed-forward sum starts at zero. -/
theorem pay2_at (r : Fin 256) (l : Fin 1024) : k0_pay2 (F := Ideal) (ix2 r l) = 0 := by
  pointwise [k0_pay2]

/-- The row after the embedding. -/
theorem pay12_at (x a : Vec Ideal S256x1024 .f32) (g : Vec Ideal S1x1024 .f32) (wpg : Vec Ideal S1024x1024 .bf16) (p : Vec Ideal S256x256 .f32)
    (wpp : Vec Ideal S256x1024 .bf16) (r : Fin 256) (l : Fin 1024) (X G : Fin 1024 → EReal) (Wpg : Fin 1024 → Fin 1024 → EReal) (P : Fin 256 → EReal)
    (Wpp : Fin 256 → Fin 1024 → EReal) (hx : ∀ l, x (ix2 r l) + a (ix2 r l) = X l) (hg : ∀ l, g (ix2 0 l) = G l) (hwg : ∀ k l, wpg (ix2 k l) = Wpg k l)
    (hp : ∀ k, p (ix2 r k) = P k) (hwp : ∀ k l, wpp (ix2 k l) = Wpp k l) :
    k0_pay12 (F := Ideal) x a g wpg p wpp (ix2 r l) = x3 X G Wpg P Wpp l := by
  pointwise [k0_pay12]
  simp only [hx, hg, hwg, hp, hwp]
  rfl

/-- The last normalisation. -/
theorem pay4_at (x a : Vec Ideal S256x1024 .f32) (g : Vec Ideal S1x1024 .f32) (wpg : Vec Ideal S1024x1024 .bf16) (p : Vec Ideal S256x256 .f32)
    (wpp : Vec Ideal S256x1024 .bf16) (gf : Vec Ideal S1x1024 .f32) (r : Fin 256) (l : Fin 1024) (X G : Fin 1024 → EReal)
    (hx : ∀ l, k0_pay12 (F := Ideal) x a g wpg p wpp (ix2 r l) = X l) (hg : ∀ l, gf (ix2 0 l) = G l) :
    k0_pay4 (F := Ideal) (k0_pay12 x a g wpg p wpp) (k0_pay13 gf) (k0_pay14 x a g wpg p wpp) k0_pay15 (ix2 r l) = rms c1024 X G l := by
  unfold k0_pay14
  generalize k0_pay12 (F := Ideal) x a g wpg p wpp = y at *
  pointwise [k0_pay4, k0_pay13, k0_pay15]
  simp only [hx, hg]
  rfl

end Cert.TailPay
-- ==== Proof.TailBlk.lean ====
module
public import proofs.«01_k».proof.Proof.Gen.Kernel2Ideal.Value
public import Idealize.ShloMosaic.Lib.Pipeline.ValueKit
public import Idealize.ShloMosaic.Lib.Pointwise
public import Idealize.ShloMosaic.Lib.WordCmp
/-! The blocks the tail's kernel stages, read at an index of the launched arrays. -/
@[expose] public section
set_option maxRecDepth 16384
noncomputable section
open Idealize.ShloMosaic Idealize.ShloMosaic.TcCoe Idealize.SL.Sem
open Idealize.ShloMosaic.Pipeline (Dat)
open Cert.Kernel2Ideal Cert.Kernel2Ideal.Gen
namespace Cert.TailBlk
variable (m : (ℓ : Loc nD τ sig) → Buf (Elt Ideal) ℓ)

/-- The blocks a grid point stages: point `t` is half `t % 2` of the hidden units of row block `t / 2`. -/
theorem idx : ∀ t : Fin cfg0.N,
    win0_0.index t = ![t.val / 2, 0] ∧ win0_1.index t = ![t.val / 2, 0] ∧ win0_2.index t = ![0, t.val / 2, 0] ∧ win0_3.index t = ![t.val / 2, 0]
    ∧ win0_4.index t = ![0, 0] ∧ win0_5.index t = ![0, 0] ∧ win0_6.index t = ![0, 0] ∧ win0_7.index t = ![0, 0] ∧ win0_8.index t = ![0, 0]
    ∧ win0_9.index t = ![0, t.val % 2] ∧ win0_10.index t = ![0, t.val % 2] ∧ win0_11.index t = ![t.val % 2, 0]
    ∧ win0_12.index t = ![0, 0] ∧ win0_13.index t = ![0, 0] ∧ win0_14.index t = ![0, 0] ∧ win0_15.index t = ![0, 0]
    ∧ win0_16.index t = ![t.val / 2, 0] ∧ t.val < 128 :=
  (by decide +kernel : ∀ t : Fin grid0.N, _)

/-- An entry of the identity, as it is made of the two indices' comparison, times a number. -/
theorem eye (a b : ℕ) (ha : a < 1024) (hb : b < 1024) (x : EReal) :
    FloatOps.uitofp (F := Ideal) FTy.f32 (IntOp.cmpi CmpIPredicate.eq (IntOp.addi (BitVec.ofNat 32 a) 0#32) (BitVec.ofNat 32 b)) * x
      = if a = b then x else 0 := by
  have e : IntOp.cmpi CmpIPredicate.eq (IntOp.addi (BitVec.ofNat 32 a) 0#32) (BitVec.ofNat 32 b) = BitVec.ofBool (decide (a = b)) := by
    rw [show IntOp.addi (BitVec.ofNat 32 a) 0#32 = BitVec.ofNat 32 a from BitVec.add_zero _]
    word_cmp
  rw [e]
  by_cases h : a = b
  · rw [if_pos h, decide_eq_true h]
    refine (congrArg (· * x) (?_ : _ = (1 : EReal))).trans (one_mul x)
    show (((1#1 : BitVec 1).toNat : ℝ) : EReal) = 1
    simp
  · rw [if_neg h, decide_eq_false h]
    refine (congrArg (· * x) (?_ : _ = (0 : EReal))).trans (zero_mul x)
    show (((0#1 : BitVec 1).toNat : ℝ) : EReal) = 0
    simp

/-- The arrays as launched. -/
abbrev A0 (c : Dev nD) : FVec Ideal S8x2048x1024 .f32 := m ((c : Thread nD τ).loc main_arg0)
abbrev A1 (c : Dev nD) : FVec Ideal S16384x512 .f32 := m ((c : Thread nD τ).loc main_arg1)
abbrev A2 (c : Dev nD) : FVec Ideal S8x16384x128 .f32 := m ((c : Thread nD τ).loc main_arg2)
abbrev A3 (c : Dev nD) : FVec Ideal S1x8x2048x256 .f32 := m ((c : Thread nD τ).loc main_arg3)
abbrev A4 (c : Dev nD) : FVec Ideal S1x128x8x64 .f32 := m ((c : Thread nD τ).loc main_arg4)
abbrev A5 (c : Dev nD) : FVec Ideal S1x512 .f32 := m ((c : Thread nD τ).loc main_arg5)
abbrev A6 (c : Dev nD) : FVec Ideal S1x512 .f32 := m ((c : Thread nD τ).loc main_arg6)
abbrev A7 (c : Dev nD) : FVec Ideal S1x1024x1024 .f32 := m ((c : Thread nD τ).loc main_arg7)
abbrev A8 (c : Dev nD) : FVec Ideal S1x1024 .f32 := m ((c : Thread nD τ).loc main_arg8)
abbrev A9 (c : Dev nD) : FVec Ideal S1x1024x2816 .f32 := m ((c : Thread nD τ).loc main_arg9)
abbrev A10 (c : Dev nD) : FVec Ideal S1x1024x2816 .f32 := m ((c : Thread nD τ).loc main_arg10)
abbrev A11 (c : Dev nD) : FVec Ideal S1x2816x1024 .f32 := m ((c : Thread nD τ).loc main_arg11)
abbrev A12 (c : Dev nD) : FVec Ideal S1x1024 .f32 := m ((c : Thread nD τ).loc main_arg12)
abbrev A13 (c : Dev nD) : FVec Ideal S1x1024x1024 .f32 := m ((c : Thread nD τ).loc main_arg13)
abbrev A14 (c : Dev nD) : FVec Ideal S1x256x1024 .f32 := m ((c : Thread nD τ).loc main_arg14)
abbrev A15 (c : Dev nD) : FVec Ideal S1024 .f32 := m ((c : Thread nD τ).loc main_arg15)

theorem blk0 (c : Dev nD) (t : Fin cfg0.N) (r : Fin 256) (l : Fin 1024) :
    (show FVec Ideal S256x1024 .f32 from iblk m c 0 t) (ix2 r l) = A0 m c (ix3 ⟨(256 * (t.val / 2) + r.val) / 2048, by have := lt_of_lt_of_eq t.isLt N_0; omega⟩ ⟨(256 * (t.val / 2) + r.val) % 2048, by omega⟩ l) := by
  obtain ⟨h0, h1, h2, h3, h4, h5, h6, h7, h8, h9, h10, h11, h12, h13, h14, h15, h16, ht⟩ := idx t
  have e : iblk m c 0 t (ix2 r l) = V m c main_v36 (ix2 ⟨256 * (t.val / 2) + r.val, by have := lt_of_lt_of_eq t.isLt N_0; omega⟩ l) := by blk_ext [iblk, h0]
  refine Eq.trans e ?_
  entry_read
  pointwise

theorem blk1 (c : Dev nD) (t : Fin cfg0.N) (r : Fin 256) (l : Fin 512) :
    (show FVec Ideal S256x512 .f32 from iblk m c 1 t) (ix2 r l) = A1 m c (ix2 ⟨256 * (t.val / 2) + r.val, by have := lt_of_lt_of_eq t.isLt N_0; omega⟩ l) := by
  obtain ⟨h0, h1, h2, h3, h4, h5, h6, h7, h8, h9, h10, h11, h12, h13, h14, h15, h16, ht⟩ := idx t
  show iblk m c 1 t (ix2 r l) = _
  blk_ext [iblk, V, h1]

theorem blk2 (c : Dev nD) (t : Fin cfg0.N) (h : Fin 8) (r : Fin 256) (l : Fin 128) :
    (show FVec Ideal S8x256x128 .f32 from iblk m c 2 t) (ix3 h r l) = A2 m c (ix3 h ⟨256 * (t.val / 2) + r.val, by have := lt_of_lt_of_eq t.isLt N_0; omega⟩ l) := by
  obtain ⟨h0, h1, h2, h3, h4, h5, h6, h7, h8, h9, h10, h11, h12, h13, h14, h15, h16, ht⟩ := idx t
  show iblk m c 2 t (ix3 h r l) = _
  blk_ext [iblk, V, h2]

theorem blk3 (c : Dev nD) (t : Fin cfg0.N) (r : Fin 256) (l : Fin 256) :
    (show FVec Ideal S256x256 .f32 from iblk m c 3 t) (ix2 r l) = A3 m c (ix4 0 ⟨(256 * (t.val / 2) + r.val) / 2048, by have := lt_of_lt_of_eq t.isLt N_0; omega⟩ ⟨(256 * (t.val / 2) + r.val) % 2048, by omega⟩ l) := by
  obtain ⟨h0, h1, h2, h3, h4, h5, h6, h7, h8, h9, h10, h11, h12, h13, h14, h15, h16, ht⟩ := idx t
  have e : iblk m c 3 t (ix2 r l) = V m c main_v38 (ix2 ⟨256 * (t.val / 2) + r.val, by have := lt_of_lt_of_eq t.isLt N_0; omega⟩ l) := by blk_ext [iblk, h3]
  refine Eq.trans e ?_
  entry_read
  pointwise

theorem blk4 (c : Dev nD) (t : Fin cfg0.N) (l : Fin 512) :
    (show FVec Ideal S1x512 .f32 from iblk m c 4 t) (ix2 0 l) = A5 m c (ix2 0 l) := by
  obtain ⟨h0, h1, h2, h3, h4, h5, h6, h7, h8, h9, h10, h11, h12, h13, h14, h15, h16, ht⟩ := idx t
  have e : iblk m c 4 t (ix2 0 l) = V m c main_v15 (ix2 0 l) := by blk_ext [iblk, h4]
  refine Eq.trans e ?_
  entry_read
  pointwise

theorem blk5 (c : Dev nD) (t : Fin cfg0.N) (l : Fin 512) :
    (show FVec Ideal S1x512 .f32 from iblk m c 5 t) (ix2 0 l) = A6 m c (ix2 0 l) := by
  obtain ⟨h0, h1, h2, h3, h4, h5, h6, h7, h8, h9, h10, h11, h12, h13, h14, h15, h16, ht⟩ := idx t
  have e : iblk m c 5 t (ix2 0 l) = V m c main_v17 (ix2 0 l) := by blk_ext [iblk, h5]
  refine Eq.trans e ?_
  entry_read
  pointwise

theorem blk6 (c : Dev nD) (t : Fin cfg0.N) (k : Fin 1024) (l : Fin 512) :
    (show FVec Ideal S1024x512 .bf16 from iblk m c 6 t) (ix2 k l) = (if k.val / 128 = l.val / 64 then A4 m c (ix4 0 ⟨k.val % 128, by omega⟩ ⟨l.val / 64, by omega⟩ ⟨l.val % 64, by omega⟩) else 0) := by
  obtain ⟨h0, h1, h2, h3, h4, h5, h6, h7, h8, h9, h10, h11, h12, h13, h14, h15, h16, ht⟩ := idx t
  have e : iblk m c 6 t (ix2 k l) = V m c main_v18 (ix2 k l) := by blk_ext [iblk, h6]
  refine Eq.trans e ?_
  entry_read
  pointwise
  refine (eye _ _ (by omega) (by omega) _).trans ?_
  split_ifs with h
  · simp only [h]
  · rfl

theorem blk7 (c : Dev nD) (t : Fin cfg0.N) (k : Fin 1024) (l : Fin 1024) :
    (show FVec Ideal S1024x1024 .bf16 from iblk m c 7 t) (ix2 k l) = A7 m c (ix3 0 k l) := by
  obtain ⟨h0, h1, h2, h3, h4, h5, h6, h7, h8, h9, h10, h11, h12, h13, h14, h15, h16, ht⟩ := idx t
  have e : iblk m c 7 t (ix2 k l) = V m c main_v20 (ix2 k l) := by blk_ext [iblk, h7]
  refine Eq.trans e ?_
  entry_read
  pointwise

theorem blk8 (c : Dev nD) (t : Fin cfg0.N) (l : Fin 1024) :
    (show FVec Ideal S1x1024 .f32 from iblk m c 8 t) (ix2 0 l) = A8 m c (ix2 0 l) := by
  obtain ⟨h0, h1, h2, h3, h4, h5, h6, h7, h8, h9, h10, h11, h12, h13, h14, h15, h16, ht⟩ := idx t
  have e : iblk m c 8 t (ix2 0 l) = V m c main_v22 (ix2 0 l) := by blk_ext [iblk, h8]
  refine Eq.trans e ?_
  entry_read
  pointwise

theorem blk9 (c : Dev nD) (t : Fin cfg0.N) (k : Fin 1024) (l : Fin 1408) :
    (show FVec Ideal S1024x1408 .bf16 from iblk m c 9 t) (ix2 k l) = A9 m c (ix3 0 k ⟨1408 * (t.val % 2) + l.val, by omega⟩) := by
  obtain ⟨h0, h1, h2, h3, h4, h5, h6, h7, h8, h9, h10, h11, h12, h13, h14, h15, h16, ht⟩ := idx t
  have e : iblk m c 9 t (ix2 k l) = V m c main_v24 (ix2 k ⟨1408 * (t.val % 2) + l.val, by omega⟩) := by blk_ext [iblk, h9]
  refine Eq.trans e ?_
  entry_read
  pointwise

theorem blk10 (c : Dev nD) (t : Fin cfg0.N) (k : Fin 1024) (l : Fin 1408) :
    (show FVec Ideal S1024x1408 .bf16 from iblk m c 10 t) (ix2 k l) = A10 m c (ix3 0 k ⟨1408 * (t.val % 2) + l.val, by omega⟩) := by
  obtain ⟨h0, h1, h2, h3, h4, h5, h6, h7, h8, h9, h10, h11, h12, h13, h14, h15, h16, ht⟩ := idx t
  have e : iblk m c 10 t (ix2 k l) = V m c main_v26 (ix2 k ⟨1408 * (t.val % 2) + l.val, by omega⟩) := by blk_ext [iblk, h10]
  refine Eq.trans e ?_
  entry_read
  pointwise

theorem blk11 (c : Dev nD) (t : Fin cfg0.N) (k : Fin 1408) (l : Fin 1024) :
    (show FVec Ideal S1408x1024 .bf16 from iblk m c 11 t) (ix2 k l) = A11 m c (ix3 0 ⟨1408 * (t.val % 2) + k.val, by omega⟩ l) := by
  obtain ⟨h0, h1, h2, h3, h4, h5, h6, h7, h8, h9, h10, h11, h12, h13, h14, h15, h16, ht⟩ := idx t
  have e : iblk m c 11 t (ix2 k l) = V m c main_v28 (ix2 ⟨1408 * (t.val % 2) + k.val, by omega⟩ l) := by blk_ext [iblk, h11]
  refine Eq.trans e ?_
  entry_read
  pointwise

theorem blk12 (c : Dev nD) (t : Fin cfg0.N) (l : Fin 1024) :
    (show FVec Ideal S1x1024 .f32 from iblk m c 12 t) (ix2 0 l) = A12 m c (ix2 0 l) := by
  obtain ⟨h0, h1, h2, h3, h4, h5, h6, h7, h8, h9, h10, h11, h12, h13, h14, h15, h16, ht⟩ := idx t
  have e : iblk m c 12 t (ix2 0 l) = V m c main_v30 (ix2 0 l) := by blk_ext [iblk, h12]
  refine Eq.trans e ?_
  entry_read
  pointwise

theorem blk13 (c : Dev nD) (t : Fin cfg0.N) (k : Fin 1024) (l : Fin 1024) :
    (show FVec Ideal S1024x1024 .bf16 from iblk m c 13 t) (ix2 k l) = A13 m c (ix3 0 k l) := by
  obtain ⟨h0, h1, h2, h3, h4, h5, h6, h7, h8, h9, h10, h11, h12, h13, h14, h15, h16, ht⟩ := idx t
  have e : iblk m c 13 t (ix2 k l) = V m c main_v32 (ix2 k l) := by blk_ext [iblk, h13]
  refine Eq.trans e ?_
  entry_read
  pointwise

theorem blk14 (c : Dev nD) (t : Fin cfg0.N) (k : Fin 256) (l : Fin 1024) :
    (show FVec Ideal S256x1024 .bf16 from iblk m c 14 t) (ix2 k l) = A14 m c (ix3 0 k l) := by
  obtain ⟨h0, h1, h2, h3, h4, h5, h6, h7, h8, h9, h10, h11, h12, h13, h14, h15, h16, ht⟩ := idx t
  have e : iblk m c 14 t (ix2 k l) = V m c main_v34 (ix2 k l) := by blk_ext [iblk, h14]
  refine Eq.trans e ?_
  entry_read
  pointwise

theorem blk15 (c : Dev nD) (t : Fin cfg0.N) (l : Fin 1024) :
    (show FVec Ideal S1x1024 .f32 from iblk m c 15 t) (ix2 0 l) = A15 m c (ix1 l) := by
  obtain ⟨h0, h1, h2, h3, h4, h5, h6, h7, h8, h9, h10, h11, h12, h13, h14, h15, h16, ht⟩ := idx t
  have e : iblk m c 15 t (ix2 0 l) = V m c main_v35 (ix2 0 l) := by blk_ext [iblk, h15]
  refine Eq.trans e ?_
  entry_read
  pointwise

end Cert.TailBlk
-- ==== Proof.TailRef.lean ====
module
public import proofs.«01_k».proof.Proof.Gen.Reference2Ideal.Read
public import proofs.«01_k».proof.Proof.TailMath
public import Idealize.ShloMosaic.Lib.Pointwise
/-! What the tail's reference computes, read at an index. -/
@[expose] public section
set_option maxRecDepth 16384
noncomputable section
open Idealize.ShloMosaic Idealize.ShloMosaic.TcCoe Idealize.SL.Sem
open Cert.Reference2Ideal Cert.Reference2Ideal.Read
namespace Cert.TailRef
open Cert.Tail

variable (X0 : FVec Ideal S8x2048x1024 .f32) (X1 : FVec Ideal S16384x512 .f32) (X2 : FVec Ideal S8x16384x128 .f32)
  (X3 : FVec Ideal S1x8x2048x256 .f32) (X4 : FVec Ideal S1x128x8x64 .f32) (X5 X6 : FVec Ideal S1x512 .f32)
  (X7 : FVec Ideal S1x1024x1024 .f32) (X8 : FVec Ideal S1x1024 .f32) (X9 X10 : FVec Ideal S1x1024x2816 .f32)
  (X11 : FVec Ideal S1x2816x1024 .f32) (X12 : FVec Ideal S1x1024 .f32) (X13 : FVec Ideal S1x1024x1024 .f32)
  (X14 : FVec Ideal S1x256x1024 .f32) (X15 : FVec Ideal S1024 .f32)

/-- The latent attention's values. -/
theorem v6_at (b : Fin 8) (s : Fin 2048) (l : Fin 512) :
    val_main_v6 (F := Ideal) X2 X4 (ix3 b s l)
      = mlaO (fun h c => X2 (ix3 h ⟨b.val * 2048 + s.val, by omega⟩ c)) (fun c h v => X4 (ix4 0 c h v)) l := by
  pointwise [val_main_v6, val_main_v5, val_main_v4, val_main_v3, val_main_v2, val_main_v1]
  exact Finset.sum_congr rfl fun c _ => mul_comm _ _

/-- The stick-breaking attention's values, normalised. -/
theorem v21_at (b : Fin 8) (s : Fin 2048) (l : Fin 512) :
    val_main_v21 (F := Ideal) X1 X5 (ix3 b s l)
      = rms c512 (fun l => X1 (ix2 ⟨b.val * 2048 + s.val, by omega⟩ l)) (fun l => X5 (ix2 0 l)) l := by
  pointwise [val_main_v7, val_main_v8, val_main_v9, val_main_v10, val_main_v11, val_main_v12, val_main_v13, val_main_v14, val_main_v15, val_main_v16,
    val_main_v17, val_main_v18, val_main_v19, val_main_v20, val_main_v21, val_main_cst, val_main_cst_0, val_main_cst_1]
  rfl

/-- The latent attention's values, normalised. -/
theorem v35_at (b : Fin 8) (s : Fin 2048) (l : Fin 512) (x : Fin 512 → EReal)
    (hx : ∀ l, val_main_v6 (F := Ideal) X2 X4 (ix3 b s l) = x l) :
    val_main_v35 (F := Ideal) X2 X4 X6 (ix3 b s l) = rms c512 x (fun l => X6 (ix2 0 l)) l := by
  pointwise [val_main_v22, val_main_v23, val_main_v24, val_main_v25, val_main_v26, val_main_v27, val_main_v28, val_main_v29, val_main_v30,
    val_main_v31, val_main_v32, val_main_v33, val_main_v34, val_main_v35, val_main_cst_2, val_main_cst_3, val_main_cst_4]
  simp only [hx]
  rfl

/-- The two side by side. -/
theorem v36_at (b : Fin 8) (s : Fin 2048) (l : Fin 1024) (A B : Fin 512 → EReal)
    (hA : ∀ l, val_main_v21 (F := Ideal) X1 X5 (ix3 b s l) = A l) (hB : ∀ l, val_main_v35 (F := Ideal) X2 X4 X6 (ix3 b s l) = B l) :
    val_main_v36 (F := Ideal) X1 X2 X4 X5 X6 (ix3 b s l) = merged A B l := by
  pointwise [val_main_v36]
  simp only [hA, hB]
  rfl

/-- The row after the output projection. -/
theorem v39_at (b : Fin 8) (s : Fin 2048) (l : Fin 1024) (y : Fin 1024 → EReal)
    (hy : ∀ l, val_main_v36 (F := Ideal) X1 X2 X4 X5 X6 (ix3 b s l) = y l) :
    val_main_v39 (F := Ideal) X0 X1 X2 X4 X5 X6 X7 (ix3 b s l) = X0 (ix3 b s l) + vm y (fun j l => X7 (ix3 0 j l)) l := by
  pointwise [val_main_v37, val_main_v38, val_main_v39]
  simp only [hy]
  rfl

/-- Normalised before the feed-forward block. -/
theorem v53_at (b : Fin 8) (s : Fin 2048) (l : Fin 1024) (x : Fin 1024 → EReal)
    (hx : ∀ l, val_main_v39 (F := Ideal) X0 X1 X2 X4 X5 X6 X7 (ix3 b s l) = x l) :
    val_main_v53 (F := Ideal) X0 X1 X2 X4 X5 X6 X7 X8 (ix3 b s l) = rms c1024 x (fun l => X8 (ix2 0 l)) l := by
  pointwise [val_main_v40, val_main_v41, val_main_v42, val_main_v43, val_main_v44, val_main_v45, val_main_v46, val_main_v47, val_main_v48,
    val_main_v49, val_main_v50, val_main_v51, val_main_v52, val_main_v53, val_main_cst_5, val_main_cst_6, val_main_cst_7]
  simp only [hx]
  rfl

/-- The gated hidden units. -/
theorem v59_at (b : Fin 8) (s : Fin 2048) (j : Fin 2816) (h : Fin 1024 → EReal)
    (hh : ∀ l, val_main_v53 (F := Ideal) X0 X1 X2 X4 X5 X6 X7 X8 (ix3 b s l) = h l) :
    val_main_v59 (F := Ideal) X0 X1 X2 X4 X5 X6 X7 X8 X9 X10 (ix3 b s j)
      = act h (fun k j => X9 (ix3 0 k j)) (fun k j => X10 (ix3 0 k j)) j := by
  pointwise [val_main_v54, val_main_v55, val_main_v56, val_main_v57, val_main_v58, val_main_v59, val_main_call0_v0, val_main_call0_v1, val_main_call0_v2,
    val_main_call0_v3, val_main_call0_v4, val_main_call0_v5, val_main_call0_cst, val_main_call0_cst_0]
  simp only [hh]
  rfl

/-- The row after the feed-forward block. -/
theorem v62_at (b : Fin 8) (s : Fin 2048) (l : Fin 1024) (x : Fin 1024 → EReal) (a : Fin 2816 → EReal)
    (hx : ∀ l, val_main_v39 (F := Ideal) X0 X1 X2 X4 X5 X6 X7 (ix3 b s l) = x l)
    (ha : ∀ j, val_main_v59 (F := Ideal) X0 X1 X2 X4 X5 X6 X7 X8 X9 X10 (ix3 b s j) = a j) :
    val_main_v62 (F := Ideal) X0 X1 X2 X4 X5 X6 X7 X8 X9 X10 X11 (ix3 b s l) = x l + vm a (fun j l => X11 (ix3 0 j l)) l := by
  pointwise [val_main_v60, val_main_v61, val_main_v62]
  simp only [hx, ha]
  rfl

/-- Normalised before the embedding's gate. -/
theorem v76_at (b : Fin 8) (s : Fin 2048) (l : Fin 1024) (x : Fin 1024 → EReal)
    (hx : ∀ l, val_main_v62 (F := Ideal) X0 X1 X2 X4 X5 X6 X7 X8 X9 X10 X11 (ix3 b s l) = x l) :
    val_main_v76 (F := Ideal) X0 X1 X2 X4 X5 X6 X7 X8 X9 X10 X11 X12 (ix3 b s l) = rms c1024 x (fun l => X12 (ix2 0 l)) l := by
  pointwise [val_main_v63, val_main_v64, val_main_v65, val_main_v66, val_main_v67, val_main_v68, val_main_v69, val_main_v70, val_main_v71,
    val_main_v72, val_main_v73, val_main_v74, val_main_v75, val_main_v76, val_main_cst_8, val_main_cst_9, val_main_cst_10]
  simp only [hx]
  rfl

/-- The row after the embedding. -/
theorem v88_at (b : Fin 8) (s : Fin 2048) (l : Fin 1024) (x y : Fin 1024 → EReal)
    (hx : ∀ l, val_main_v62 (F := Ideal) X0 X1 X2 X4 X5 X6 X7 X8 X9 X10 X11 (ix3 b s l) = x l)
    (hy : ∀ l, val_main_v76 (F := Ideal) X0 X1 X2 X4 X5 X6 X7 X8 X9 X10 X11 X12 (ix3 b s l) = y l) :
    val_main_v88 (F := Ideal) X0 X1 X2 X3 X4 X5 X6 X7 X8 X9 X10 X11 X12 X13 X14 (ix3 b s l)
      = x l + lg (vm y (fun j l => X13 (ix3 0 j l)) l) * vm (fun k => X3 (ix4 0 b s k)) (fun k l => X14 (ix3 0 k l)) l := by
  pointwise [val_main_v0, val_main_v77, val_main_v78, val_main_v79, val_main_v80, val_main_v81, val_main_v82, val_main_v83, val_main_v84,
    val_main_v85, val_main_v86, val_main_v87, val_main_v88, val_main_cst_11, val_main_cst_12]
  simp only [hx, hy]
  rfl

/-- The last normalisation. -/
theorem v101_at (b : Fin 8) (s : Fin 2048) (l : Fin 1024) (x : Fin 1024 → EReal)
    (hx : ∀ l, val_main_v88 (F := Ideal) X0 X1 X2 X3 X4 X5 X6 X7 X8 X9 X10 X11 X12 X13 X14 (ix3 b s l) = x l) :
    val_main_v101 (F := Ideal) X0 X1 X2 X3 X4 X5 X6 X7 X8 X9 X10 X11 X12 X13 X14 X15 (ix3 b s l) = rms c1024 x (fun l => X15 (ix1 l)) l := by
  pointwise [val_main_v89, val_main_v90, val_main_v91, val_main_v92, val_main_v93, val_main_v94, val_main_v95, val_main_v96, val_main_v97,
    val_main_v98, val_main_v99, val_main_v100, val_main_v101, val_main_cst_13, val_main_cst_14, val_main_cst_15]
  simp only [hx]
  rfl

/-- What the tail makes of token `s` of sequence `b`, from the arrays. -/
def outAt (b : Fin 8) (s : Fin 2048) : Fin 1024 → EReal :=
  tailRow (fun l => X0 (ix3 b s l)) (fun l => X1 (ix2 ⟨b.val * 2048 + s.val, by omega⟩ l))
    (fun h c => X2 (ix3 h ⟨b.val * 2048 + s.val, by omega⟩ c)) (fun k => X3 (ix4 0 b s k)) (fun c h v => X4 (ix4 0 c h v))
    (fun l => X5 (ix2 0 l)) (fun l => X6 (ix2 0 l)) (fun j l => X7 (ix3 0 j l)) (fun l => X8 (ix2 0 l)) (fun k j => X9 (ix3 0 k j))
    (fun k j => X10 (ix3 0 k j)) (fun j l => X11 (ix3 0 j l)) (fun l => X12 (ix2 0 l)) (fun j l => X13 (ix3 0 j l))
    (fun k l => X14 (ix3 0 k l)) (fun l => X15 (ix1 l))

/-- The reference's result is the tail of each token's row. -/
theorem v102_at (r : Fin 16384) (l : Fin 1024) :
    val_main_v102 (F := Ideal) X0 X1 X2 X3 X4 X5 X6 X7 X8 X9 X10 X11 X12 X13 X14 X15 (ix2 r l)
      = outAt X0 X1 X2 X3 X4 X5 X6 X7 X8 X9 X10 X11 X12 X13 X14 X15 ⟨r.val / 2048, by omega⟩ ⟨r.val % 2048, by omega⟩ l := by
  pointwise [val_main_v102]
  have h1 := fun (b : Fin 8) (s : Fin 2048) l => v39_at X0 X1 X2 X4 X5 X6 X7 b s l _
    fun l => v36_at X1 X2 X4 X5 X6 b s l _ _ (v21_at X1 X5 b s) fun l => v35_at X2 X4 X6 b s l _ (v6_at X2 X4 b s)
  have h2 := fun (b : Fin 8) (s : Fin 2048) l => v62_at X0 X1 X2 X4 X5 X6 X7 X8 X9 X10 X11 b s l _ _ (h1 b s)
    fun j => v59_at X0 X1 X2 X4 X5 X6 X7 X8 X9 X10 b s j _ fun l => v53_at X0 X1 X2 X4 X5 X6 X7 X8 b s l _ (h1 b s)
  have h3 := fun (b : Fin 8) (s : Fin 2048) l => v88_at X0 X1 X2 X3 X4 X5 X6 X7 X8 X9 X10 X11 X12 X13 X14 b s l _ _ (h2 b s)
    fun l => v76_at X0 X1 X2 X4 X5 X6 X7 X8 X9 X10 X11 X12 b s l _ (h2 b s)
  refine (v101_at X0 X1 X2 X3 X4 X5 X6 X7 X8 X9 X10 X11 X12 X13 X14 X15 _ _ l _ (h3 _ _)).trans ?_
  rfl
end Cert.TailRef
-- ==== Proof.TailArray.lean ====
module
public import proofs.«01_k».proof.Proof.Gen.Kernel2Ideal.Value
public import proofs.«01_k».proof.Proof.TailPay
public import proofs.«01_k».proof.Proof.TailBlk
public import proofs.«01_k».proof.Proof.TailRef
public import Idealize.ShloMosaic.Lib.Pipeline.ValueKit
public import Idealize.ShloMosaic.Lib.Pipeline.ReadBack
public import Idealize.ShloMosaic.Lib.Pointwise
/-! What the tail's kernel leaves in its result array. -/
@[expose] public section
set_option maxRecDepth 16384
noncomputable section
open Idealize.ShloMosaic Idealize.ShloMosaic.TcCoe Idealize.SL.Sem
open Idealize.ShloMosaic.Pipeline (Dat)
open Cert.Kernel2Ideal Cert.Kernel2Ideal.Gen
namespace Cert.TailArray
open Cert.Tail Cert.TailBlk Cert.TailPay
variable (m : (ℓ : Loc nD τ sig) → Buf (Elt Ideal) ℓ)

/-- The token's row after the output projection. -/
def rowX1 (c : Dev nD) (R : Fin 16384) : Fin 1024 → EReal :=
  x1 (fun l => A0 m c (ix3 ⟨R.val / 2048, by omega⟩ ⟨R.val % 2048, by omega⟩ l)) (fun l => A1 m c (ix2 R l))
    (mlaO (fun h k => A2 m c (ix3 h R k)) (fun k h v => A4 m c (ix4 0 k h v))) (fun l => A5 m c (ix2 0 l)) (fun l => A6 m c (ix2 0 l))
    (fun j l => A7 m c (ix3 0 j l))

/-- The token's row normalised before the feed-forward block. -/
def rowH (c : Dev nD) (R : Fin 16384) : Fin 1024 → EReal := rms c1024 (rowX1 m c R) (fun l => A8 m c (ix2 0 l))

/-- One hidden unit's share of the feed-forward block's output. -/
def term (c : Dev nD) (R : Fin 16384) (l : Fin 1024) (j : Fin 2816) : EReal :=
  act (rowH m c R) (fun k j => A9 m c (ix3 0 k j)) (fun k j => A10 m c (ix3 0 k j)) j * A11 m c (ix3 0 j l)

/-- The token of row `r` of the block at point `t`. -/
abbrev rowAt (t : Fin cfg0.N) (r : Fin 256) : Fin 16384 := ⟨256 * (t.val / 2) + r.val, by have := lt_of_lt_of_eq t.isLt N_0; omega⟩

/-- The piece of the latent rows that belongs to a head. -/
theorem ld_at (B : Vec Ideal S8x256x128 .f32) (h : ℕ) (hh : h < 8) (inb) (r : Fin 256) (x : Fin 128) :
    View.ld B (Rect.unit (s := S8x256x128) ![h, 0, 0] ![1, 256, 128] inb) (ix3 0 r x) = B (ix3 ⟨h, hh⟩ r x) := by
  refine View.ld_unit_apply_of B _ _ inb _ _ fun a => ?_
  fin_cases a
  · rfl
  · exact (Nat.zero_add _).symm
  · exact (Nat.zero_add _).symm

/-- The latent attention's values of the block at a point. -/
abbrev MO (c : Dev nD) (t : Fin cfg0.N) : FVec Ideal S256x512 .f32 :=
  k0_pay5 (F := Ideal) (View.ld (iblk m c 2 t) (Rect.unit ![0, 0, 0] ![1, 256, 128] inb_S8x256x128_S1x256x128_0_0_0))
    (View.ld (iblk m c 2 t) (Rect.unit ![1, 0, 0] ![1, 256, 128] inb_S8x256x128_S1x256x128_1_0_0))
    (View.ld (iblk m c 2 t) (Rect.unit ![2, 0, 0] ![1, 256, 128] inb_S8x256x128_S1x256x128_2_0_0))
    (View.ld (iblk m c 2 t) (Rect.unit ![3, 0, 0] ![1, 256, 128] inb_S8x256x128_S1x256x128_3_0_0))
    (View.ld (iblk m c 2 t) (Rect.unit ![4, 0, 0] ![1, 256, 128] inb_S8x256x128_S1x256x128_4_0_0))
    (View.ld (iblk m c 2 t) (Rect.unit ![5, 0, 0] ![1, 256, 128] inb_S8x256x128_S1x256x128_5_0_0))
    (View.ld (iblk m c 2 t) (Rect.unit ![6, 0, 0] ![1, 256, 128] inb_S8x256x128_S1x256x128_6_0_0))
    (View.ld (iblk m c 2 t) (Rect.unit ![7, 0, 0] ![1, 256, 128] inb_S8x256x128_S1x256x128_7_0_0))
    (iblk m c 6 t)

theorem mo_at (c : Dev nD) (t : Fin cfg0.N) (r : Fin 256) (k : Fin 512) :
    MO m c t (ix2 r k) = mlaO (fun h k => A2 m c (ix3 h (rowAt t r) k)) (fun k h v => A4 m c (ix4 0 k h v)) k := by
  have hb := fun h x => blk2 m c t h r x
  exact pay5_at8 _ _ _ _ _ _ _ _ (iblk m c 6 t) r k _ _
    (fun x => (ld_at (iblk m c 2 t) 0 (by decide) inb_S8x256x128_S1x256x128_0_0_0 r x).trans (hb 0 x))
    (fun x => (ld_at (iblk m c 2 t) 1 (by decide) inb_S8x256x128_S1x256x128_1_0_0 r x).trans (hb 1 x))
    (fun x => (ld_at (iblk m c 2 t) 2 (by decide) inb_S8x256x128_S1x256x128_2_0_0 r x).trans (hb 2 x))
    (fun x => (ld_at (iblk m c 2 t) 3 (by decide) inb_S8x256x128_S1x256x128_3_0_0 r x).trans (hb 3 x))
    (fun x => (ld_at (iblk m c 2 t) 4 (by decide) inb_S8x256x128_S1x256x128_4_0_0 r x).trans (hb 4 x))
    (fun x => (ld_at (iblk m c 2 t) 5 (by decide) inb_S8x256x128_S1x256x128_5_0_0 r x).trans (hb 5 x))
    (fun x => (ld_at (iblk m c 2 t) 6 (by decide) inb_S8x256x128_S1x256x128_6_0_0 r x).trans (hb 6 x))
    (fun x => (ld_at (iblk m c 2 t) 7 (by decide) inb_S8x256x128_S1x256x128_7_0_0 r x).trans (hb 7 x))
    (fun k' => blk6 m c t k' k)

/-- The rows after the output projection of the block at a point. -/
abbrev X1 (c : Dev nD) (t : Fin cfg0.N) : FVec Ideal S256x1024 .f32 :=
  k0_pay8 (F := Ideal) (MO m c t) (iblk m c 1 t) (k0_pay6 (iblk m c 4 t)) (k0_pay7 (iblk m c 1 t)) (FloatOps.ofBits .f32 0x44000000#32)
    (iblk m c 5 t) (iblk m c 0 t) (iblk m c 7 t)

theorem x1_at (c : Dev nD) (t : Fin cfg0.N) (r : Fin 256) (l : Fin 1024) : X1 m c t (ix2 r l) = rowX1 m c (rowAt t r) l :=
  pay8_at (MO m c t) (iblk m c 1 t) (iblk m c 4 t) (iblk m c 5 t) (iblk m c 0 t) (iblk m c 7 t) r l _ _ _ _ _ _
    (blk0 m c t r) (blk1 m c t r) (mo_at m c t r) (blk4 m c t) (blk5 m c t) (blk7 m c t)

/-- The normalised rows of the block at a point. -/
abbrev H1 (c : Dev nD) (t : Fin cfg0.N) : FVec Ideal S256x1024 .bf16 :=
  k0_pay1 (F := Ideal) (X1 m c t) (k0_pay10 (iblk m c 8 t))
    (k0_pay11 (MO m c t) (iblk m c 1 t) (k0_pay6 (iblk m c 4 t)) (k0_pay7 (iblk m c 1 t)) (FloatOps.ofBits .f32 0x44000000#32)
      (iblk m c 5 t) (iblk m c 0 t) (iblk m c 7 t)) (FloatOps.ofBits .f32 0x358637BD#32)

theorem h1_at (c : Dev nD) (t : Fin cfg0.N) (r : Fin 256) (l : Fin 1024) : H1 m c t (ix2 r l) = rowH m c (rowAt t r) l :=
  pay1_at (MO m c t) (iblk m c 1 t) (k0_pay6 (iblk m c 4 t)) (k0_pay7 (iblk m c 1 t)) _ (iblk m c 5 t) (iblk m c 0 t) (iblk m c 7 t)
    (iblk m c 8 t) r l _ _ (x1_at m c t r) (blk8 m c t)

/-- A point's half of the feed-forward block, over rows `h` and what was added up before. -/
theorem ffn_at (c : Dev nD) (t : Fin cfg0.N) (o : ℕ) (ho : t.val % 2 = o) (R : Fin 16384) (h : Vec Ideal S256x1024 .bf16) (acc : Vec Ideal S256x1024 .f32)
    (r : Fin 256) (l : Fin 1024) (hh : ∀ k, h (ix2 r k) = rowH m c R k) :
    k0_pay3 (F := Ideal) h (iblk m c 9 t) (iblk m c 10 t) acc (iblk m c 11 t) (ix2 r l)
      = acc (ix2 r l) + ∑ j : Fin 1408, term m c R l ⟨1408 * o + j.val, by omega⟩ := by
  subst ho
  exact pay3_at h (iblk m c 9 t) (iblk m c 10 t) acc (iblk m c 11 t) r l (1408 * (t.val % 2)) (by omega) (rowH m c R) (fun k j => A9 m c (ix3 0 k j))
    (fun k j => A10 m c (ix3 0 k j)) (fun j l => A11 m c (ix3 0 j l)) hh (blk9 m c t) (blk10 m c t) (blk11 m c t)

/-- What an even point leaves in the first scratch buffer. -/
theorem even1 (c : Dev nD) (t : Fin cfg0.N) (h0 : t.val % 2 = 0) : (outsAt0 m c t.val t.isLt).2.1
    = k0_pay9 (F := Ideal) (MO m c t) (iblk m c 1 t) (k0_pay6 (iblk m c 4 t)) (k0_pay7 (iblk m c 1 t)) (FloatOps.ofBits .f32 0x44000000#32)
        (iblk m c 5 t) (iblk m c 0 t) (iblk m c 7 t) := by
  rw [outsAt0_A m c t h0 (by omega)]
  frame_out
  rfl

/-- What an even point leaves in the second. -/
theorem even2 (c : Dev nD) (t : Fin cfg0.N) (h0 : t.val % 2 = 0) : (outsAt0 m c t.val t.isLt).2.2.1 = H1 m c t := by
  rw [outsAt0_A m c t h0 (by omega)]
  frame_out
  rfl

/-- What an even point leaves in the third. -/
theorem even3 (c : Dev nD) (t : Fin cfg0.N) (h0 : t.val % 2 = 0) : (outsAt0 m c t.val t.isLt).2.2.2
    = k0_pay3 (F := Ideal) (H1 m c t) (iblk m c 9 t) (iblk m c 10 t) (k0_pay2 (F := Ideal)) (iblk m c 11 t) := by
  rw [outsAt0_A m c t h0 (by omega)]
  frame_out
  rfl

/-- What an odd point leaves in the output's buffer, over what the point before left. -/
theorem odd (c : Dev nD) (t : Fin cfg0.N) (h1 : t.val % 2 = 1) (r : Fin 256) (l : Fin 1024)
    (x acc : Vec Ideal S256x1024 .f32) (h : Vec Ideal S256x1024 .bf16)
    (hlt : t.val - 1 < cfg0.N)
    (ex : (outsAt0 m c (t.val - 1) hlt).2.1 = x) (eh : (outsAt0 m c (t.val - 1) hlt).2.2.1 = h) (ea : (outsAt0 m c (t.val - 1) hlt).2.2.2 = acc) :
    (outsAt0 m c t.val t.isLt).1
      = k0_pay4 (F := Ideal) (k0_pay12 x (k0_pay3 h (iblk m c 9 t) (iblk m c 10 t) acc (iblk m c 11 t)) (iblk m c 12 t) (iblk m c 13 t) (iblk m c 3 t) (iblk m c 14 t))
          (k0_pay13 (iblk m c 15 t))
          (k0_pay14 x (k0_pay3 h (iblk m c 9 t) (iblk m c 10 t) acc (iblk m c 11 t)) (iblk m c 12 t) (iblk m c 13 t) (iblk m c 3 t) (iblk m c 14 t)) k0_pay15 := by
  rw [outsAt0_B m c t (by omega) h1]
  frame_out
  simp only [read_unread_whole]
  rw [ex, eh, ea]

/-- What an odd point writes at an index of its block is the tail of the token's row. -/
theorem point (c : Dev nD) (t : Fin cfg0.N) (h1 : t.val % 2 = 1) (r : Fin 256) (l : Fin 1024) :
    (show FVec Ideal S256x1024 .f32 from (outsAt0 m c t.val t.isLt).1) (ix2 r l)
      = TailRef.outAt (A0 m c) (A1 m c) (A2 m c) (A3 m c) (A4 m c) (A5 m c) (A6 m c) (A7 m c) (A8 m c) (A9 m c) (A10 m c) (A11 m c) (A12 m c) (A13 m c)
          (A14 m c) (A15 m c) ⟨(rowAt t r).val / 2048, by have := (rowAt t r).isLt; omega⟩ ⟨(rowAt t r).val % 2048, by omega⟩ l := by
  have hlt : t.val - 1 < cfg0.N := by have := t.isLt; omega
  have h0 : (⟨t.val - 1, hlt⟩ : Fin cfg0.N).val % 2 = 0 := show (t.val - 1) % 2 = 0 by omega
  have er : rowAt ⟨t.val - 1, hlt⟩ r = rowAt t r := Fin.ext (show 256 * ((t.val - 1) / 2) + r.val = 256 * (t.val / 2) + r.val by omega)
  have e := odd m c t h1 r l _ _ _ hlt (even1 m c ⟨t.val - 1, hlt⟩ h0) (even2 m c ⟨t.val - 1, hlt⟩ h0) (even3 m c ⟨t.val - 1, hlt⟩ h0)
  refine (congrFun e (ix2 r l)).trans ?_
  clear e
  refine (pay4_at _ _ (iblk m c 12 t) (iblk m c 13 t) (iblk m c 3 t) (iblk m c 14 t) (iblk m c 15 t) r l
    (x3 (x2 (rowX1 m c (rowAt t r)) (rowH m c (rowAt t r)) (fun k j => A9 m c (ix3 0 k j)) (fun k j => A10 m c (ix3 0 k j)) (fun j l => A11 m c (ix3 0 j l)))
      (fun l => A12 m c (ix2 0 l)) (fun j l => A13 m c (ix3 0 j l))
      (fun k => A3 m c (ix4 0 ⟨(rowAt t r).val / 2048, by have := (rowAt t r).isLt; omega⟩ ⟨(rowAt t r).val % 2048, by omega⟩ k)) (fun k l => A14 m c (ix3 0 k l)))
    _ (fun l => ?_) (blk15 m c t)).trans ?_
  · refine pay12_at _ _ (iblk m c 12 t) (iblk m c 13 t) (iblk m c 3 t) (iblk m c 14 t) r l
      (x2 (rowX1 m c (rowAt t r)) (rowH m c (rowAt t r)) (fun k j => A9 m c (ix3 0 k j)) (fun k j => A10 m c (ix3 0 k j)) (fun j l => A11 m c (ix3 0 j l)))
      _ _ _ _ (fun l => ?_) (blk12 m c t) (blk13 m c t) (blk3 m c t r) (blk14 m c t)
    have e1 := (pay9_eq (MO m c ⟨t.val - 1, hlt⟩) (iblk m c 1 ⟨t.val - 1, hlt⟩) (k0_pay6 (iblk m c 4 ⟨t.val - 1, hlt⟩)) (k0_pay7 (iblk m c 1 ⟨t.val - 1, hlt⟩))
      (FloatOps.ofBits .f32 0x44000000#32) (iblk m c 5 ⟨t.val - 1, hlt⟩) (iblk m c 0 ⟨t.val - 1, hlt⟩) (iblk m c 7 ⟨t.val - 1, hlt⟩) r l).trans
      (x1_at m c ⟨t.val - 1, hlt⟩ r l)
    have hh : ∀ k, H1 m c ⟨t.val - 1, hlt⟩ (ix2 r k) = rowH m c (rowAt t r) k := fun k => (h1_at m c ⟨t.val - 1, hlt⟩ r k).trans (by rw [er])
    have e3 := (ffn_at m c t 1 h1 (rowAt t r) _ _ r l hh).trans
      (congrArg (· + _) (ffn_at m c ⟨t.val - 1, hlt⟩ 0 h0 (rowAt t r) _ (k0_pay2 (F := Ideal)) r l hh))
    rw [er] at e1
    refine (congrArg₂ (· + ·) e1 e3).trans ?_
    rw [pay2_at, zero_add]
    unfold x2 vm
    rw [sum_halves]
    refine congrArg (rowX1 m c (rowAt t r) l + ·) (congrArg₂ (· + ·) (Finset.sum_congr rfl fun j _ => ?_) (Finset.sum_congr rfl fun j _ => ?_))
    · exact congrArg (term m c (rowAt t r) l) (Fin.ext (by show 1408 * 0 + j.val = j.val; omega))
    · exact congrArg (term m c (rowAt t r) l) (Fin.ext (by show 1408 * 1 + j.val = 1408 + j.val; omega))
  · have eR : (⟨(rowAt t r).val / 2048 * 2048 + (rowAt t r).val % 2048, by have := (rowAt t r).isLt; omega⟩ : Fin 16384) = rowAt t r :=
      Fin.ext (by show _ / 2048 * 2048 + _ % 2048 = _; omega)
    unfold TailRef.outAt tailRow
    dsimp only
    rw [eR]
    rfl

/-- The result array after the run. -/
theorem final (c : Dev nD) (r : Fin 16384) (l : Fin 1024) :
    (show FVec Ideal S16384x1024 .f32 from (dats m 0 c).arrAt 16 (cfgs 0).N) (ix2 r l)
      = TailRef.outAt (A0 m c) (A1 m c) (A2 m c) (A3 m c) (A4 m c) (A5 m c) (A6 m c) (A7 m c) (A8 m c) (A9 m c) (A10 m c) (A11 m c) (A12 m c) (A13 m c)
          (A14 m c) (A15 m c) ⟨r.val / 2048, by omega⟩ ⟨r.val % 2048, by omega⟩ l := by
  refine congrFun (f := (dats m 0 c).arrAt 16 (cfgs 0).N) (g := fun i => TailRef.outAt (A0 m c) (A1 m c) (A2 m c) (A3 m c) (A4 m c) (A5 m c) (A6 m c) (A7 m c) (A8 m c) (A9 m c) (A10 m c) (A11 m c) (A12 m c) (A13 m c)
          (A14 m c) (A15 m c) ⟨(i 0).val / 2048, by have : (i 0).val < 16384 := (i 0).isLt; omega⟩ ⟨(i 0).val % 2048, by omega⟩ ⟨(i 1).val, (i 1).isLt⟩) ?_ (ix2 r l)
  refine (dats m 0 c).arrAt_eq_of_covers 16 _ (by decide +kernel) fun t hf y => ?_
  have h1 := (flush0_16 t).1 hf
  blk_simp
  rw [after0_16]
  idx_vars y
  refine (point m c t h1 y0 y1).trans ?_
  obtain ⟨-, -, -, -, -, -, -, -, -, -, -, -, -, -, -, -, h16, ht⟩ := idx t
  blk_simp [h16]
  have e : 256 * (t.val / 2) + y0.val = t.val / 2 * 256 + y0.val := by omega
  simp only [e]
end Cert.TailArray
-- ==== Proof.TailClaim.lean ====
/- The tail of the layer: the kernel and the reference end with the same array. -/
module

public import proofs.«01_k».proof.Defs
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.TailArray
public import proofs.«01_k».proof.Proof.TailRef
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.TailClaim

open Cert.TailBlk

/-- The reference runs, leaves its arguments and every counter. -/
theorem reference_frame : Cert.quiescent_Reference2Ideal := by
  intro m g _
  exact (θ_run Cert.Reference2Ideal.defs _ _).mono (fun r h => ⟨fun c => (h c).2, sem_eq_zero_of_no_sems (by decide) r.2⟩) (Cert.Reference2Ideal.Value.run m g)

/-- The tail over the whole arrays. -/
def out (X0 : FVec Ideal Cert.Kernel2Ideal.S8x2048x1024 .f32) (X1 : FVec Ideal Cert.Kernel2Ideal.S16384x512 .f32) (X2 : FVec Ideal Cert.Kernel2Ideal.S8x16384x128 .f32)
    (X3 : FVec Ideal Cert.Kernel2Ideal.S1x8x2048x256 .f32) (X4 : FVec Ideal Cert.Kernel2Ideal.S1x128x8x64 .f32) (X5 X6 : FVec Ideal Cert.Kernel2Ideal.S1x512 .f32)
    (X7 : FVec Ideal Cert.Kernel2Ideal.S1x1024x1024 .f32) (X8 : FVec Ideal Cert.Kernel2Ideal.S1x1024 .f32) (X9 X10 : FVec Ideal Cert.Kernel2Ideal.S1x1024x2816 .f32)
    (X11 : FVec Ideal Cert.Kernel2Ideal.S1x2816x1024 .f32) (X12 : FVec Ideal Cert.Kernel2Ideal.S1x1024 .f32) (X13 : FVec Ideal Cert.Kernel2Ideal.S1x1024x1024 .f32)
    (X14 : FVec Ideal Cert.Kernel2Ideal.S1x256x1024 .f32) (X15 : FVec Ideal Cert.Kernel2Ideal.S1024 .f32) : FVec Ideal Cert.Kernel2Ideal.S16384x1024 .f32 := fun i =>
  Cert.TailRef.outAt X0 X1 X2 X3 X4 X5 X6 X7 X8 X9 X10 X11 X12 X13 X14 X15 ⟨(i 0).val / 2048, by have : (i 0).val < 16384 := (i 0).isLt; omega⟩
    ⟨(i 0).val % 2048, by omega⟩ (i 1)

/-- Equal arguments give equal entries. -/
theorem out_congr {X0 : FVec Ideal Cert.Kernel2Ideal.S8x2048x1024 .f32} {X1 : FVec Ideal Cert.Kernel2Ideal.S16384x512 .f32} {X2 : FVec Ideal Cert.Kernel2Ideal.S8x16384x128 .f32}
    {X3 : FVec Ideal Cert.Kernel2Ideal.S1x8x2048x256 .f32} {X4 : FVec Ideal Cert.Kernel2Ideal.S1x128x8x64 .f32} {X5 X6 : FVec Ideal Cert.Kernel2Ideal.S1x512 .f32}
    {X7 : FVec Ideal Cert.Kernel2Ideal.S1x1024x1024 .f32} {X8 : FVec Ideal Cert.Kernel2Ideal.S1x1024 .f32} {X9 X10 : FVec Ideal Cert.Kernel2Ideal.S1x1024x2816 .f32}
    {X11 : FVec Ideal Cert.Kernel2Ideal.S1x2816x1024 .f32} {X12 : FVec Ideal Cert.Kernel2Ideal.S1x1024 .f32} {X13 : FVec Ideal Cert.Kernel2Ideal.S1x1024x1024 .f32}
    {X14 : FVec Ideal Cert.Kernel2Ideal.S1x256x1024 .f32} {X15 : FVec Ideal Cert.Kernel2Ideal.S1024 .f32} {Y0 : FVec Ideal Cert.Kernel2Ideal.S8x2048x1024 .f32} {Y1 : FVec Ideal Cert.Kernel2Ideal.S16384x512 .f32} {Y2 : FVec Ideal Cert.Kernel2Ideal.S8x16384x128 .f32}
    {Y3 : FVec Ideal Cert.Kernel2Ideal.S1x8x2048x256 .f32} {Y4 : FVec Ideal Cert.Kernel2Ideal.S1x128x8x64 .f32} {Y5 Y6 : FVec Ideal Cert.Kernel2Ideal.S1x512 .f32}
    {Y7 : FVec Ideal Cert.Kernel2Ideal.S1x1024x1024 .f32} {Y8 : FVec Ideal Cert.Kernel2Ideal.S1x1024 .f32} {Y9 Y10 : FVec Ideal Cert.Kernel2Ideal.S1x1024x2816 .f32}
    {Y11 : FVec Ideal Cert.Kernel2Ideal.S1x2816x1024 .f32} {Y12 : FVec Ideal Cert.Kernel2Ideal.S1x1024 .f32} {Y13 : FVec Ideal Cert.Kernel2Ideal.S1x1024x1024 .f32}
    {Y14 : FVec Ideal Cert.Kernel2Ideal.S1x256x1024 .f32} {Y15 : FVec Ideal Cert.Kernel2Ideal.S1024 .f32}
    (h0 : Y0 = X0) (h1 : Y1 = X1) (h2 : Y2 = X2) (h3 : Y3 = X3) (h4 : Y4 = X4) (h5 : Y5 = X5) (h6 : Y6 = X6) (h7 : Y7 = X7) (h8 : Y8 = X8) (h9 : Y9 = X9) (h10 : Y10 = X10) (h11 : Y11 = X11) (h12 : Y12 = X12) (h13 : Y13 = X13) (h14 : Y14 = X14) (h15 : Y15 = X15) (r : Fin 16384) (l : Fin 1024) :
    Cert.TailRef.outAt Y0 Y1 Y2 Y3 Y4 Y5 Y6 Y7 Y8 Y9 Y10 Y11 Y12 Y13 Y14 Y15 ⟨r.val / 2048, by omega⟩ ⟨r.val % 2048, by omega⟩ l = out X0 X1 X2 X3 X4 X5 X6 X7 X8 X9 X10 X11 X12 X13 X14 X15 (ix2 r l) := by
  subst h0 h1 h2 h3 h4 h5 h6 h7 h8 h9 h10 h11 h12 h13 h14 h15
  rfl

/-- Over the extended reals kernel and reference end with the same array. -/
theorem algebraic : Cert.algebraic_Kernel2Ideal_Reference2Ideal := by
  intro m g m' g' hpre hargs
  refine ⟨fun c => out (A0 m c) (A1 m c) (A2 m c) (A3 m c) (A4 m c) (A5 m c) (A6 m c) (A7 m c) (A8 m c) (A9 m c) (A10 m c) (A11 m c) (A12 m c) (A13 m c) (A14 m c) (A15 m c), ?_, ?_⟩
  · refine (θ_run Cert.Kernel2Ideal.defs _ _).mono (fun r h c => ⟨(h c).1.trans ?_, (h c).2⟩) (Cert.Kernel2Ideal.Value.run_blocks m g)
    funext i
    obtain ⟨r, l, rfl⟩ : ∃ (r : Fin 16384) (l : Fin 1024), i = ix2 r l := ⟨i 0, i 1, eq_ix2 i⟩
    exact Cert.TailArray.final m c r l
  · refine (θ_run Cert.Reference2Ideal.defs _ _).mono (fun r h c => ⟨(h c).1.trans ?_, (h c).2⟩) (Cert.Reference2Ideal.Value.run m' g')
    refine (Cert.Reference2Ideal.Read.val_main_v102_eq _).trans ?_
    funext i
    obtain ⟨r, l, rfl⟩ : ∃ (r : Fin 16384) (l : Fin 1024), i = ix2 r l := ⟨i 0, i 1, eq_ix2 i⟩
    refine (Cert.TailRef.v102_at _ _ _ _ _ _ _ _ _ _ _ _ _ _ _ _ r l).trans ?_
    obtain ⟨a0, a1, a2, a3, a4, a5, a6, a7, a8, a9, a10, a11, a12, a13, a14, a15⟩ := hargs c
    exact out_congr (a0) (a1) (a2) (a3) (a4) (a5) (a6) (a7) (a8) (a9) (a10) (a11) (a12) (a13) (a14) (a15) r l

end Cert.TailClaim
-- ==== Proof.MixMath.lean ====
module
public import proofs.«01_k».proof.Proof.TailMath
/-! One token's row through the mixer's inputs, over the extended reals. -/
@[expose] public section
set_option maxRecDepth 16384
noncomputable section
open Idealize.ShloMosaic
namespace Cert.Mix
open Cert.Tail

/-- The mean square's number of entries: 256. -/
def c256 : EReal := Ideal.ofBits .f32 0x43800000#32
/-- The mean square's number of entries: 128. -/
def c128 : EReal := Ideal.ofBits .f32 0x43000000#32
/-- The queries' scale, an eighth. -/
def scale : EReal := Ideal.ofBits .f32 0x3E000000#32

/-- The angle of position `s` in pair `j`: the position times 10000 to the power -2j/32. -/
def ang (s : Fin 2048) (j : Fin 16) : EReal :=
  FloatOps.sitofp (F := Ideal) FTy.f32 (BitVec.ofNat 32 s.val) * Ideal.pow (Ideal.ofBits .f32 0x461C4000#32)
    (Ideal.div (Ideal.ofBits .f32 0xC0000000#32 * FloatOps.sitofp (F := Ideal) FTy.f32 (BitVec.ofNat 32 j.val)) (Ideal.ofBits .f32 0x42000000#32))
/-- Its cosine. -/
def co (s : Fin 2048) (j : Fin 16) : EReal := Ideal.cos (ang s j)
/-- Its sine. -/
def si (s : Fin 2048) (j : Fin 16) : EReal := Ideal.sin (ang s j)

/-- The rotary step: the two halves of a row turned by the angles. -/
def rope (x : Fin 32 → EReal) (co si : Fin 16 → EReal) (l : Fin 32) : EReal :=
  if h : l.val < 16 then x l * co ⟨l.val, h⟩ - x ⟨l.val + 16, by omega⟩ * si ⟨l.val, h⟩
  else x ⟨l.val - 16, by omega⟩ * si ⟨l.val - 16, by omega⟩ + x l * co ⟨l.val - 16, by omega⟩

/-- The input projection of the normalised row. -/
def proj (x g : Fin 1024 → EReal) (w : Fin 1024 → Fin 1952 → EReal) (l : Fin 1952) : EReal := vm (rms c1024 x g) w l

/-- The queries from the compressed row: eight heads of 64 plain and 32 rotary entries. -/
def qrow (p : Fin 1952 → EReal) (gq : Fin 256 → EReal) (wuq : Fin 256 → Fin 768 → EReal) (l : Fin 768) : EReal :=
  vm (rms c256 (fun k => p ⟨1536 + k.val, by omega⟩) gq) wuq l

/-- A head's plain query through that head's key up-projection. -/
def qlat (q : Fin 768 → EReal) (uk : Fin 128 → Fin 8 → Fin 64 → EReal) (h : Fin 8) (c : Fin 128) : EReal :=
  ∑ n : Fin 64, q ⟨h.val * 96 + n.val, by omega⟩ * uk c h n

/-- A head's rotary query. -/
def qpe (q : Fin 768 → EReal) (co si : Fin 16 → EReal) (h : Fin 8) : Fin 32 → EReal :=
  rope (fun r => q ⟨h.val * 96 + (64 + r.val), by omega⟩) co si

/-- The latent keys. -/
def ckv (p : Fin 1952 → EReal) (gkv : Fin 128 → EReal) : Fin 128 → EReal :=
  rms c128 (fun k => p ⟨1792 + k.val, by omega⟩) gkv

/-- The rotary keys. -/
def kpe (p : Fin 1952 → EReal) (co si : Fin 16 → EReal) : Fin 32 → EReal :=
  rope (fun r => p ⟨1920 + r.val, by omega⟩) co si

/-- A latent row and a rotary row side by side, filled up with zeros. -/
def wide (a : Fin 128 → EReal) (b : Fin 32 → EReal) (l : Fin 256) : EReal :=
  if h : l.val < 128 then a ⟨l.val, h⟩ else if h' : l.val < 160 then b ⟨l.val - 128, by omega⟩ else 0

/-- A row times the matrix filled up with zero columns. -/
theorem vm_pad (x : Fin 1024 → EReal) (w : Fin 1024 → Fin 1952 → EReal) (l : Fin 2048) :
    ∑ k, x k * (if h : l.val < 1952 then w k ⟨l.val, h⟩ else 0) = if h : l.val < 1952 then vm x w ⟨l.val, h⟩ else 0 := by
  split_ifs with h
  · rfl
  · simp

/-- The rotary step over 128 lanes, with the tables filled up with zeros and the halves exchanged: on the first 32 lanes it is `rope`, beyond zero. -/
theorem rope_lanes (x y co si : Fin 128 → EReal) (X : Fin 32 → EReal) (C S : Fin 16 → EReal) (l : Fin 128)
    (hx : ∀ l : Fin 128, x l = if h : l.val < 32 then X ⟨l.val, h⟩ else 0)
    (hy : ∀ l : Fin 128, y l = if h : l.val < 16 then x ⟨l.val + 16, by omega⟩ else x ⟨l.val - 16, by omega⟩)
    (hc : ∀ l : Fin 128, co l = if h : l.val < 16 then C ⟨l.val, h⟩ else if h' : l.val < 32 then C ⟨l.val - 16, by omega⟩ else 0)
    (hs : ∀ l : Fin 128, si l = if h : l.val < 16 then - S ⟨l.val, h⟩ else if h' : l.val < 32 then S ⟨l.val - 16, by omega⟩ else 0) :
    x l * co l + y l * si l = if h : l.val < 32 then rope X C S ⟨l.val, h⟩ else 0 := by
  rw [hc, hs, hy]
  by_cases h16 : l.val < 16
  · have h32 : l.val < 32 := by omega
    simp only [h16, h32, dif_pos, rope]
    rw [hx, hx, dif_pos h32, dif_pos (show l.val + 16 < 32 by omega), mul_neg, sub_eq_add_neg]
  · by_cases h32 : l.val < 32
    · simp only [h16, h32, dif_pos, dif_neg, not_false_eq_true, rope]
      rw [hx, hx, dif_pos h32, dif_pos (show l.val - 16 < 32 by omega), add_comm]
    · simp only [h16, h32, dif_neg, not_false_eq_true, mul_zero, add_zero]

/-- A row of eight stacked pieces of 64 times a matrix that is nonzero only where the piece of the row is the block of the column. -/
theorem sum_block (q : Fin 768 → EReal) (uk : Fin 128 → Fin 8 → Fin 64 → EReal) (y : Fin 512 → EReal) (w : Fin 512 → EReal)
    (h : Fin 8) (c : Fin 128) (hy : ∀ k : Fin 512, y k = q ⟨k.val / 64 * 96 + k.val % 64, by omega⟩)
    (hw : ∀ k : Fin 512, w k = if k.val / 64 = h.val then uk c h ⟨k.val % 64, by omega⟩ else 0) :
    ∑ k, y k * w k = qlat q uk h c := by
  have e : ∑ k : Fin 512, y k * w k = ∑ a : Fin 8, ∑ n : Fin 64,
      if a.val = h.val then q ⟨a.val * 96 + n.val, by omega⟩ * uk c h n else 0 := by
    symm
    refine Fin.sum_mul_add_congr fun a n hl => ?_
    rw [hy, hw]
    have hn := n.isLt
    have h1 : (a.val * 64 + n.val) / 64 = a.val := by omega
    have h2 : (a.val * 64 + n.val) % 64 = n.val := by omega
    simp only [h1, h2]
    split_ifs with hh
    · rfl
    · rw [mul_zero]
  rw [e, Finset.sum_eq_single h]
  · exact Finset.sum_congr rfl fun n _ => if_pos rfl
  · intro a _ hne
    exact Finset.sum_eq_zero fun n _ => if_neg fun hh => hne (Fin.ext hh)
  · intro hh
    exact absurd (Finset.mem_univ _) hh

end Cert.Mix
-- ==== Proof.MixBlk.lean ====
module
public import proofs.«01_k».proof.Proof.Gen.Kernel3Ideal.Value
public import proofs.«01_k».proof.Proof.MixMath
public import Idealize.ShloMosaic.Lib.Pipeline.ValueKit
public import Idealize.ShloMosaic.Lib.Pointwise
public import Idealize.ShloMosaic.Lib.WordCmp
/-! The blocks the mixer inputs' kernel stages, read at an index of the launched arrays. -/
@[expose] public section
set_option maxRecDepth 16384
noncomputable section
open Idealize.ShloMosaic Idealize.ShloMosaic.TcCoe Idealize.SL.Sem
open Idealize.ShloMosaic.Pipeline (Dat)
open Cert.Kernel3Ideal Cert.Kernel3Ideal.Gen
namespace Cert.MixBlk
open Cert.Mix
variable (m : (ℓ : Loc nD τ sig) → Buf (Elt Ideal) ℓ)

/-- The blocks a grid point stages: point `t` is row block `t`, a quarter `t % 4` of a sequence. -/
theorem idx : ∀ t : Fin cfg0.N,
    win0_0.index t = ![t.val, 0] ∧ win0_1.index t = ![t.val % 4, 0] ∧ win0_2.index t = ![t.val % 4, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ t.val < 32 :=
  (by decide +kernel : ∀ t : Fin grid0.N, _)

/-- Where it writes its results. -/
theorem idxo : ∀ t : Fin cfg0.N,
    win0_10.index t = ![t.val, 0] ∧ win0_11.index t = ![t.val, 0] ∧ win0_12.index t = ![t.val, 0] ∧ win0_13.index t = ![t.val, 0]
    ∧ win0_14.index t = ![t.val, 0] ∧ win0_15.index t = ![0, t.val, 0] ∧ win0_16.index t = ![t.val, 0] ∧ win0_17.index t = ![t.val, 0]
    ∧ win0_18.index t = ![t.val, 0] ∧ t.val < 32 :=
  (by decide +kernel : ∀ t : Fin grid0.N, _)

/-- An entry of the identity, as it is made of the two indices' comparison, times a number. -/
theorem eye (a b : ℕ) (ha : a < 1024) (hb : b < 1024) (x : EReal) :
    FloatOps.uitofp (F := Ideal) FTy.f32 (IntOp.cmpi CmpIPredicate.eq (IntOp.addi (BitVec.ofNat 32 a) 0#32) (BitVec.ofNat 32 b)) * x
      = if a = b then x else 0 := by
  have e : IntOp.cmpi CmpIPredicate.eq (IntOp.addi (BitVec.ofNat 32 a) 0#32) (BitVec.ofNat 32 b) = BitVec.ofBool (decide (a = b)) := by
    rw [show IntOp.addi (BitVec.ofNat 32 a) 0#32 = BitVec.ofNat 32 a from BitVec.add_zero _]
    word_cmp
  rw [e]
  by_cases h : a = b
  · rw [if_pos h, decide_eq_true h]
    refine (congrArg (· * x) (?_ : _ = (1 : EReal))).trans (one_mul x)
    show (((1#1 : BitVec 1).toNat : ℝ) : EReal) = 1
    simp
  · rw [if_neg h, decide_eq_false h]
    refine (congrArg (· * x) (?_ : _ = (0 : EReal))).trans (zero_mul x)
    show (((0#1 : BitVec 1).toNat : ℝ) : EReal) = 0
    simp

/-- The arrays as launched. -/
abbrev A0 (c : Dev nD) : FVec Ideal S8x2048x1024 .f32 := m ((c : Thread nD τ).loc main_arg0)
abbrev A1 (c : Dev nD) : FVec Ideal S1024 .f32 := m ((c : Thread nD τ).loc main_arg1)
abbrev A2 (c : Dev nD) : FVec Ideal S1024x1952 .f32 := m ((c : Thread nD τ).loc main_arg2)
abbrev A3 (c : Dev nD) : FVec Ideal S256 .f32 := m ((c : Thread nD τ).loc main_arg3)
abbrev A4 (c : Dev nD) : FVec Ideal S256x768 .f32 := m ((c : Thread nD τ).loc main_arg4)
abbrev A5 (c : Dev nD) : FVec Ideal S128 .f32 := m ((c : Thread nD τ).loc main_arg5)
abbrev A6 (c : Dev nD) : FVec Ideal S128x8x64 .f32 := m ((c : Thread nD τ).loc main_arg6)

/-- The rows. -/
theorem blk0 (c : Dev nD) (t : Fin cfg0.N) (r : Fin 512) (l : Fin 1024) :
    (show FVec Ideal S512x1024 .f32 from iblk m c 0 t) (ix2 r l) = A0 m c (ix3 ⟨(512 * t.val + r.val) / 2048, by have := lt_of_lt_of_eq t.isLt N_0; omega⟩ ⟨(512 * t.val + r.val) % 2048, by omega⟩ l) := by
  obtain ⟨h0, h1, h2, h3, h4, h5, h6, h7, h8, h9, ht⟩ := idx t
  have e : iblk m c 0 t (ix2 r l) = V m c main_v49 (ix2 ⟨512 * t.val + r.val, by have := lt_of_lt_of_eq t.isLt N_0; omega⟩ l) := by blk_ext [iblk, h0]
  refine Eq.trans e ?_
  entry_read
  pointwise

/-- The first normalisation's gains. -/
theorem blk3 (c : Dev nD) (t : Fin cfg0.N) (l : Fin 1024) :
    (show FVec Ideal S1x1024 .f32 from iblk m c 3 t) (ix2 0 l) = A1 m c (ix1 l) := by
  obtain ⟨h0, h1, h2, h3, h4, h5, h6, h7, h8, h9, ht⟩ := idx t
  have e : iblk m c 3 t (ix2 0 l) = V m c main_v22 (ix2 0 l) := by blk_ext [iblk, h3]
  refine Eq.trans e ?_
  entry_read
  pointwise

/-- The input projection, filled up with zero columns. -/
theorem blk4 (c : Dev nD) (t : Fin cfg0.N) (k : Fin 1024) (l : Fin 2048) :
    (show FVec Ideal S1024x2048 .bf16 from iblk m c 4 t) (ix2 k l) = (if h : l.val < 1952 then A2 m c (ix2 k ⟨l.val, h⟩) else 0) := by
  obtain ⟨h0, h1, h2, h3, h4, h5, h6, h7, h8, h9, ht⟩ := idx t
  have e : iblk m c 4 t (ix2 k l) = V m c main_v23 (ix2 k l) := by blk_ext [iblk, h4]
  refine Eq.trans e ?_
  entry_read
  pointwise

/-- The queries' gains. -/
theorem blk5 (c : Dev nD) (t : Fin cfg0.N) (l : Fin 256) :
    (show FVec Ideal S1x256 .f32 from iblk m c 5 t) (ix2 0 l) = A3 m c (ix1 l) := by
  obtain ⟨h0, h1, h2, h3, h4, h5, h6, h7, h8, h9, ht⟩ := idx t
  have e : iblk m c 5 t (ix2 0 l) = V m c main_v24 (ix2 0 l) := by blk_ext [iblk, h5]
  refine Eq.trans e ?_
  entry_read
  pointwise

/-- The plain part of the queries' up-projection. -/
theorem blk6 (c : Dev nD) (t : Fin cfg0.N) (k : Fin 256) (l : Fin 512) :
    (show FVec Ideal S256x512 .bf16 from iblk m c 6 t) (ix2 k l) = A4 m c (ix2 k ⟨l.val / 64 * 96 + l.val % 64, by omega⟩) := by
  obtain ⟨h0, h1, h2, h3, h4, h5, h6, h7, h8, h9, ht⟩ := idx t
  have e : iblk m c 6 t (ix2 k l) = V m c main_v25 (ix2 k l) := by blk_ext [iblk, h6]
  refine Eq.trans e ?_
  entry_read
  pointwise

/-- Its rotary part, each head's 32 columns followed by zeros. -/
theorem blk7 (c : Dev nD) (t : Fin cfg0.N) (k : Fin 256) (l : Fin 1024) :
    (show FVec Ideal S256x1024 .bf16 from iblk m c 7 t) (ix2 k l) = (if h : l.val % 128 < 32 then A4 m c (ix2 k ⟨l.val / 128 * 96 + (64 + l.val % 128), by omega⟩) else 0) := by
  obtain ⟨h0, h1, h2, h3, h4, h5, h6, h7, h8, h9, ht⟩ := idx t
  have e : iblk m c 7 t (ix2 k l) = V m c main_v26 (ix2 k l) := by blk_ext [iblk, h7]
  refine Eq.trans e ?_
  entry_read
  pointwise

/-- The heads' key up-projections as the blocks of a diagonal. -/
theorem blk8 (c : Dev nD) (t : Fin cfg0.N) (k : Fin 512) (l : Fin 1024) :
    (show FVec Ideal S512x1024 .bf16 from iblk m c 8 t) (ix2 k l) = (if k.val / 64 = l.val / 128 then A6 m c (ix3 ⟨l.val % 128, by omega⟩ ⟨l.val / 128, by omega⟩ ⟨k.val % 64, by omega⟩) else 0) := by
  obtain ⟨h0, h1, h2, h3, h4, h5, h6, h7, h8, h9, ht⟩ := idx t
  have e : iblk m c 8 t (ix2 k l) = V m c main_v27 (ix2 k l) := by blk_ext [iblk, h8]
  refine Eq.trans e ?_
  entry_read
  pointwise
  refine (eye _ _ (by omega) (by omega) _).trans ?_
  split_ifs with h
  · simp only [h]
  · rfl

/-- The latent keys' gains. -/
theorem blk9 (c : Dev nD) (t : Fin cfg0.N) (l : Fin 128) :
    (show FVec Ideal S1x128 .f32 from iblk m c 9 t) (ix2 0 l) = A5 m c (ix1 l) := by
  obtain ⟨h0, h1, h2, h3, h4, h5, h6, h7, h8, h9, ht⟩ := idx t
  have e : iblk m c 9 t (ix2 0 l) = V m c main_v28 (ix2 0 l) := by blk_ext [iblk, h9]
  refine Eq.trans e ?_
  entry_read
  pointwise

end Cert.MixBlk
-- ==== Proof.MixTab.lean ====
module
public import proofs.«01_k».proof.Proof.MixBlk
public import Idealize.ShloMosaic.Lib.Pipeline.ValueKit
public import Idealize.ShloMosaic.Lib.Pointwise
public import Idealize.ShloMosaic.Lib.StableHlo.ReadAt
/-! The rotary tables' blocks the mixer inputs' kernel stages, read at an index of the launched arrays. -/
@[expose] public section
set_option maxRecDepth 16384
noncomputable section
open Idealize.ShloMosaic Idealize.ShloMosaic.TcCoe Idealize.SL.Sem
open Idealize.ShloMosaic.Pipeline (Dat)
open Cert.Kernel3Ideal Cert.Kernel3Ideal.Gen
namespace Cert.MixBlk
open Cert.Mix
variable (m : (ℓ : Loc nD τ sig) → Buf (Elt Ideal) ℓ)

/-- The cosines, twice, then zeros. -/
theorem blk1 (c : Dev nD) (t : Fin cfg0.N) (r : Fin 512) (l : Fin 128) :
    (show FVec Ideal S512x128 .f32 from iblk m c 1 t) (ix2 r l) = (if h : l.val < 16 then co ⟨(512 * t.val + r.val) % 2048, by omega⟩ ⟨l.val, h⟩ else if h' : l.val < 32 then co ⟨(512 * t.val + r.val) % 2048, by omega⟩ ⟨l.val - 16, by omega⟩ else 0) := by
  obtain ⟨h0, h1, h2, h3, h4, h5, h6, h7, h8, h9, ht⟩ := idx t
  have e : iblk m c 1 t (ix2 r l) = V m c main_v46 (ix2 ⟨512 * (t.val % 4) + r.val, by omega⟩ l) := by blk_ext [iblk, h1]
  refine Eq.trans e ?_
  clear e
  have hs : (⟨512 * (t.val % 4) + r.val, by omega⟩ : Fin 2048) = ⟨(512 * t.val + r.val) % 2048, by omega⟩ := Fin.ext (by dsimp only; omega)
  rw [hs]
  unfold V
  after_reads_at
  simp only [StableHlo.unary_result']
  after_reads_at
  split_ifs <;> first | rfl | omega

/-- The sines, the first negated, then zeros. -/
theorem blk2 (c : Dev nD) (t : Fin cfg0.N) (r : Fin 512) (l : Fin 128) :
    (show FVec Ideal S512x128 .f32 from iblk m c 2 t) (ix2 r l) = (if h : l.val < 16 then - si ⟨(512 * t.val + r.val) % 2048, by omega⟩ ⟨l.val, h⟩ else if h' : l.val < 32 then si ⟨(512 * t.val + r.val) % 2048, by omega⟩ ⟨l.val - 16, by omega⟩ else 0) := by
  obtain ⟨h0, h1, h2, h3, h4, h5, h6, h7, h8, h9, ht⟩ := idx t
  have e : iblk m c 2 t (ix2 r l) = V m c main_v48 (ix2 ⟨512 * (t.val % 4) + r.val, by omega⟩ l) := by blk_ext [iblk, h2]
  refine Eq.trans e ?_
  clear e
  have hs : (⟨512 * (t.val % 4) + r.val, by omega⟩ : Fin 2048) = ⟨(512 * t.val + r.val) % 2048, by omega⟩ := Fin.ext (by dsimp only; omega)
  rw [hs]
  unfold V
  after_reads_at
  simp only [StableHlo.unary_result']
  after_reads_at
  split_ifs <;> first | rfl | omega

end Cert.MixBlk
-- ==== Proof.MixPay.lean ====
module
public import proofs.«01_k».proof.Proof.Gen.Kernel3Ideal.Skeleton
public import proofs.«01_k».proof.Proof.MixMath
public import Idealize.ShloMosaic.Lib.Pointwise
public import Idealize.ShloMosaic.Lib.WordCmp
/-! What the mixer inputs' kernel stores, read at an index. -/
@[expose] public section
set_option maxRecDepth 16384
noncomputable section
open Idealize.ShloMosaic Idealize.ShloMosaic.TcCoe Idealize.SL.Sem
open Cert.Kernel3Ideal Cert.Kernel3Ideal.Gen
namespace Cert.MixPay
open Cert.Tail Cert.Mix

/-- The projected row, zero in the columns that fill up. -/
theorem pay2_at (x : Vec Ideal S512x1024 .f32) (g : Vec Ideal S1x1024 .f32) (w : Vec Ideal S1024x2048 .bf16) (r : Fin 512) (l : Fin 2048)
    (X G : Fin 1024 → EReal) (W : Fin 1024 → Fin 1952 → EReal) (hx : ∀ k, x (ix2 r k) = X k) (hg : ∀ k, g (ix2 0 k) = G k)
    (hw : ∀ k l, w (ix2 k l) = if h : l.val < 1952 then W k ⟨l.val, h⟩ else 0) :
    k0_pay2 (F := Ideal) x g w (ix2 r l) = if h : l.val < 1952 then proj X G W ⟨l.val, h⟩ else 0 := by
  pointwise [k0_pay2]
  simp only [hx, hg, hw]
  exact vm_pad (rms c1024 X G) W l

section slices
variable (x : Vec Ideal S512x1024 .f32) (g : Vec Ideal S1x1024 .f32) (w : Vec Ideal S1024x2048 .bf16) (r : Fin 512) (p : Fin 1952 → EReal)
  (hp : ∀ l : Fin 2048, k0_pay2 (F := Ideal) x g w (ix2 r l) = if h : l.val < 1952 then p ⟨l.val, h⟩ else 0)
include hp

/-- The scaled queries. -/
theorem pay8_at (l : Fin 512) : k0_pay8 (F := Ideal) x g w (ix2 r l) = p ⟨l.val, by omega⟩ * scale := by
  pointwise [k0_pay8]
  rw [hp, dif_pos]
  rfl

/-- The keys. -/
theorem pay3_at (l : Fin 512) : k0_pay3 (F := Ideal) x g w (ix2 r l) = p ⟨512 + l.val, by omega⟩ := by
  pointwise [k0_pay3]
  rw [hp, dif_pos]

/-- The values. -/
theorem pay4_at (l : Fin 512) : k0_pay4 (F := Ideal) x g w (ix2 r l) = p ⟨1024 + l.val, by omega⟩ := by
  pointwise [k0_pay4]
  rw [hp, dif_pos]

/-- The keys again. -/
theorem pay9_at (l : Fin 512) : k0_pay9 (F := Ideal) x g w (ix2 r l) = p ⟨512 + l.val, by omega⟩ := by
  pointwise [k0_pay9]
  exact pay3_at x g w r p hp l

/-- The values again. -/
theorem pay10_at (l : Fin 512) : k0_pay10 (F := Ideal) x g w (ix2 r l) = p ⟨1024 + l.val, by omega⟩ := by
  pointwise [k0_pay10]
  exact pay4_at x g w r p hp l

/-- The compressed queries. -/
theorem pay5_at (l : Fin 256) : k0_pay5 (F := Ideal) x g w (ix2 r l) = p ⟨1536 + l.val, by omega⟩ := by
  pointwise [k0_pay5]
  rw [hp, dif_pos]

/-- The compressed keys. -/
theorem pay6_at (l : Fin 128) : k0_pay6 (F := Ideal) x g w (ix2 r l) = p ⟨1792 + l.val, by omega⟩ := by
  pointwise [k0_pay6]
  rw [hp, dif_pos]

/-- The rotary keys before they are turned, zero beyond the 32nd lane. -/
theorem pay7_at (l : Fin 128) : k0_pay7 (F := Ideal) x g w (ix2 r l) = if h : l.val < 32 then p ⟨1920 + l.val, by omega⟩ else 0 := by
  pointwise [k0_pay7]
  rw [hp]
  by_cases h : l.val < 32
  · rw [dif_pos h, dif_pos (by dsimp only; omega)]
  · rw [dif_neg h, dif_neg (by dsimp only; omega)]
end slices

section queries
variable (c : FVec Ideal S512x256 .f32) (gq : Vec Ideal S1x256 .f32) (r : Fin 512) (p : Fin 1952 → EReal) (G : Fin 256 → EReal)
  (hc : ∀ l : Fin 256, c (ix2 r l) = p ⟨1536 + l.val, by omega⟩) (hg : ∀ l, gq (ix2 0 l) = G l) (Wuq : Fin 256 → Fin 768 → EReal)
include hc hg

/-- The normalised compressed queries. -/
theorem pay11_at (l : Fin 256) : k0_pay11 (F := Ideal) c gq (ix2 r l) = rms c256 (fun k : Fin 256 => p ⟨1536 + k.val, by omega⟩) G l := by
  pointwise [k0_pay11]
  simp only [hc, hg]
  rfl

/-- The rotary queries before they are turned, each head's 32 followed by zeros. -/
theorem pay12_at (w : Vec Ideal S256x1024 .bf16) (l : Fin 1024)
    (hw : ∀ k (l : Fin 1024), w (ix2 k l) = if h : l.val % 128 < 32 then Wuq k ⟨l.val / 128 * 96 + (64 + l.val % 128), by omega⟩ else 0) :
    k0_pay12 (F := Ideal) c gq w (ix2 r l) = if h : l.val % 128 < 32 then qrow p G Wuq ⟨l.val / 128 * 96 + (64 + l.val % 128), by omega⟩ else 0 := by
  pointwise [k0_pay12]
  simp only [hw, pay11_at c gq r p G hc hg]
  by_cases h : l.val % 128 < 32
  · simp only [dif_pos h]
    rfl
  · simp only [dif_neg h, mul_zero, Finset.sum_const_zero]

/-- The latent queries, head after head. -/
theorem pay13_at (wn : Vec Ideal S256x512 .bf16) (wb : Vec Ideal S512x1024 .bf16) (l : Fin 1024) (uk : Fin 128 → Fin 8 → Fin 64 → EReal)
    (hn : ∀ k (l : Fin 512), wn (ix2 k l) = Wuq k ⟨l.val / 64 * 96 + l.val % 64, by omega⟩)
    (hb : ∀ (k : Fin 512) (l : Fin 1024), wb (ix2 k l) = if k.val / 64 = l.val / 128 then uk ⟨l.val % 128, by omega⟩ ⟨l.val / 128, by omega⟩ ⟨k.val % 64, by omega⟩ else 0) :
    k0_pay13 (F := Ideal) c gq wn wb (ix2 r l) = qlat (qrow p G Wuq) uk ⟨l.val / 128, by omega⟩ ⟨l.val % 128, by omega⟩ := by
  pointwise [k0_pay13]
  simp only [hn, pay11_at c gq r p G hc hg]
  exact sum_block (qrow p G Wuq) uk _ (fun k => wb (ix2 k l)) ⟨l.val / 128, by omega⟩ ⟨l.val % 128, by omega⟩ (fun _ => rfl) fun k => hb k l
end queries

/-- The latent keys. -/
theorem pay34_at (c : FVec Ideal S512x128 .f32) (g : Vec Ideal S1x128 .f32) (r : Fin 512) (p : Fin 1952 → EReal) (G : Fin 128 → EReal)
    (hc : ∀ l : Fin 128, c (ix2 r l) = p ⟨1792 + l.val, by omega⟩) (hg : ∀ l, g (ix2 0 l) = G l) (l : Fin 128) :
    k0_pay34 (F := Ideal) c g (ix2 r l) = ckv p G l := by
  pointwise [k0_pay34]
  simp only [hc, hg]
  rfl

/-- The rotary step as it is computed over 128 lanes: the lane times the cosine plus the other half's lane times the sine. -/
theorem turn (x co si : Fin 128 → EReal) (X : Fin 32 → EReal) (C S : Fin 16 → EReal) (m : BitVec 1) (l : Fin 128)
    (hm : m = BitVec.ofBool (decide (l.val < 16)))
    (hx : ∀ l : Fin 128, x l = if h : l.val < 32 then X ⟨l.val, h⟩ else 0)
    (hc : ∀ l : Fin 128, co l = if h : l.val < 16 then C ⟨l.val, h⟩ else if h' : l.val < 32 then C ⟨l.val - 16, by omega⟩ else 0)
    (hs : ∀ l : Fin 128, si l = if h : l.val < 16 then - S ⟨l.val, h⟩ else if h' : l.val < 32 then S ⟨l.val - 16, by omega⟩ else 0) :
    x l * co l + Scalar.select m (x ⟨(l.val + 128 - 112) % 128, by omega⟩) (x ⟨(l.val + 128 - 16) % 128, by omega⟩) * si l
      = if h : l.val < 32 then rope X C S ⟨l.val, h⟩ else 0 := by
  refine Eq.trans ?_ (rope_lanes x (fun l => if h : l.val < 16 then x ⟨l.val + 16, by omega⟩ else x ⟨l.val - 16, by omega⟩) co si X C S l hx (fun _ => rfl) hc hs)
  refine congrArg (fun z => x l * co l + z * si l) ?_
  subst hm
  by_cases h : l.val < 16
  · rw [dif_pos h, decide_eq_true h]
    exact congrArg x (Fin.ext (show (l.val + 128 - 112) % 128 = l.val + 16 by omega))
  · rw [dif_neg h, decide_eq_false h]
    exact congrArg x (Fin.ext (show (l.val + 128 - 16) % 128 = l.val - 16 by omega))

/-- A latent row and a rotary row over 128 lanes, side by side. -/
theorem wide_dite (A : Fin 128 → EReal) (B : Fin 32 → EReal) (l : Fin 256) :
    (if h : l.val < 128 then A ⟨l.val, h⟩ else if h' : l.val - 128 < 32 then B ⟨l.val - 128, h'⟩ else 0) = wide A B l := by
  unfold wide
  split_ifs <;> first | rfl | omega

/-- A latent row and a row turned over 128 lanes, side by side. -/
theorem wide_turn (x co si : Fin 128 → EReal) (A : Fin 128 → EReal) (X : Fin 32 → EReal) (C S : Fin 16 → EReal) (m : Fin 128 → BitVec 1)
    (hm : ∀ l : Fin 128, m l = BitVec.ofBool (decide (l.val < 16)))
    (hx : ∀ l : Fin 128, x l = if h : l.val < 32 then X ⟨l.val, h⟩ else 0)
    (hc : ∀ l : Fin 128, co l = if h : l.val < 16 then C ⟨l.val, h⟩ else if h' : l.val < 32 then C ⟨l.val - 16, by omega⟩ else 0)
    (hs : ∀ l : Fin 128, si l = if h : l.val < 16 then - S ⟨l.val, h⟩ else if h' : l.val < 32 then S ⟨l.val - 16, by omega⟩ else 0)
    (a : Fin 128 → EReal) (ha : ∀ l, a l = A l) (l : Fin 256) :
    (if h : l.val < 128 then a ⟨l.val, h⟩ else
      x ⟨l.val - 128, by omega⟩ * co ⟨l.val - 128, by omega⟩ + Scalar.select (m ⟨l.val - 128, by omega⟩) (x ⟨(l.val - 128 + 128 - 112) % 128, by omega⟩)
        (x ⟨(l.val - 128 + 128 - 16) % 128, by omega⟩) * si ⟨l.val - 128, by omega⟩) = wide A (rope X C S) l := by
  refine Eq.trans ?_ (wide_dite A (rope X C S) l)
  by_cases h : l.val < 128
  · rw [dif_pos h, dif_pos h, ha]
  · rw [dif_neg h, dif_neg h]
    exact turn x co si X C S _ ⟨l.val - 128, by omega⟩ (hm _) hx hc hs

/-- The mask of the first 16 lanes. -/
theorem pay16_at (r : Fin 512) (l : Fin 128) : k0_pay16 (ix2 r l) = BitVec.ofBool (decide (l.val < 16)) := by
  pointwise [k0_pay16]
  word_cmp

section heads
variable (v56 v60 : FVec Ideal S512x1024 .f32) (v62 v64 : FVec Ideal S512x128 .f32) (v67 : IVec S512x128 1) (r : Fin 512)
  (X : Fin 32 → EReal) (C S : Fin 16 → EReal)
  (hm : ∀ l : Fin 128, v67 (ix2 r l) = BitVec.ofBool (decide (l.val < 16)))
  (hc : ∀ l : Fin 128, v62 (ix2 r l) = if h : l.val < 16 then C ⟨l.val, h⟩ else if h' : l.val < 32 then C ⟨l.val - 16, by omega⟩ else 0)
  (hs : ∀ l : Fin 128, v64 (ix2 r l) = if h : l.val < 16 then - S ⟨l.val, h⟩ else if h' : l.val < 32 then S ⟨l.val - 16, by omega⟩ else 0)
include hm hc hs

/-- The rotary keys, zero beyond the 32nd lane. -/
theorem pay35_at (v25 : FVec Ideal S512x128 .f32) (hx : ∀ l : Fin 128, v25 (ix2 r l) = if h : l.val < 32 then X ⟨l.val, h⟩ else 0) (l : Fin 128) :
    k0_pay35 (F := Ideal) v25 v62 v64 v67 (ix2 r l) = if h : l.val < 32 then rope X C S ⟨l.val, h⟩ else 0 := by
  pointwise [k0_pay35]
  exact turn (fun l => v25 (ix2 r l)) (fun l => v62 (ix2 r l)) (fun l => v64 (ix2 r l)) X C S _ l (hm l) hx hc hs

/-- The row of head 0. -/
theorem head0_at (c : FVec Ideal S512x256 .f32) (gq : Vec Ideal S1x256 .f32) (wn : Vec Ideal S256x512 .bf16) (wp : Vec Ideal S256x1024 .bf16)
    (wb : Vec Ideal S512x1024 .bf16) (A : Fin 128 → EReal)
    (hx : ∀ l : Fin 128, k0_pay12 (F := Ideal) c gq wp (ix2 r ⟨l.val, by omega⟩) = if h : l.val < 32 then X ⟨l.val, h⟩ else 0)
    (ha : ∀ l : Fin 128, k0_pay13 (F := Ideal) c gq wn wb (ix2 r ⟨l.val, by omega⟩) = A l) (l : Fin 256) :
    k0_pay21 (F := Ideal) v62 v64 v67 (k0_pay17 c gq wn wb) (k0_pay18 c gq wp) (k0_pay19 c gq wp) (k0_pay20 c gq wp) (ix3 0 r l) = wide A (rope X C S) l := by
  unfold k0_pay19 k0_pay20 k0_pay17 k0_pay18
  generalize k0_pay12 (F := Ideal) c gq wp = v56 at *
  generalize k0_pay13 (F := Ideal) c gq wn wb = v60 at *
  pointwise [k0_pay21]
  exact wide_turn (fun l => v56 (ix2 r ⟨l.val, by omega⟩)) (fun l => v62 (ix2 r l)) (fun l => v64 (ix2 r l)) A X C S (fun l => v67 (ix2 r l)) hm hx hc hs
    (fun l => v60 (ix2 r ⟨l.val, by omega⟩)) ha l

/-- The row of head 1. -/
theorem head1_at (A : Fin 128 → EReal) (hx : ∀ l : Fin 128, v56 (ix2 r ⟨128 + l.val, by omega⟩) = if h : l.val < 32 then X ⟨l.val, h⟩ else 0)
    (ha : ∀ l : Fin 128, v60 (ix2 r ⟨128 + l.val, by omega⟩) = A l) (l : Fin 256) :
    k0_pay22 (F := Ideal) v56 v60 v62 v64 v67 (ix3 0 r l) = wide A (rope X C S) l := by
  pointwise [k0_pay22]
  exact wide_turn (fun l => v56 (ix2 r ⟨128 + l.val, by omega⟩)) (fun l => v62 (ix2 r l)) (fun l => v64 (ix2 r l)) A X C S (fun l => v67 (ix2 r l)) hm hx hc hs
    (fun l => v60 (ix2 r ⟨128 + l.val, by omega⟩)) ha l

/-- The row of head 2. -/
theorem head2_at (A : Fin 128 → EReal) (hx : ∀ l : Fin 128, v56 (ix2 r ⟨256 + l.val, by omega⟩) = if h : l.val < 32 then X ⟨l.val, h⟩ else 0)
    (ha : ∀ l : Fin 128, v60 (ix2 r ⟨256 + l.val, by omega⟩) = A l) (l : Fin 256) :
    k0_pay23 (F := Ideal) v56 v60 v62 v64 v67 (ix3 0 r l) = wide A (rope X C S) l := by
  pointwise [k0_pay23]
  exact wide_turn (fun l => v56 (ix2 r ⟨256 + l.val, by omega⟩)) (fun l => v62 (ix2 r l)) (fun l => v64 (ix2 r l)) A X C S (fun l => v67 (ix2 r l)) hm hx hc hs
    (fun l => v60 (ix2 r ⟨256 + l.val, by omega⟩)) ha l

/-- The row of head 3. -/
theorem head3_at (A : Fin 128 → EReal) (hx : ∀ l : Fin 128, v56 (ix2 r ⟨384 + l.val, by omega⟩) = if h : l.val < 32 then X ⟨l.val, h⟩ else 0)
    (ha : ∀ l : Fin 128, v60 (ix2 r ⟨384 + l.val, by omega⟩) = A l) (l : Fin 256) :
    k0_pay28 (F := Ideal) (k0_pay24 v60) (k0_pay26 v56 v62) (k0_pay27 v56 v64 v67) (ix3 0 r l) = wide A (rope X C S) l := by
  pointwise [k0_pay24, k0_pay25, k0_pay26, k0_pay27, k0_pay28]
  exact wide_turn (fun l => v56 (ix2 r ⟨384 + l.val, by omega⟩)) (fun l => v62 (ix2 r l)) (fun l => v64 (ix2 r l)) A X C S (fun l => v67 (ix2 r l)) hm hx hc hs
    (fun l => v60 (ix2 r ⟨384 + l.val, by omega⟩)) ha l

/-- The row of head 4. -/
theorem head4_at (A : Fin 128 → EReal) (hx : ∀ l : Fin 128, v56 (ix2 r ⟨512 + l.val, by omega⟩) = if h : l.val < 32 then X ⟨l.val, h⟩ else 0)
    (ha : ∀ l : Fin 128, v60 (ix2 r ⟨512 + l.val, by omega⟩) = A l) (l : Fin 256) :
    k0_pay29 (F := Ideal) v56 v60 v62 v64 v67 (ix3 0 r l) = wide A (rope X C S) l := by
  pointwise [k0_pay29]
  exact wide_turn (fun l => v56 (ix2 r ⟨512 + l.val, by omega⟩)) (fun l => v62 (ix2 r l)) (fun l => v64 (ix2 r l)) A X C S (fun l => v67 (ix2 r l)) hm hx hc hs
    (fun l => v60 (ix2 r ⟨512 + l.val, by omega⟩)) ha l

/-- The row of head 5. -/
theorem head5_at (A : Fin 128 → EReal) (hx : ∀ l : Fin 128, v56 (ix2 r ⟨640 + l.val, by omega⟩) = if h : l.val < 32 then X ⟨l.val, h⟩ else 0)
    (ha : ∀ l : Fin 128, v60 (ix2 r ⟨640 + l.val, by omega⟩) = A l) (l : Fin 256) :
    k0_pay30 (F := Ideal) v56 v60 v62 v64 v67 (ix3 0 r l) = wide A (rope X C S) l := by
  pointwise [k0_pay30]
  exact wide_turn (fun l => v56 (ix2 r ⟨640 + l.val, by omega⟩)) (fun l => v62 (ix2 r l)) (fun l => v64 (ix2 r l)) A X C S (fun l => v67 (ix2 r l)) hm hx hc hs
    (fun l => v60 (ix2 r ⟨640 + l.val, by omega⟩)) ha l

/-- The row of head 6. -/
theorem head6_at (A : Fin 128 → EReal) (hx : ∀ l : Fin 128, v56 (ix2 r ⟨768 + l.val, by omega⟩) = if h : l.val < 32 then X ⟨l.val, h⟩ else 0)
    (ha : ∀ l : Fin 128, v60 (ix2 r ⟨768 + l.val, by omega⟩) = A l) (l : Fin 256) :
    k0_pay32 (F := Ideal) (k0_pay31 v56 v60 v62 v64 v67) (ix3 0 r l) = wide A (rope X C S) l := by
  pointwise [k0_pay31, k0_pay32]
  exact wide_turn (fun l => v56 (ix2 r ⟨768 + l.val, by omega⟩)) (fun l => v62 (ix2 r l)) (fun l => v64 (ix2 r l)) A X C S (fun l => v67 (ix2 r l)) hm hx hc hs
    (fun l => v60 (ix2 r ⟨768 + l.val, by omega⟩)) ha l

/-- The row of head 7. -/
theorem head7_at (A : Fin 128 → EReal) (hx : ∀ l : Fin 128, v56 (ix2 r ⟨896 + l.val, by omega⟩) = if h : l.val < 32 then X ⟨l.val, h⟩ else 0)
    (ha : ∀ l : Fin 128, v60 (ix2 r ⟨896 + l.val, by omega⟩) = A l) (l : Fin 256) :
    k0_pay33 (F := Ideal) v56 v60 v62 v64 v67 (ix3 0 r l) = wide A (rope X C S) l := by
  pointwise [k0_pay33]
  exact wide_turn (fun l => v56 (ix2 r ⟨896 + l.val, by omega⟩)) (fun l => v62 (ix2 r l)) (fun l => v64 (ix2 r l)) A X C S (fun l => v67 (ix2 r l)) hm hx hc hs
    (fun l => v60 (ix2 r ⟨896 + l.val, by omega⟩)) ha l

/-- The rotary keys' first 32 lanes. -/
theorem pay36_at (v25 : FVec Ideal S512x128 .f32) (hx : ∀ l : Fin 128, v25 (ix2 r l) = if h : l.val < 32 then X ⟨l.val, h⟩ else 0) (l : Fin 32) :
    k0_pay36 (F := Ideal) v25 v62 v64 v67 (ix2 r l) = rope X C S l := by
  pointwise [k0_pay36]
  rw [pay35_at v62 v64 v67 r X C S hm hc hs v25 hx, dif_pos]
end heads

/-- The latent attention's keys: the latent row, the rotary row, zeros. -/
theorem pay1_at (a b : FVec Ideal S512x128 .f32) (r : Fin 512) (A : Fin 128 → EReal) (B : Fin 32 → EReal) (ha : ∀ l : Fin 128, a (ix2 r l) = A l)
    (hb : ∀ l : Fin 128, b (ix2 r l) = if h : l.val < 32 then B ⟨l.val, h⟩ else 0) (l : Fin 256) :
    k0_pay1 (F := Ideal) a b (ix2 r l) = wide A B l := by
  pointwise [k0_pay1]
  simp only [ha, hb]
  exact wide_dite A B l

end Cert.MixPay
-- ==== Proof.MixPoint.lean ====
module
public import proofs.«01_k».proof.Proof.MixTab
public import proofs.«01_k».proof.Proof.MixPay
public import Idealize.ShloMosaic.Lib.Pipeline.ValueKit
public import Idealize.ShloMosaic.Lib.Pointwise
public import Idealize.ShloMosaic.Lib.WordCmp
/-! What a point of the mixer inputs' kernel leaves in its output blocks. -/
@[expose] public section
set_option maxRecDepth 16384
noncomputable section
open Idealize.ShloMosaic Idealize.ShloMosaic.TcCoe Idealize.SL.Sem
open Idealize.ShloMosaic.Pipeline (Dat)
open Cert.Kernel3Ideal Cert.Kernel3Ideal.Gen
namespace Cert.MixPoint
open Cert.Mix Cert.MixBlk Cert.MixPay
variable (m : (ℓ : Loc nD τ sig) → Buf (Elt Ideal) ℓ)

/-- The token of row `r` of the block at point `t`. -/
abbrev rowAt (t : Fin cfg0.N) (r : Fin 512) : Fin 16384 := ⟨512 * t.val + r.val, by have := lt_of_lt_of_eq t.isLt N_0; omega⟩

/-- A token's projected row. -/
def P (c : Dev nD) (R : Fin 16384) : Fin 1952 → EReal :=
  proj (fun l => A0 m c (ix3 ⟨R.val / 2048, by omega⟩ ⟨R.val % 2048, by omega⟩ l)) (fun l => A1 m c (ix1 l)) (fun k l => A2 m c (ix2 k l))
/-- Its queries. -/
def Q (c : Dev nD) (R : Fin 16384) : Fin 768 → EReal := qrow (P m c R) (fun l => A3 m c (ix1 l)) (fun k l => A4 m c (ix2 k l))
/-- Its cosines. -/
def C (R : Fin 16384) : Fin 16 → EReal := co ⟨R.val % 2048, by omega⟩
/-- Its sines. -/
def S (R : Fin 16384) : Fin 16 → EReal := si ⟨R.val % 2048, by omega⟩
/-- Its scaled queries. -/
def W10 (c : Dev nD) (R : Fin 16384) (l : Fin 512) : EReal := P m c R ⟨l.val, by omega⟩ * scale
/-- Its keys. -/
def W11 (c : Dev nD) (R : Fin 16384) (l : Fin 512) : EReal := P m c R ⟨512 + l.val, by omega⟩
/-- Its values. -/
def W12 (c : Dev nD) (R : Fin 16384) (l : Fin 512) : EReal := P m c R ⟨1024 + l.val, by omega⟩
/-- Its attention row of a head. -/
def W15 (c : Dev nD) (h : Fin 8) (R : Fin 16384) : Fin 256 → EReal :=
  wide (qlat (Q m c R) (fun c' h n => A6 m c (ix3 c' h n)) h) (qpe (Q m c R) (C R) (S R) h)
/-- Its latent keys. -/
def W16 (c : Dev nD) (R : Fin 16384) : Fin 128 → EReal := ckv (P m c R) (fun l => A5 m c (ix1 l))
/-- Its rotary keys. -/
def W17 (R : Fin 16384) (c : Dev nD) : Fin 32 → EReal := kpe (P m c R) (C R) (S R)
/-- Its latent attention's keys. -/
def W18 (c : Dev nD) (R : Fin 16384) : Fin 256 → EReal := wide (W16 m c R) (W17 m R c)

section
variable (c : Dev nD) (t : Fin cfg0.N) (r : Fin 512)

theorem row_at (l : Fin 2048) :
    k0_pay2 (F := Ideal) (iblk m c 0 t) (iblk m c 3 t) (iblk m c 4 t) (ix2 r l) = if h : l.val < 1952 then P m c (rowAt t r) ⟨l.val, h⟩ else 0 :=
  pay2_at (iblk m c 0 t) (iblk m c 3 t) (iblk m c 4 t) r l _ _ _ (blk0 m c t r) (blk3 m c t) (blk4 m c t)

theorem cos_at (l : Fin 128) : k0_pay14 (F := Ideal) (iblk m c 1 t) (ix2 r l)
    = if h : l.val < 16 then C (rowAt t r) ⟨l.val, h⟩ else if h' : l.val < 32 then C (rowAt t r) ⟨l.val - 16, by omega⟩ else 0 := by
  refine Eq.trans ?_ (blk1 m c t r l)
  generalize iblk m c 1 t = z
  pointwise [k0_pay14]

theorem sin_at (l : Fin 128) : k0_pay15 (F := Ideal) (iblk m c 2 t) (ix2 r l)
    = if h : l.val < 16 then - S (rowAt t r) ⟨l.val, h⟩ else if h' : l.val < 32 then S (rowAt t r) ⟨l.val - 16, by omega⟩ else 0 := by
  refine Eq.trans ?_ (blk2 m c t r l)
  generalize iblk m c 2 t = z
  pointwise [k0_pay15]

theorem cq_at (l : Fin 256) : k0_pay5 (F := Ideal) (iblk m c 0 t) (iblk m c 3 t) (iblk m c 4 t) (ix2 r l) = P m c (rowAt t r) ⟨1536 + l.val, by omega⟩ :=
  pay5_at _ _ _ r _ (row_at m c t r) l

theorem pe_at (l : Fin 1024) :
    k0_pay12 (F := Ideal) (k0_pay5 (iblk m c 0 t) (iblk m c 3 t) (iblk m c 4 t)) (iblk m c 5 t) (iblk m c 7 t) (ix2 r l)
      = if h : l.val % 128 < 32 then Q m c (rowAt t r) ⟨l.val / 128 * 96 + (64 + l.val % 128), by omega⟩ else 0 :=
  pay12_at _ (iblk m c 5 t) r (P m c (rowAt t r)) _ (cq_at m c t r) (blk5 m c t) _ (iblk m c 7 t) l (blk7 m c t)

theorem lat_at (l : Fin 1024) :
    k0_pay13 (F := Ideal) (k0_pay5 (iblk m c 0 t) (iblk m c 3 t) (iblk m c 4 t)) (iblk m c 5 t) (iblk m c 6 t) (iblk m c 8 t) (ix2 r l)
      = qlat (Q m c (rowAt t r)) (fun c' h n => A6 m c (ix3 c' h n)) ⟨l.val / 128, by omega⟩ ⟨l.val % 128, by omega⟩ :=
  pay13_at _ (iblk m c 5 t) r (P m c (rowAt t r)) _ (cq_at m c t r) (blk5 m c t) _ (iblk m c 6 t) (iblk m c 8 t) l _ (blk6 m c t) (blk8 m c t)

theorem ckv_at (l : Fin 128) :
    k0_pay34 (F := Ideal) (k0_pay6 (iblk m c 0 t) (iblk m c 3 t) (iblk m c 4 t)) (iblk m c 9 t) (ix2 r l) = W16 m c (rowAt t r) l :=
  pay34_at _ (iblk m c 9 t) r (P m c (rowAt t r)) _ (pay6_at _ _ _ r _ (row_at m c t r)) (blk9 m c t) l

theorem kpe_at (l : Fin 128) :
    k0_pay35 (F := Ideal) (k0_pay7 (iblk m c 0 t) (iblk m c 3 t) (iblk m c 4 t)) (k0_pay14 (iblk m c 1 t)) (k0_pay15 (iblk m c 2 t)) k0_pay16 (ix2 r l)
      = if h : l.val < 32 then W17 m (rowAt t r) c ⟨l.val, h⟩ else 0 :=
  pay35_at _ _ _ r (fun l : Fin 32 => P m c (rowAt t r) ⟨1920 + l.val, by omega⟩) (C (rowAt t r)) (S (rowAt t r)) (pay16_at r) (cos_at m c t r) (sin_at m c t r) _
    (pay7_at _ _ _ r _ (row_at m c t r)) l

/-- Output 0's block. -/
theorem out10_eq : out0_10 (iblk m c 0 t) (iblk m c 1 t) (iblk m c 2 t) (iblk m c 3 t) (iblk m c 4 t) (iblk m c 5 t) (iblk m c 6 t) (iblk m c 7 t) (iblk m c 8 t) (iblk m c 9 t) = k0_pay8 (F := Ideal) (iblk m c 0 t) (iblk m c 3 t) (iblk m c 4 t) := by
  unfold_out out0_10
  frame_out

theorem out10_at (l : Fin 512) : (show FVec Ideal S512x512 .bf16 from out0_10 (iblk m c 0 t) (iblk m c 1 t) (iblk m c 2 t) (iblk m c 3 t) (iblk m c 4 t) (iblk m c 5 t) (iblk m c 6 t) (iblk m c 7 t) (iblk m c 8 t) (iblk m c 9 t)) (ix2 r l) = W10 m c (rowAt t r) l := by
  refine (congrFun (out10_eq m c t) (ix2 r l)).trans ?_
  exact pay8_at _ _ _ r _ (row_at m c t r) l

/-- Output 1's block. -/
theorem out11_eq : out0_11 (iblk m c 0 t) (iblk m c 1 t) (iblk m c 2 t) (iblk m c 3 t) (iblk m c 4 t) (iblk m c 5 t) (iblk m c 6 t) (iblk m c 7 t) (iblk m c 8 t) (iblk m c 9 t) = k0_pay3 (F := Ideal) (iblk m c 0 t) (iblk m c 3 t) (iblk m c 4 t) := by
  unfold_out out0_11
  frame_out

theorem out11_at (l : Fin 512) : (show FVec Ideal S512x512 .f32 from out0_11 (iblk m c 0 t) (iblk m c 1 t) (iblk m c 2 t) (iblk m c 3 t) (iblk m c 4 t) (iblk m c 5 t) (iblk m c 6 t) (iblk m c 7 t) (iblk m c 8 t) (iblk m c 9 t)) (ix2 r l) = W11 m c (rowAt t r) l := by
  refine (congrFun (out11_eq m c t) (ix2 r l)).trans ?_
  exact pay3_at _ _ _ r _ (row_at m c t r) l

/-- Output 2's block. -/
theorem out12_eq : out0_12 (iblk m c 0 t) (iblk m c 1 t) (iblk m c 2 t) (iblk m c 3 t) (iblk m c 4 t) (iblk m c 5 t) (iblk m c 6 t) (iblk m c 7 t) (iblk m c 8 t) (iblk m c 9 t) = k0_pay4 (F := Ideal) (iblk m c 0 t) (iblk m c 3 t) (iblk m c 4 t) := by
  unfold_out out0_12
  frame_out

theorem out12_at (l : Fin 512) : (show FVec Ideal S512x512 .f32 from out0_12 (iblk m c 0 t) (iblk m c 1 t) (iblk m c 2 t) (iblk m c 3 t) (iblk m c 4 t) (iblk m c 5 t) (iblk m c 6 t) (iblk m c 7 t) (iblk m c 8 t) (iblk m c 9 t)) (ix2 r l) = W12 m c (rowAt t r) l := by
  refine (congrFun (out12_eq m c t) (ix2 r l)).trans ?_
  exact pay4_at _ _ _ r _ (row_at m c t r) l

/-- Output 3's block. -/
theorem out13_eq : out0_13 (iblk m c 0 t) (iblk m c 1 t) (iblk m c 2 t) (iblk m c 3 t) (iblk m c 4 t) (iblk m c 5 t) (iblk m c 6 t) (iblk m c 7 t) (iblk m c 8 t) (iblk m c 9 t) = k0_pay9 (F := Ideal) (iblk m c 0 t) (iblk m c 3 t) (iblk m c 4 t) := by
  unfold_out out0_13
  frame_out

theorem out13_at (l : Fin 512) : (show FVec Ideal S512x512 .bf16 from out0_13 (iblk m c 0 t) (iblk m c 1 t) (iblk m c 2 t) (iblk m c 3 t) (iblk m c 4 t) (iblk m c 5 t) (iblk m c 6 t) (iblk m c 7 t) (iblk m c 8 t) (iblk m c 9 t)) (ix2 r l) = W11 m c (rowAt t r) l := by
  refine (congrFun (out13_eq m c t) (ix2 r l)).trans ?_
  exact pay9_at _ _ _ r _ (row_at m c t r) l

/-- Output 4's block. -/
theorem out14_eq : out0_14 (iblk m c 0 t) (iblk m c 1 t) (iblk m c 2 t) (iblk m c 3 t) (iblk m c 4 t) (iblk m c 5 t) (iblk m c 6 t) (iblk m c 7 t) (iblk m c 8 t) (iblk m c 9 t) = k0_pay10 (F := Ideal) (iblk m c 0 t) (iblk m c 3 t) (iblk m c 4 t) := by
  unfold_out out0_14
  frame_out

theorem out14_at (l : Fin 512) : (show FVec Ideal S512x512 .bf16 from out0_14 (iblk m c 0 t) (iblk m c 1 t) (iblk m c 2 t) (iblk m c 3 t) (iblk m c 4 t) (iblk m c 5 t) (iblk m c 6 t) (iblk m c 7 t) (iblk m c 8 t) (iblk m c 9 t)) (ix2 r l) = W12 m c (rowAt t r) l := by
  refine (congrFun (out14_eq m c t) (ix2 r l)).trans ?_
  exact pay10_at _ _ _ r _ (row_at m c t r) l

/-- Output 6's block. -/
theorem out16_eq : out0_16 (iblk m c 0 t) (iblk m c 1 t) (iblk m c 2 t) (iblk m c 3 t) (iblk m c 4 t) (iblk m c 5 t) (iblk m c 6 t) (iblk m c 7 t) (iblk m c 8 t) (iblk m c 9 t) = k0_pay34 (F := Ideal) (k0_pay6 (iblk m c 0 t) (iblk m c 3 t) (iblk m c 4 t)) (iblk m c 9 t) := by
  unfold_out out0_16
  frame_out

theorem out16_at (l : Fin 128) : (show FVec Ideal S512x128 .f32 from out0_16 (iblk m c 0 t) (iblk m c 1 t) (iblk m c 2 t) (iblk m c 3 t) (iblk m c 4 t) (iblk m c 5 t) (iblk m c 6 t) (iblk m c 7 t) (iblk m c 8 t) (iblk m c 9 t)) (ix2 r l) = W16 m c (rowAt t r) l := by
  refine (congrFun (out16_eq m c t) (ix2 r l)).trans ?_
  exact ckv_at m c t r l

/-- Output 7's block. -/
theorem out17_eq : out0_17 (iblk m c 0 t) (iblk m c 1 t) (iblk m c 2 t) (iblk m c 3 t) (iblk m c 4 t) (iblk m c 5 t) (iblk m c 6 t) (iblk m c 7 t) (iblk m c 8 t) (iblk m c 9 t) = k0_pay36 (F := Ideal) (k0_pay7 (iblk m c 0 t) (iblk m c 3 t) (iblk m c 4 t)) (k0_pay14 (iblk m c 1 t)) (k0_pay15 (iblk m c 2 t)) k0_pay16 := by
  unfold_out out0_17
  frame_out

theorem out17_at (l : Fin 32) : (show FVec Ideal S512x32 .f32 from out0_17 (iblk m c 0 t) (iblk m c 1 t) (iblk m c 2 t) (iblk m c 3 t) (iblk m c 4 t) (iblk m c 5 t) (iblk m c 6 t) (iblk m c 7 t) (iblk m c 8 t) (iblk m c 9 t)) (ix2 r l) = W17 m (rowAt t r) c l := by
  refine (congrFun (out17_eq m c t) (ix2 r l)).trans ?_
  exact pay36_at _ _ _ r (fun l : Fin 32 => P m c (rowAt t r) ⟨1920 + l.val, by omega⟩) (C (rowAt t r)) (S (rowAt t r)) (pay16_at r) (cos_at m c t r) (sin_at m c t r) _
    (pay7_at _ _ _ r _ (row_at m c t r)) l

/-- Output 8's block. -/
theorem out18_eq : out0_18 (iblk m c 0 t) (iblk m c 1 t) (iblk m c 2 t) (iblk m c 3 t) (iblk m c 4 t) (iblk m c 5 t) (iblk m c 6 t) (iblk m c 7 t) (iblk m c 8 t) (iblk m c 9 t) = k0_pay1 (F := Ideal) (k0_pay34 (k0_pay6 (iblk m c 0 t) (iblk m c 3 t) (iblk m c 4 t)) (iblk m c 9 t)) (k0_pay35 (k0_pay7 (iblk m c 0 t) (iblk m c 3 t) (iblk m c 4 t)) (k0_pay14 (iblk m c 1 t)) (k0_pay15 (iblk m c 2 t)) k0_pay16) := by
  unfold_out out0_18
  frame_out

theorem out18_at (l : Fin 256) : (show FVec Ideal S512x256 .bf16 from out0_18 (iblk m c 0 t) (iblk m c 1 t) (iblk m c 2 t) (iblk m c 3 t) (iblk m c 4 t) (iblk m c 5 t) (iblk m c 6 t) (iblk m c 7 t) (iblk m c 8 t) (iblk m c 9 t)) (ix2 r l) = W18 m c (rowAt t r) l := by
  refine (congrFun (out18_eq m c t) (ix2 r l)).trans ?_
  exact pay1_at _ _ r _ _ (ckv_at m c t r) (kpe_at m c t r) l

end

end Cert.MixPoint
-- ==== Proof.MixHead.lean ====
module
public import proofs.«01_k».proof.Proof.MixPoint
public import Idealize.ShloMosaic.Lib.Pipeline.ValueKit
public import Idealize.ShloMosaic.Lib.Pointwise
public import Idealize.ShloMosaic.Lib.WordCmp
/-! The heads' attention rows a point of the mixer inputs' kernel leaves. -/
@[expose] public section
set_option maxRecDepth 16384
noncomputable section
open Idealize.ShloMosaic Idealize.ShloMosaic.TcCoe Idealize.SL.Sem
open Idealize.ShloMosaic.Pipeline (Dat)
open Cert.Kernel3Ideal Cert.Kernel3Ideal.Gen
namespace Cert.MixHead
open Cert.MixPoint
open Cert.Mix Cert.MixBlk Cert.MixPay
variable (m : (ℓ : Loc nD τ sig) → Buf (Elt Ideal) ℓ)

section
variable (c : Dev nD) (t : Fin cfg0.N) (r : Fin 512)

/-- A head's lanes of the rotary queries. -/
theorem pe_head (h : Fin 8) (l : Fin 128) (j : Fin 1024) (hj : j.val = 128 * h.val + l.val) :
    (k0_pay12 (F := Ideal) (k0_pay5 (iblk m c 0 t) (iblk m c 3 t) (iblk m c 4 t)) (iblk m c 5 t) (iblk m c 7 t)) (ix2 r j)
      = if hl : l.val < 32 then (fun x : Fin 32 => Q m c (rowAt t r) ⟨h.val * 96 + (64 + x.val), by omega⟩) ⟨l.val, hl⟩ else 0 := by
  refine (pe_at m c t r j).trans ?_
  have e1 : j.val / 128 = h.val := by omega
  have e2 : j.val % 128 = l.val := by omega
  simp only [e1, e2]

/-- A head's lanes of the latent queries. -/
theorem lat_head (h : Fin 8) (l : Fin 128) (j : Fin 1024) (hj : j.val = 128 * h.val + l.val) :
    (k0_pay13 (F := Ideal) (k0_pay5 (iblk m c 0 t) (iblk m c 3 t) (iblk m c 4 t)) (iblk m c 5 t) (iblk m c 6 t) (iblk m c 8 t)) (ix2 r j)
      = qlat (Q m c (rowAt t r)) (fun c' h n => A6 m c (ix3 c' h n)) h l := by
  refine (lat_at m c t r j).trans ?_
  have e1 : (⟨j.val / 128, by omega⟩ : Fin 8) = h := Fin.ext (by dsimp only; omega)
  have e2 : (⟨j.val % 128, by omega⟩ : Fin 128) = l := Fin.ext (by dsimp only; omega)
  rw [e1, e2]

/-- Head 0's row. -/
theorem head0_row (l : Fin 256) : k0_pay21 (F := Ideal) (k0_pay14 (F := Ideal) (iblk m c 1 t)) (k0_pay15 (F := Ideal) (iblk m c 2 t)) k0_pay16 (k0_pay17 (k0_pay5 (iblk m c 0 t) (iblk m c 3 t) (iblk m c 4 t)) (iblk m c 5 t) (iblk m c 6 t) (iblk m c 8 t)) (k0_pay18 (k0_pay5 (iblk m c 0 t) (iblk m c 3 t) (iblk m c 4 t)) (iblk m c 5 t) (iblk m c 7 t)) (k0_pay19 (k0_pay5 (iblk m c 0 t) (iblk m c 3 t) (iblk m c 4 t)) (iblk m c 5 t) (iblk m c 7 t)) (k0_pay20 (k0_pay5 (iblk m c 0 t) (iblk m c 3 t) (iblk m c 4 t)) (iblk m c 5 t) (iblk m c 7 t)) (ix3 0 r l) = W15 m c 0 (rowAt t r) l :=
  head0_at _ _ _ r _ (C (rowAt t r)) (S (rowAt t r)) (pay16_at r) (cos_at m c t r) (sin_at m c t r) (k0_pay5 (iblk m c 0 t) (iblk m c 3 t) (iblk m c 4 t)) (iblk m c 5 t) (iblk m c 6 t) (iblk m c 7 t) (iblk m c 8 t) _ (fun l => pe_head m c t r 0 l _ (by simp)) (fun l => lat_head m c t r 0 l _ (by simp)) l

/-- Head 1's row. -/
theorem head1_row (l : Fin 256) : k0_pay22 (F := Ideal) (k0_pay12 (F := Ideal) (k0_pay5 (iblk m c 0 t) (iblk m c 3 t) (iblk m c 4 t)) (iblk m c 5 t) (iblk m c 7 t)) (k0_pay13 (F := Ideal) (k0_pay5 (iblk m c 0 t) (iblk m c 3 t) (iblk m c 4 t)) (iblk m c 5 t) (iblk m c 6 t) (iblk m c 8 t)) (k0_pay14 (F := Ideal) (iblk m c 1 t)) (k0_pay15 (F := Ideal) (iblk m c 2 t)) k0_pay16 (ix3 0 r l) = W15 m c 1 (rowAt t r) l :=
  head1_at _ _ _ _ _ r _ (C (rowAt t r)) (S (rowAt t r)) (pay16_at r) (cos_at m c t r) (sin_at m c t r) _ (fun l => pe_head m c t r 1 l _ (by simp)) (fun l => lat_head m c t r 1 l _ (by simp)) l

/-- Head 2's row. -/
theorem head2_row (l : Fin 256) : k0_pay23 (F := Ideal) (k0_pay12 (F := Ideal) (k0_pay5 (iblk m c 0 t) (iblk m c 3 t) (iblk m c 4 t)) (iblk m c 5 t) (iblk m c 7 t)) (k0_pay13 (F := Ideal) (k0_pay5 (iblk m c 0 t) (iblk m c 3 t) (iblk m c 4 t)) (iblk m c 5 t) (iblk m c 6 t) (iblk m c 8 t)) (k0_pay14 (F := Ideal) (iblk m c 1 t)) (k0_pay15 (F := Ideal) (iblk m c 2 t)) k0_pay16 (ix3 0 r l) = W15 m c 2 (rowAt t r) l :=
  head2_at _ _ _ _ _ r _ (C (rowAt t r)) (S (rowAt t r)) (pay16_at r) (cos_at m c t r) (sin_at m c t r) _ (fun l => pe_head m c t r 2 l _ (by simp)) (fun l => lat_head m c t r 2 l _ (by simp)) l

/-- Head 3's row. -/
theorem head3_row (l : Fin 256) : k0_pay28 (F := Ideal) (k0_pay24 (k0_pay13 (F := Ideal) (k0_pay5 (iblk m c 0 t) (iblk m c 3 t) (iblk m c 4 t)) (iblk m c 5 t) (iblk m c 6 t) (iblk m c 8 t))) (k0_pay26 (k0_pay12 (F := Ideal) (k0_pay5 (iblk m c 0 t) (iblk m c 3 t) (iblk m c 4 t)) (iblk m c 5 t) (iblk m c 7 t)) (k0_pay14 (iblk m c 1 t))) (k0_pay27 (k0_pay12 (F := Ideal) (k0_pay5 (iblk m c 0 t) (iblk m c 3 t) (iblk m c 4 t)) (iblk m c 5 t) (iblk m c 7 t)) (k0_pay15 (iblk m c 2 t)) k0_pay16) (ix3 0 r l) = W15 m c 3 (rowAt t r) l :=
  head3_at _ _ _ _ _ r _ (C (rowAt t r)) (S (rowAt t r)) (pay16_at r) (cos_at m c t r) (sin_at m c t r) _ (fun l => pe_head m c t r 3 l _ (by simp)) (fun l => lat_head m c t r 3 l _ (by simp)) l

/-- Head 4's row. -/
theorem head4_row (l : Fin 256) : k0_pay29 (F := Ideal) (k0_pay12 (F := Ideal) (k0_pay5 (iblk m c 0 t) (iblk m c 3 t) (iblk m c 4 t)) (iblk m c 5 t) (iblk m c 7 t)) (k0_pay13 (F := Ideal) (k0_pay5 (iblk m c 0 t) (iblk m c 3 t) (iblk m c 4 t)) (iblk m c 5 t) (iblk m c 6 t) (iblk m c 8 t)) (k0_pay14 (F := Ideal) (iblk m c 1 t)) (k0_pay15 (F := Ideal) (iblk m c 2 t)) k0_pay16 (ix3 0 r l) = W15 m c 4 (rowAt t r) l :=
  head4_at _ _ _ _ _ r _ (C (rowAt t r)) (S (rowAt t r)) (pay16_at r) (cos_at m c t r) (sin_at m c t r) _ (fun l => pe_head m c t r 4 l _ (by simp)) (fun l => lat_head m c t r 4 l _ (by simp)) l

/-- Head 5's row. -/
theorem head5_row (l : Fin 256) : k0_pay30 (F := Ideal) (k0_pay12 (F := Ideal) (k0_pay5 (iblk m c 0 t) (iblk m c 3 t) (iblk m c 4 t)) (iblk m c 5 t) (iblk m c 7 t)) (k0_pay13 (F := Ideal) (k0_pay5 (iblk m c 0 t) (iblk m c 3 t) (iblk m c 4 t)) (iblk m c 5 t) (iblk m c 6 t) (iblk m c 8 t)) (k0_pay14 (F := Ideal) (iblk m c 1 t)) (k0_pay15 (F := Ideal) (iblk m c 2 t)) k0_pay16 (ix3 0 r l) = W15 m c 5 (rowAt t r) l :=
  head5_at _ _ _ _ _ r _ (C (rowAt t r)) (S (rowAt t r)) (pay16_at r) (cos_at m c t r) (sin_at m c t r) _ (fun l => pe_head m c t r 5 l _ (by simp)) (fun l => lat_head m c t r 5 l _ (by simp)) l

/-- Head 6's row. -/
theorem head6_row (l : Fin 256) : k0_pay32 (F := Ideal) (k0_pay31 (k0_pay12 (F := Ideal) (k0_pay5 (iblk m c 0 t) (iblk m c 3 t) (iblk m c 4 t)) (iblk m c 5 t) (iblk m c 7 t)) (k0_pay13 (F := Ideal) (k0_pay5 (iblk m c 0 t) (iblk m c 3 t) (iblk m c 4 t)) (iblk m c 5 t) (iblk m c 6 t) (iblk m c 8 t)) (k0_pay14 (F := Ideal) (iblk m c 1 t)) (k0_pay15 (F := Ideal) (iblk m c 2 t)) k0_pay16) (ix3 0 r l) = W15 m c 6 (rowAt t r) l :=
  head6_at _ _ _ _ _ r _ (C (rowAt t r)) (S (rowAt t r)) (pay16_at r) (cos_at m c t r) (sin_at m c t r) _ (fun l => pe_head m c t r 6 l _ (by simp)) (fun l => lat_head m c t r 6 l _ (by simp)) l

/-- Head 7's row. -/
theorem head7_row (l : Fin 256) : k0_pay33 (F := Ideal) (k0_pay12 (F := Ideal) (k0_pay5 (iblk m c 0 t) (iblk m c 3 t) (iblk m c 4 t)) (iblk m c 5 t) (iblk m c 7 t)) (k0_pay13 (F := Ideal) (k0_pay5 (iblk m c 0 t) (iblk m c 3 t) (iblk m c 4 t)) (iblk m c 5 t) (iblk m c 6 t) (iblk m c 8 t)) (k0_pay14 (F := Ideal) (iblk m c 1 t)) (k0_pay15 (F := Ideal) (iblk m c 2 t)) k0_pay16 (ix3 0 r l) = W15 m c 7 (rowAt t r) l :=
  head7_at _ _ _ _ _ r _ (C (rowAt t r)) (S (rowAt t r)) (pay16_at r) (cos_at m c t r) (sin_at m c t r) _ (fun l => pe_head m c t r 7 l _ (by simp)) (fun l => lat_head m c t r 7 l _ (by simp)) l

/-- Output 5's block. -/
theorem out15_at (h : Fin 8) (l : Fin 256) : (show FVec Ideal S8x512x256 .bf16 from out0_15 (iblk m c 0 t) (iblk m c 1 t) (iblk m c 2 t) (iblk m c 3 t) (iblk m c 4 t) (iblk m c 5 t) (iblk m c 6 t) (iblk m c 7 t) (iblk m c 8 t) (iblk m c 9 t)) (ix3 h r l) = W15 m c h (rowAt t r) l := by
  unfold_out out0_15
  frame_out
  canon_tiles x hx
  · have e0 : h = 7 := Fin.ext (by simp only [ix3_0] at hx0; simp; omega)
    have e : x = ix3 0 r l := by
      refine (eq_ix3 x).trans ?_
      congr 1 <;> apply Fin.ext <;> simp_all <;> omega
    subst e0 e
    exact head7_row m c t r l
  · have e0 : h = 6 := Fin.ext (by simp only [ix3_0] at hx0; simp; omega)
    have e : x = ix3 0 r l := by
      refine (eq_ix3 x).trans ?_
      congr 1 <;> apply Fin.ext <;> simp_all <;> omega
    subst e0 e
    exact head6_row m c t r l
  · have e0 : h = 5 := Fin.ext (by simp only [ix3_0] at hx0; simp; omega)
    have e : x = ix3 0 r l := by
      refine (eq_ix3 x).trans ?_
      congr 1 <;> apply Fin.ext <;> simp_all <;> omega
    subst e0 e
    exact head5_row m c t r l
  · have e0 : h = 4 := Fin.ext (by simp only [ix3_0] at hx0; simp; omega)
    have e : x = ix3 0 r l := by
      refine (eq_ix3 x).trans ?_
      congr 1 <;> apply Fin.ext <;> simp_all <;> omega
    subst e0 e
    exact head4_row m c t r l
  · have e0 : h = 3 := Fin.ext (by simp only [ix3_0] at hx0; simp; omega)
    have e : x = ix3 0 r l := by
      refine (eq_ix3 x).trans ?_
      congr 1 <;> apply Fin.ext <;> simp_all <;> omega
    subst e0 e
    exact head3_row m c t r l
  · have e0 : h = 2 := Fin.ext (by simp only [ix3_0] at hx0; simp; omega)
    have e : x = ix3 0 r l := by
      refine (eq_ix3 x).trans ?_
      congr 1 <;> apply Fin.ext <;> simp_all <;> omega
    subst e0 e
    exact head2_row m c t r l
  · have e0 : h = 1 := Fin.ext (by simp only [ix3_0] at hx0; simp; omega)
    have e : x = ix3 0 r l := by
      refine (eq_ix3 x).trans ?_
      congr 1 <;> apply Fin.ext <;> simp_all <;> omega
    subst e0 e
    exact head1_row m c t r l
  · have e0 : h = 0 := Fin.ext (by simp only [ix3_0] at hx0; simp; omega)
    have e : x = ix3 0 r l := by
      refine (eq_ix3 x).trans ?_
      congr 1 <;> apply Fin.ext <;> simp_all <;> omega
    subst e0 e
    exact head0_row m c t r l

end

end Cert.MixHead
-- ==== Proof.MixArray.lean ====
module
public import proofs.«01_k».proof.Proof.MixHead
public import Idealize.ShloMosaic.Lib.Pipeline.ValueKit
public import Idealize.ShloMosaic.Lib.Pointwise
public import Idealize.ShloMosaic.Lib.WordCmp
/-! What the mixer inputs' kernel leaves in its result arrays. -/
@[expose] public section
set_option maxRecDepth 16384
noncomputable section
open Idealize.ShloMosaic Idealize.ShloMosaic.TcCoe Idealize.SL.Sem
open Idealize.ShloMosaic.Pipeline (Dat)
open Cert.Kernel3Ideal Cert.Kernel3Ideal.Gen
namespace Cert.MixArray
open Cert.MixPoint Cert.MixHead
open Cert.Mix Cert.MixBlk Cert.MixPay
variable (m : (ℓ : Loc nD τ sig) → Buf (Elt Ideal) ℓ)

/-- Result 0 after the run. -/
theorem final10 (c : Dev nD) (r : Fin 16384) (l : Fin 512) :
    (show FVec Ideal S16384x512 .bf16 from (dats m 0 c).arrAt 10 (cfgs 0).N) (ix2 r l) = W10 m c r l := by
  refine congrFun (f := (dats m 0 c).arrAt 10 (cfgs 0).N) (g := fun i => W10 m c ⟨(i 0).val, (i 0).isLt⟩ ⟨(i 1).val, (i 1).isLt⟩) ?_ (ix2 r l)
  refine (dats m 0 c).arrAt_eq_of_covers 10 _ (by decide +kernel) fun t hf y => ?_
  blk_simp
  rw [after0_10]
  idx_vars y
  refine (out10_at m c t y0 y1).trans ?_
  obtain ⟨hw, -, -, -, -, -, -, -, -, ht⟩ := idxo t
  blk_simp [hw]
  have e : rowAt t y0 = ⟨t.val * 512 + y0.val, by omega⟩ := Fin.ext (by dsimp only; omega)
  exact congrArg (fun R => W10 m c R y1) e

/-- Result 1 after the run. -/
theorem final11 (c : Dev nD) (r : Fin 16384) (l : Fin 512) :
    (show FVec Ideal S16384x512 .f32 from (dats m 0 c).arrAt 11 (cfgs 0).N) (ix2 r l) = W11 m c r l := by
  refine congrFun (f := (dats m 0 c).arrAt 11 (cfgs 0).N) (g := fun i => W11 m c ⟨(i 0).val, (i 0).isLt⟩ ⟨(i 1).val, (i 1).isLt⟩) ?_ (ix2 r l)
  refine (dats m 0 c).arrAt_eq_of_covers 11 _ (by decide +kernel) fun t hf y => ?_
  blk_simp
  rw [after0_11]
  idx_vars y
  refine (out11_at m c t y0 y1).trans ?_
  obtain ⟨-, hw, -, -, -, -, -, -, -, ht⟩ := idxo t
  blk_simp [hw]
  have e : rowAt t y0 = ⟨t.val * 512 + y0.val, by omega⟩ := Fin.ext (by dsimp only; omega)
  exact congrArg (fun R => W11 m c R y1) e

/-- Result 2 after the run. -/
theorem final12 (c : Dev nD) (r : Fin 16384) (l : Fin 512) :
    (show FVec Ideal S16384x512 .f32 from (dats m 0 c).arrAt 12 (cfgs 0).N) (ix2 r l) = W12 m c r l := by
  refine congrFun (f := (dats m 0 c).arrAt 12 (cfgs 0).N) (g := fun i => W12 m c ⟨(i 0).val, (i 0).isLt⟩ ⟨(i 1).val, (i 1).isLt⟩) ?_ (ix2 r l)
  refine (dats m 0 c).arrAt_eq_of_covers 12 _ (by decide +kernel) fun t hf y => ?_
  blk_simp
  rw [after0_12]
  idx_vars y
  refine (out12_at m c t y0 y1).trans ?_
  obtain ⟨-, -, hw, -, -, -, -, -, -, ht⟩ := idxo t
  blk_simp [hw]
  have e : rowAt t y0 = ⟨t.val * 512 + y0.val, by omega⟩ := Fin.ext (by dsimp only; omega)
  exact congrArg (fun R => W12 m c R y1) e

end Cert.MixArray
-- ==== Proof.MixArrayB.lean ====
module
public import proofs.«01_k».proof.Proof.MixHead
public import Idealize.ShloMosaic.Lib.Pipeline.ValueKit
public import Idealize.ShloMosaic.Lib.Pointwise
public import Idealize.ShloMosaic.Lib.WordCmp
/-! What the mixer inputs' kernel leaves in its result arrays. -/
@[expose] public section
set_option maxRecDepth 16384
noncomputable section
open Idealize.ShloMosaic Idealize.ShloMosaic.TcCoe Idealize.SL.Sem
open Idealize.ShloMosaic.Pipeline (Dat)
open Cert.Kernel3Ideal Cert.Kernel3Ideal.Gen
namespace Cert.MixArray
open Cert.MixPoint Cert.MixHead
open Cert.Mix Cert.MixBlk Cert.MixPay
variable (m : (ℓ : Loc nD τ sig) → Buf (Elt Ideal) ℓ)

/-- Result 3 after the run. -/
theorem final13 (c : Dev nD) (r : Fin 16384) (l : Fin 512) :
    (show FVec Ideal S16384x512 .bf16 from (dats m 0 c).arrAt 13 (cfgs 0).N) (ix2 r l) = W11 m c r l := by
  refine congrFun (f := (dats m 0 c).arrAt 13 (cfgs 0).N) (g := fun i => W11 m c ⟨(i 0).val, (i 0).isLt⟩ ⟨(i 1).val, (i 1).isLt⟩) ?_ (ix2 r l)
  refine (dats m 0 c).arrAt_eq_of_covers 13 _ (by decide +kernel) fun t hf y => ?_
  blk_simp
  rw [after0_13]
  idx_vars y
  refine (out13_at m c t y0 y1).trans ?_
  obtain ⟨-, -, -, hw, -, -, -, -, -, ht⟩ := idxo t
  blk_simp [hw]
  have e : rowAt t y0 = ⟨t.val * 512 + y0.val, by omega⟩ := Fin.ext (by dsimp only; omega)
  exact congrArg (fun R => W11 m c R y1) e

/-- Result 4 after the run. -/
theorem final14 (c : Dev nD) (r : Fin 16384) (l : Fin 512) :
    (show FVec Ideal S16384x512 .bf16 from (dats m 0 c).arrAt 14 (cfgs 0).N) (ix2 r l) = W12 m c r l := by
  refine congrFun (f := (dats m 0 c).arrAt 14 (cfgs 0).N) (g := fun i => W12 m c ⟨(i 0).val, (i 0).isLt⟩ ⟨(i 1).val, (i 1).isLt⟩) ?_ (ix2 r l)
  refine (dats m 0 c).arrAt_eq_of_covers 14 _ (by decide +kernel) fun t hf y => ?_
  blk_simp
  rw [after0_14]
  idx_vars y
  refine (out14_at m c t y0 y1).trans ?_
  obtain ⟨-, -, -, -, hw, -, -, -, -, ht⟩ := idxo t
  blk_simp [hw]
  have e : rowAt t y0 = ⟨t.val * 512 + y0.val, by omega⟩ := Fin.ext (by dsimp only; omega)
  exact congrArg (fun R => W12 m c R y1) e

set_option maxHeartbeats 1000000 in
/-- Result 5 after the run. -/
theorem final15 (c : Dev nD) (h : Fin 8) (r : Fin 16384) (l : Fin 256) :
    (show FVec Ideal S8x16384x256 .bf16 from (dats m 0 c).arrAt 15 (cfgs 0).N) (ix3 h r l) = W15 m c h r l := by
  refine congrFun (f := (dats m 0 c).arrAt 15 (cfgs 0).N) (g := fun i => W15 m c ⟨(i 0).val, (i 0).isLt⟩ ⟨(i 1).val, (i 1).isLt⟩ ⟨(i 2).val, (i 2).isLt⟩) ?_ (ix3 h r l)
  refine (dats m 0 c).arrAt_eq_of_covers 15 _ (by decide +kernel) fun t hf y => ?_
  blk_simp
  rw [after0_15]
  idx_vars y
  refine (out15_at m c t y1 y0 y2).trans ?_
  obtain ⟨-, -, -, -, -, hw, -, -, -, ht⟩ := idxo t
  blk_simp [hw]
  have e : rowAt t y1 = ⟨t.val * 512 + y1.val, by omega⟩ := Fin.ext (by dsimp only; omega)
  exact congrArg (fun R => W15 m c y0 R y2) e

end Cert.MixArray
-- ==== Proof.MixArrayC.lean ====
module
public import proofs.«01_k».proof.Proof.MixHead
public import Idealize.ShloMosaic.Lib.Pipeline.ValueKit
public import Idealize.ShloMosaic.Lib.Pointwise
public import Idealize.ShloMosaic.Lib.WordCmp
/-! What the mixer inputs' kernel leaves in its result arrays. -/
@[expose] public section
set_option maxRecDepth 16384
noncomputable section
open Idealize.ShloMosaic Idealize.ShloMosaic.TcCoe Idealize.SL.Sem
open Idealize.ShloMosaic.Pipeline (Dat)
open Cert.Kernel3Ideal Cert.Kernel3Ideal.Gen
namespace Cert.MixArray
open Cert.MixPoint Cert.MixHead
open Cert.Mix Cert.MixBlk Cert.MixPay
variable (m : (ℓ : Loc nD τ sig) → Buf (Elt Ideal) ℓ)

/-- Result 6 after the run. -/
theorem final16 (c : Dev nD) (r : Fin 16384) (l : Fin 128) :
    (show FVec Ideal S16384x128 .f32 from (dats m 0 c).arrAt 16 (cfgs 0).N) (ix2 r l) = W16 m c r l := by
  refine congrFun (f := (dats m 0 c).arrAt 16 (cfgs 0).N) (g := fun i => W16 m c ⟨(i 0).val, (i 0).isLt⟩ ⟨(i 1).val, (i 1).isLt⟩) ?_ (ix2 r l)
  refine (dats m 0 c).arrAt_eq_of_covers 16 _ (by decide +kernel) fun t hf y => ?_
  blk_simp
  rw [after0_16]
  idx_vars y
  refine (out16_at m c t y0 y1).trans ?_
  obtain ⟨-, -, -, -, -, -, hw, -, -, ht⟩ := idxo t
  blk_simp [hw]
  have e : rowAt t y0 = ⟨t.val * 512 + y0.val, by omega⟩ := Fin.ext (by dsimp only; omega)
  exact congrArg (fun R => W16 m c R y1) e

/-- Result 7 after the run. -/
theorem final17 (c : Dev nD) (r : Fin 16384) (l : Fin 32) :
    (show FVec Ideal S16384x32 .f32 from (dats m 0 c).arrAt 17 (cfgs 0).N) (ix2 r l) = W17 m r c l := by
  refine congrFun (f := (dats m 0 c).arrAt 17 (cfgs 0).N) (g := fun i => W17 m ⟨(i 0).val, (i 0).isLt⟩ c ⟨(i 1).val, (i 1).isLt⟩) ?_ (ix2 r l)
  refine (dats m 0 c).arrAt_eq_of_covers 17 _ (by decide +kernel) fun t hf y => ?_
  blk_simp
  rw [after0_17]
  idx_vars y
  refine (out17_at m c t y0 y1).trans ?_
  obtain ⟨-, -, -, -, -, -, -, hw, -, ht⟩ := idxo t
  blk_simp [hw]
  have e : rowAt t y0 = ⟨t.val * 512 + y0.val, by omega⟩ := Fin.ext (by dsimp only; omega)
  exact congrArg (fun R => W17 m R c y1) e

/-- Result 8 after the run. -/
theorem final18 (c : Dev nD) (r : Fin 16384) (l : Fin 256) :
    (show FVec Ideal S16384x256 .bf16 from (dats m 0 c).arrAt 18 (cfgs 0).N) (ix2 r l) = W18 m c r l := by
  refine congrFun (f := (dats m 0 c).arrAt 18 (cfgs 0).N) (g := fun i => W18 m c ⟨(i 0).val, (i 0).isLt⟩ ⟨(i 1).val, (i 1).isLt⟩) ?_ (ix2 r l)
  refine (dats m 0 c).arrAt_eq_of_covers 18 _ (by decide +kernel) fun t hf y => ?_
  blk_simp
  rw [after0_18]
  idx_vars y
  refine (out18_at m c t y0 y1).trans ?_
  obtain ⟨-, -, -, -, -, -, -, -, hw, ht⟩ := idxo t
  blk_simp [hw]
  have e : rowAt t y0 = ⟨t.val * 512 + y0.val, by omega⟩ := Fin.ext (by dsimp only; omega)
  exact congrArg (fun R => W18 m c R y1) e

end Cert.MixArray
-- ==== Proof.MixRefA.lean ====
module
public import proofs.«01_k».proof.Proof.Gen.Reference3Ideal.Read
public import proofs.«01_k».proof.Proof.MixMath
public import Idealize.ShloMosaic.Lib.Pointwise
/-! What the mixer inputs' reference computes, read at an index. -/
@[expose] public section
set_option maxRecDepth 16384
noncomputable section
open Idealize.ShloMosaic Idealize.ShloMosaic.TcCoe Idealize.SL.Sem
open Cert.Reference3Ideal Cert.Reference3Ideal.Read
namespace Cert.MixRef
open Cert.Tail Cert.Mix

variable (X0 : FVec Ideal S8x2048x1024 .f32) (X1 : FVec Ideal S1024 .f32) (X2 : FVec Ideal S1024x1952 .f32) (X3 : FVec Ideal S256 .f32)
  (X4 : FVec Ideal S256x768 .f32) (X5 : FVec Ideal S128 .f32) (X6 : FVec Ideal S128x8x64 .f32)

/-- The input projection. -/
theorem v14_at (b : Fin 8) (s : Fin 2048) (l : Fin 1952) :
    val_main_v14 (F := Ideal) X0 X1 X2 (ix3 b s l) = proj (fun l => X0 (ix3 b s l)) (fun l => X1 (ix1 l)) (fun k l => X2 (ix2 k l)) l := by
  pointwise [val_main_v0, val_main_v1, val_main_v2, val_main_v3, val_main_v4, val_main_v5, val_main_v6, val_main_v7, val_main_v8, val_main_v9, val_main_v10, val_main_v11, val_main_v12, val_main_v14, val_main_cst, val_main_cst_0, val_main_cst_1]
  rfl

/-- The queries. -/
theorem v37_at (b : Fin 8) (s : Fin 2048) (l : Fin 768) (p : Fin 1952 → EReal) (hp : ∀ l, val_main_v14 (F := Ideal) X0 X1 X2 (ix3 b s l) = p l) :
    val_main_v37 (F := Ideal) X0 X1 X2 X3 X4 (ix3 b s l) = qrow p (fun l => X3 (ix1 l)) (fun k l => X4 (ix2 k l)) l := by
  pointwise [val_main_v18, val_main_v24, val_main_v25, val_main_v26, val_main_v27, val_main_v28, val_main_v29, val_main_v30, val_main_v31, val_main_v32, val_main_v33, val_main_v34, val_main_v35, val_main_v36, val_main_v37, val_main_cst_2, val_main_cst_3, val_main_cst_4]
  simp only [hp]
  rfl

/-- The rotary queries. -/
theorem v70_at (b : Fin 8) (s : Fin 2048) (h : Fin 8) (l : Fin 32) (q : Fin 768 → EReal)
    (hq : ∀ l, val_main_v37 (F := Ideal) X0 X1 X2 X3 X4 (ix3 b s l) = q l) :
    val_main_v70 (F := Ideal) X0 X1 X2 X3 X4 (ix4 b s h l) = qpe q (co s) (si s) h l := by
  pointwise [val_main_v13, val_main_v38, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_cst_5, val_main_cst_6, val_main_cst_7]
  simp only [hq]
  unfold qpe rope
  by_cases h16 : l.val < 16
  · rw [dif_pos h16, dif_pos h16]
    refine congrArg₂ (· - ·) (congrArg₂ (· * ·) (congrArg q (Fin.ext ?_)) rfl) (congrArg₂ (· * ·) (congrArg q (Fin.ext ?_)) rfl) <;>
      dsimp only <;> omega
  · rw [dif_neg h16, dif_neg h16]
    refine congrArg₂ (· + ·) (congrArg₂ (· * ·) (congrArg q (Fin.ext ?_)) rfl) (congrArg₂ (· * ·) (congrArg q (Fin.ext ?_)) rfl) <;>
      dsimp only <;> omega

/-- The plain queries through the key up-projection. -/
theorem v72_at (b : Fin 8) (s : Fin 2048) (h : Fin 8) (c : Fin 128) (q : Fin 768 → EReal)
    (hq : ∀ l, val_main_v37 (F := Ideal) X0 X1 X2 X3 X4 (ix3 b s l) = q l) :
    val_main_v72 (F := Ideal) X0 X1 X2 X3 X4 X6 (ix4 b s h c) = qlat q (fun c h n => X6 (ix3 c h n)) h c := by
  pointwise [val_main_v38, val_main_v39, val_main_v71, val_main_v72]
  simp only [hq]
  exact Finset.sum_congr rfl fun n _ => mul_comm _ _

/-- The latent keys. -/
theorem v85_at (b : Fin 8) (s : Fin 2048) (l : Fin 128) (p : Fin 1952 → EReal) (hp : ∀ l, val_main_v14 (F := Ideal) X0 X1 X2 (ix3 b s l) = p l) :
    val_main_v85 (F := Ideal) X0 X1 X2 X5 (ix3 b s l) = ckv p (fun l => X5 (ix1 l)) l := by
  pointwise [val_main_v19, val_main_v73, val_main_v74, val_main_v75, val_main_v76, val_main_v77, val_main_v78, val_main_v79, val_main_v80, val_main_v81, val_main_v82, val_main_v83, val_main_v84, val_main_v85, val_main_cst_8, val_main_cst_9, val_main_cst_10]
  simp only [hp]
  rfl

/-- The rotary keys. -/
theorem v117_at (b : Fin 8) (s : Fin 2048) (l : Fin 32) (p : Fin 1952 → EReal) (hp : ∀ l, val_main_v14 (F := Ideal) X0 X1 X2 (ix3 b s l) = p l) :
    val_main_v117 (F := Ideal) X0 X1 X2 (ix3 b s l) = kpe p (co s) (si s) l := by
  pointwise [val_main_v13, val_main_v20, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_cst_11, val_main_cst_12, val_main_cst_13]
  simp only [hp]
  unfold kpe rope
  by_cases h16 : l.val < 16
  · rw [dif_pos h16, dif_pos h16]
    refine congrArg₂ (· - ·) (congrArg₂ (· * ·) (congrArg p (Fin.ext ?_)) rfl) (congrArg₂ (· * ·) (congrArg p (Fin.ext ?_)) rfl) <;>
      dsimp only <;> omega
  · rw [dif_neg h16, dif_neg h16]
    refine congrArg₂ (· + ·) (congrArg₂ (· * ·) (congrArg p (Fin.ext ?_)) rfl) (congrArg₂ (· * ·) (congrArg p (Fin.ext ?_)) rfl) <;>
      dsimp only <;> omega

end Cert.MixRef
-- ==== Proof.MixRef.lean ====
module
public import proofs.«01_k».proof.Proof.MixRefA
public import Idealize.ShloMosaic.Lib.Pointwise
/-! What the mixer inputs' reference computes, result by result. -/
@[expose] public section
set_option maxRecDepth 16384
noncomputable section
open Idealize.ShloMosaic Idealize.ShloMosaic.TcCoe Idealize.SL.Sem
open Cert.Reference3Ideal Cert.Reference3Ideal.Read
namespace Cert.MixRef
open Cert.Tail Cert.Mix

variable (X0 : FVec Ideal S8x2048x1024 .f32) (X1 : FVec Ideal S1024 .f32) (X2 : FVec Ideal S1024x1952 .f32) (X3 : FVec Ideal S256 .f32)
  (X4 : FVec Ideal S256x768 .f32) (X5 : FVec Ideal S128 .f32) (X6 : FVec Ideal S128x8x64 .f32)

/-- The projected row of token `s` of sequence `b`. -/
def pAt (b : Fin 8) (s : Fin 2048) : Fin 1952 → EReal := proj (fun l => X0 (ix3 b s l)) (fun l => X1 (ix1 l)) (fun k l => X2 (ix2 k l))
/-- Its queries. -/
def qAt (b : Fin 8) (s : Fin 2048) : Fin 768 → EReal := qrow (pAt X0 X1 X2 b s) (fun l => X3 (ix1 l)) (fun k l => X4 (ix2 k l))
/-- Its attention row of head `h`: the latent query, the rotary query, zeros. -/
def qmlaAt (h : Fin 8) (b : Fin 8) (s : Fin 2048) : Fin 256 → EReal :=
  wide (qlat (qAt X0 X1 X2 X3 X4 b s) (fun c h n => X6 (ix3 c h n)) h) (qpe (qAt X0 X1 X2 X3 X4 b s) (co s) (si s) h)
/-- Its key row: the latent key, the rotary key, zeros. -/
def kmlaAt (b : Fin 8) (s : Fin 2048) : Fin 256 → EReal :=
  wide (ckv (pAt X0 X1 X2 b s) (fun l => X5 (ix1 l))) (kpe (pAt X0 X1 X2 b s) (co s) (si s))

/-- The scaled queries. -/
theorem v130_at (r : Fin 16384) (l : Fin 512) :
    val_main_v130 (F := Ideal) X0 X1 X2 (ix2 r l) = pAt X0 X1 X2 ⟨r.val / 2048, by omega⟩ ⟨r.val % 2048, by omega⟩ ⟨l.val, by omega⟩ * scale := by
  pointwise [val_main_v15, val_main_v21, val_main_v127, val_main_v128, val_main_v129, val_main_v130, val_main_cst_16]
  simp only [v14_at]
  rfl

/-- The keys. -/
theorem v131_at (r : Fin 16384) (l : Fin 512) :
    val_main_v131 (F := Ideal) X0 X1 X2 (ix2 r l) = pAt X0 X1 X2 ⟨r.val / 2048, by omega⟩ ⟨r.val % 2048, by omega⟩ ⟨512 + l.val, by omega⟩ := by
  pointwise [val_main_v16, val_main_v22, val_main_v131]
  simp only [v14_at]
  rfl

/-- The values. -/
theorem v132_at (r : Fin 16384) (l : Fin 512) :
    val_main_v132 (F := Ideal) X0 X1 X2 (ix2 r l) = pAt X0 X1 X2 ⟨r.val / 2048, by omega⟩ ⟨r.val % 2048, by omega⟩ ⟨1024 + l.val, by omega⟩ := by
  pointwise [val_main_v17, val_main_v23, val_main_v132]
  simp only [v14_at]
  rfl

/-- The keys again. -/
theorem v134_at (r : Fin 16384) (l : Fin 512) :
    val_main_v134 (F := Ideal) X0 X1 X2 (ix2 r l) = pAt X0 X1 X2 ⟨r.val / 2048, by omega⟩ ⟨r.val % 2048, by omega⟩ ⟨512 + l.val, by omega⟩ := by
  pointwise [val_main_v16, val_main_v22, val_main_v133, val_main_v134]
  simp only [v14_at]
  rfl

/-- The values again. -/
theorem v136_at (r : Fin 16384) (l : Fin 512) :
    val_main_v136 (F := Ideal) X0 X1 X2 (ix2 r l) = pAt X0 X1 X2 ⟨r.val / 2048, by omega⟩ ⟨r.val % 2048, by omega⟩ ⟨1024 + l.val, by omega⟩ := by
  pointwise [val_main_v17, val_main_v23, val_main_v135, val_main_v136]
  simp only [v14_at]
  rfl

/-- A latent row and a rotary row side by side and zeros after them. -/
theorem wide_pad (A : Fin 128 → EReal) (B : Fin 32 → EReal) (l : Fin 256) :
    (if h : l.val < 160 then if h' : l.val < 128 then A ⟨l.val, h'⟩ else B ⟨l.val - 128, by omega⟩ else 0) = wide A B l := by
  unfold wide
  split_ifs <;> first | rfl | omega

/-- The latent attention's queries, head by head. -/
theorem v121_at (b : Fin 8) (s : Fin 2048) (h : Fin 8) (l : Fin 256) :
    val_main_v121 (F := Ideal) X0 X1 X2 X3 X4 X6 (ix4 h b s l) = qmlaAt X0 X1 X2 X3 X4 X6 h b s l := by
  have hq := fun l => v37_at X0 X1 X2 X3 X4 b s l _ (v14_at X0 X1 X2 b s)
  have hpe := fun l => v70_at X0 X1 X2 X3 X4 b s h l _ hq
  have hlat := fun l => v72_at X0 X1 X2 X3 X4 X6 b s h l _ hq
  pointwise [val_main_v118, val_main_v119, val_main_v120, val_main_v121, val_main_cst_14]
  simp only [hpe, hlat]
  exact wide_pad _ _ l

/-- The latent keys. -/
theorem v138_at (r : Fin 16384) (l : Fin 128) :
    val_main_v138 (F := Ideal) X0 X1 X2 X5 (ix2 r l) = ckv (pAt X0 X1 X2 ⟨r.val / 2048, by omega⟩ ⟨r.val % 2048, by omega⟩) (fun l => X5 (ix1 l)) l := by
  pointwise [val_main_v138]
  exact v85_at X0 X1 X2 X5 _ _ l _ (v14_at X0 X1 X2 _ _)

/-- The rotary keys. -/
theorem v139_at (r : Fin 16384) (l : Fin 32) :
    val_main_v139 (F := Ideal) X0 X1 X2 (ix2 r l)
      = kpe (pAt X0 X1 X2 ⟨r.val / 2048, by omega⟩ ⟨r.val % 2048, by omega⟩) (co ⟨r.val % 2048, by omega⟩) (si ⟨r.val % 2048, by omega⟩) l := by
  pointwise [val_main_v139]
  exact v117_at X0 X1 X2 _ _ l _ (v14_at X0 X1 X2 _ _)

/-- The latent attention's keys. -/
theorem v140_at (r : Fin 16384) (l : Fin 256) :
    val_main_v140 (F := Ideal) X0 X1 X2 X5 (ix2 r l) = kmlaAt X0 X1 X2 X5 ⟨r.val / 2048, by omega⟩ ⟨r.val % 2048, by omega⟩ l := by
  pointwise [val_main_v123, val_main_v124, val_main_v125, val_main_v126, val_main_v140, val_main_cst_15]
  simp only [fun (b : Fin 8) (s : Fin 2048) l => v85_at X0 X1 X2 X5 b s l _ (v14_at X0 X1 X2 b s), fun (b : Fin 8) (s : Fin 2048) l => v117_at X0 X1 X2 b s l _ (v14_at X0 X1 X2 b s)]
  exact wide_pad (ckv (pAt X0 X1 X2 ⟨r.val / 2048, by omega⟩ ⟨r.val % 2048, by omega⟩) (fun l => X5 (ix1 l)))
    (kpe (pAt X0 X1 X2 ⟨r.val / 2048, by omega⟩ ⟨r.val % 2048, by omega⟩) (co ⟨r.val % 2048, by omega⟩) (si ⟨r.val % 2048, by omega⟩)) l

end Cert.MixRef
-- ==== Proof.MixRefQ.lean ====
module
public import proofs.«01_k».proof.Proof.MixRef
public import Idealize.ShloMosaic.Lib.Pointwise
/-! What the mixer inputs' reference computes, the latent attention's queries. -/
@[expose] public section
set_option maxRecDepth 16384
noncomputable section
open Idealize.ShloMosaic Idealize.ShloMosaic.TcCoe Idealize.SL.Sem
open Cert.Reference3Ideal Cert.Reference3Ideal.Read
namespace Cert.MixRef
open Cert.Tail Cert.Mix

variable (X0 : FVec Ideal S8x2048x1024 .f32) (X1 : FVec Ideal S1024 .f32) (X2 : FVec Ideal S1024x1952 .f32) (X3 : FVec Ideal S256 .f32)
  (X4 : FVec Ideal S256x768 .f32) (X5 : FVec Ideal S128 .f32) (X6 : FVec Ideal S128x8x64 .f32)

/-- Where an entry of the one array per head lies among the sequences' tokens. -/
theorem idx_at (h : Fin 8) (r : Fin 16384) (l : Fin 256) :
    idx_main_v122 (ix3 h r l) = ix4 h (⟨r.val / 2048, by omega⟩ : Fin 8) (⟨r.val % 2048, by omega⟩ : Fin 2048) l := by
  have hh := h.isLt
  have hr := r.isLt
  have hl := l.isLt
  have h0 : ((h.val * 16384 + r.val) * 256 + l.val) / 4194304 = h.val := by omega
  have h1 : ((h.val * 16384 + r.val) * 256 + l.val) / 524288 % 8 = r.val / 2048 := by omega
  have h2 : ((h.val * 16384 + r.val) * 256 + l.val) / 256 % 2048 = r.val % 2048 := by omega
  have h3 : ((h.val * 16384 + r.val) * 256 + l.val) % 256 = l.val := by omega
  funext a
  match a with
  | ⟨0, _⟩ => exact Fin.ext h0
  | ⟨1, _⟩ => exact Fin.ext h1
  | ⟨2, _⟩ => exact Fin.ext h2
  | ⟨3, _⟩ => exact Fin.ext h3

/-- Rounding to a narrower format leaves a number as it is over the extended reals. -/
theorem truncf_eq (x : Ideal FTy.f32) (h : FTy.bits .bf16 < FTy.bits .f32) (y : EReal) (e : x = y) : FloatOps.truncf (F := Ideal) .bf16 h x = y := e

/-- The latent attention's queries, as one array per head. -/
theorem v137_at (h : Fin 8) (r : Fin 16384) (l : Fin 256) :
    val_main_v137 (F := Ideal) X0 X1 X2 X3 X4 X6 (ix3 h r l) = qmlaAt X0 X1 X2 X3 X4 X6 h ⟨r.val / 2048, by omega⟩ ⟨r.val % 2048, by omega⟩ l := by
  refine (val_main_v137_apply (F := Ideal) X0 X1 X2 X3 X4 X6 (ix3 h r l)).trans ?_
  refine truncf_eq _ _ _ ?_
  rw [val_main_v122_apply, idx_at]
  exact v121_at X0 X1 X2 X3 X4 X6 _ _ h l

end Cert.MixRef
-- ==== Proof.MixClaim.lean ====
/- The mixer inputs: the kernel and the reference end with the same nine arrays. -/
module

public import proofs.«01_k».proof.Defs
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.MixArray
public import proofs.«01_k».proof.Proof.MixArrayB
public import proofs.«01_k».proof.Proof.MixArrayC
public import proofs.«01_k».proof.Proof.MixRefQ
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.MixClaim

open Cert.Mix Cert.MixBlk

/-- The reference runs, leaves its arguments and every counter. -/
theorem reference_frame : Cert.quiescent_Reference3Ideal := by
  intro m g _
  exact (θ_run Cert.Reference3Ideal.defs _ _).mono (fun r h => ⟨fun c => (h c).2.2.2.2.2.2.2.2.2, sem_eq_zero_of_no_sems (by decide) r.2⟩) (Cert.Reference3Ideal.Value.run m g)

section
variable (X0 : FVec Ideal Cert.Kernel3Ideal.S8x2048x1024 .f32) (X1 : FVec Ideal Cert.Kernel3Ideal.S1024 .f32) (X2 : FVec Ideal Cert.Kernel3Ideal.S1024x1952 .f32)
  (X3 : FVec Ideal Cert.Kernel3Ideal.S256 .f32) (X4 : FVec Ideal Cert.Kernel3Ideal.S256x768 .f32) (X5 : FVec Ideal Cert.Kernel3Ideal.S128 .f32)
  (X6 : FVec Ideal Cert.Kernel3Ideal.S128x8x64 .f32)

/-- The scaled queries of a token. -/
def e0 (r : Fin 16384) (l : Fin 512) : EReal := Cert.MixRef.pAt X0 X1 X2 ⟨r.val / 2048, by omega⟩ ⟨r.val % 2048, by omega⟩ ⟨l.val, by omega⟩ * scale
/-- The scaled queries. -/
def o0 : Cert.Kernel3Ideal.S16384x512.Idx → EReal := fun i => e0 X0 X1 X2 ⟨(i 0).val, (i 0).isLt⟩ ⟨(i 1).val, (i 1).isLt⟩
/-- The keys of a token. -/
def e1 (r : Fin 16384) (l : Fin 512) : EReal := Cert.MixRef.pAt X0 X1 X2 ⟨r.val / 2048, by omega⟩ ⟨r.val % 2048, by omega⟩ ⟨512 + l.val, by omega⟩
/-- The keys. -/
def o1 : Cert.Kernel3Ideal.S16384x512.Idx → EReal := fun i => e1 X0 X1 X2 ⟨(i 0).val, (i 0).isLt⟩ ⟨(i 1).val, (i 1).isLt⟩
/-- The values of a token. -/
def e2 (r : Fin 16384) (l : Fin 512) : EReal := Cert.MixRef.pAt X0 X1 X2 ⟨r.val / 2048, by omega⟩ ⟨r.val % 2048, by omega⟩ ⟨1024 + l.val, by omega⟩
/-- The values. -/
def o2 : Cert.Kernel3Ideal.S16384x512.Idx → EReal := fun i => e2 X0 X1 X2 ⟨(i 0).val, (i 0).isLt⟩ ⟨(i 1).val, (i 1).isLt⟩
/-- A head's attention row of a token. -/
def e5 (h : Fin 8) (r : Fin 16384) (l : Fin 256) : EReal := Cert.MixRef.qmlaAt X0 X1 X2 X3 X4 X6 h ⟨r.val / 2048, by omega⟩ ⟨r.val % 2048, by omega⟩ l
/-- The latent attention's queries. -/
def o5 : Cert.Kernel3Ideal.S8x16384x256.Idx → EReal := fun i => e5 X0 X1 X2 X3 X4 X6 ⟨(i 0).val, (i 0).isLt⟩ ⟨(i 1).val, (i 1).isLt⟩ ⟨(i 2).val, (i 2).isLt⟩
/-- The latent keys of a token. -/
def e6 (r : Fin 16384) (l : Fin 128) : EReal := ckv (Cert.MixRef.pAt X0 X1 X2 ⟨r.val / 2048, by omega⟩ ⟨r.val % 2048, by omega⟩) (fun l => X5 (ix1 l)) l
/-- The latent keys. -/
def o6 : Cert.Kernel3Ideal.S16384x128.Idx → EReal := fun i => e6 X0 X1 X2 X5 ⟨(i 0).val, (i 0).isLt⟩ ⟨(i 1).val, (i 1).isLt⟩
/-- The rotary keys of a token. -/
def e7 (r : Fin 16384) (l : Fin 32) : EReal := kpe (Cert.MixRef.pAt X0 X1 X2 ⟨r.val / 2048, by omega⟩ ⟨r.val % 2048, by omega⟩) (co ⟨r.val % 2048, by omega⟩) (si ⟨r.val % 2048, by omega⟩) l
/-- The rotary keys. -/
def o7 : Cert.Kernel3Ideal.S16384x32.Idx → EReal := fun i => e7 X0 X1 X2 ⟨(i 0).val, (i 0).isLt⟩ ⟨(i 1).val, (i 1).isLt⟩
/-- The latent attention's keys of a token. -/
def e8 (r : Fin 16384) (l : Fin 256) : EReal := Cert.MixRef.kmlaAt X0 X1 X2 X5 ⟨r.val / 2048, by omega⟩ ⟨r.val % 2048, by omega⟩ l
/-- The latent attention's keys. -/
def o8 : Cert.Kernel3Ideal.S16384x256.Idx → EReal := fun i => e8 X0 X1 X2 X5 ⟨(i 0).val, (i 0).isLt⟩ ⟨(i 1).val, (i 1).isLt⟩

end

/-- Equal arguments give equal values. -/
theorem congr_args {β : Type} (f : FVec Ideal Cert.Kernel3Ideal.S8x2048x1024 .f32 → FVec Ideal Cert.Kernel3Ideal.S1024 .f32 → FVec Ideal Cert.Kernel3Ideal.S1024x1952 .f32
      → FVec Ideal Cert.Kernel3Ideal.S256 .f32 → FVec Ideal Cert.Kernel3Ideal.S256x768 .f32 → FVec Ideal Cert.Kernel3Ideal.S128 .f32
      → FVec Ideal Cert.Kernel3Ideal.S128x8x64 .f32 → β)
    {X0 Y0 : FVec Ideal Cert.Kernel3Ideal.S8x2048x1024 .f32} {X1 Y1 : FVec Ideal Cert.Kernel3Ideal.S1024 .f32} {X2 Y2 : FVec Ideal Cert.Kernel3Ideal.S1024x1952 .f32}
    {X3 Y3 : FVec Ideal Cert.Kernel3Ideal.S256 .f32} {X4 Y4 : FVec Ideal Cert.Kernel3Ideal.S256x768 .f32} {X5 Y5 : FVec Ideal Cert.Kernel3Ideal.S128 .f32}
    {X6 Y6 : FVec Ideal Cert.Kernel3Ideal.S128x8x64 .f32}
    (h0 : Y0 = X0) (h1 : Y1 = X1) (h2 : Y2 = X2) (h3 : Y3 = X3) (h4 : Y4 = X4) (h5 : Y5 = X5) (h6 : Y6 = X6) :
    f Y0 Y1 Y2 Y3 Y4 Y5 Y6 = f X0 X1 X2 X3 X4 X5 X6 := by
  subst h0 h1 h2 h3 h4 h5 h6
  rfl

/-- Result 0 of the kernel. -/
theorem kernel0 (m : (ℓ : Loc Cert.Kernel3Ideal.nD Cert.Kernel3Ideal.τ Cert.Kernel3Ideal.sig) → Buf (Elt Ideal) ℓ) (c : Dev Cert.Kernel3Ideal.nD) :
    (show FVec Ideal Cert.Kernel3Ideal.S16384x512 .bf16 from (Cert.Kernel3Ideal.Gen.dats m 0 c).arrAt 10 (Cert.Kernel3Ideal.cfgs 0).N) = o0 (A0 m c) (A1 m c) (A2 m c) := by
  funext i
  obtain ⟨r, l, rfl⟩ : ∃ (r : Fin 16384) (l : Fin 512), i = ix2 r l := ⟨i 0, i 1, eq_ix2 i⟩
  exact Cert.MixArray.final10 m c r l

/-- Result 0 of the reference. -/
theorem reference0 {X0 Y0 : FVec Ideal Cert.Kernel3Ideal.S8x2048x1024 .f32} {X1 Y1 : FVec Ideal Cert.Kernel3Ideal.S1024 .f32} {X2 Y2 : FVec Ideal Cert.Kernel3Ideal.S1024x1952 .f32}
    {X3 Y3 : FVec Ideal Cert.Kernel3Ideal.S256 .f32} {X4 Y4 : FVec Ideal Cert.Kernel3Ideal.S256x768 .f32} {X5 Y5 : FVec Ideal Cert.Kernel3Ideal.S128 .f32}
    {X6 Y6 : FVec Ideal Cert.Kernel3Ideal.S128x8x64 .f32}
    (h0 : Y0 = X0) (h1 : Y1 = X1) (h2 : Y2 = X2) (h3 : Y3 = X3) (h4 : Y4 = X4) (h5 : Y5 = X5) (h6 : Y6 = X6) :
    Cert.Reference3Ideal.Read.val_main_v130 (F := Ideal) Y0 Y1 Y2 = o0 X0 X1 X2 := by
  refine Eq.trans (b := o0 Y0 Y1 Y2) ?_
    (congr_args (fun X0 X1 X2 X3 X4 X5 X6 => o0 X0 X1 X2) h0 h1 h2 h3 h4 h5 h6)
  funext i
  obtain ⟨r, l, rfl⟩ : ∃ (r : Fin 16384) (l : Fin 512), i = ix2 r l := ⟨i 0, i 1, eq_ix2 i⟩
  exact Cert.MixRef.v130_at Y0 Y1 Y2 r l

/-- Result 1 of the kernel. -/
theorem kernel1 (m : (ℓ : Loc Cert.Kernel3Ideal.nD Cert.Kernel3Ideal.τ Cert.Kernel3Ideal.sig) → Buf (Elt Ideal) ℓ) (c : Dev Cert.Kernel3Ideal.nD) :
    (show FVec Ideal Cert.Kernel3Ideal.S16384x512 .f32 from (Cert.Kernel3Ideal.Gen.dats m 0 c).arrAt 11 (Cert.Kernel3Ideal.cfgs 0).N) = o1 (A0 m c) (A1 m c) (A2 m c) := by
  funext i
  obtain ⟨r, l, rfl⟩ : ∃ (r : Fin 16384) (l : Fin 512), i = ix2 r l := ⟨i 0, i 1, eq_ix2 i⟩
  exact Cert.MixArray.final11 m c r l

/-- Result 1 of the reference. -/
theorem reference1 {X0 Y0 : FVec Ideal Cert.Kernel3Ideal.S8x2048x1024 .f32} {X1 Y1 : FVec Ideal Cert.Kernel3Ideal.S1024 .f32} {X2 Y2 : FVec Ideal Cert.Kernel3Ideal.S1024x1952 .f32}
    {X3 Y3 : FVec Ideal Cert.Kernel3Ideal.S256 .f32} {X4 Y4 : FVec Ideal Cert.Kernel3Ideal.S256x768 .f32} {X5 Y5 : FVec Ideal Cert.Kernel3Ideal.S128 .f32}
    {X6 Y6 : FVec Ideal Cert.Kernel3Ideal.S128x8x64 .f32}
    (h0 : Y0 = X0) (h1 : Y1 = X1) (h2 : Y2 = X2) (h3 : Y3 = X3) (h4 : Y4 = X4) (h5 : Y5 = X5) (h6 : Y6 = X6) :
    Cert.Reference3Ideal.Read.val_main_v131 (F := Ideal) Y0 Y1 Y2 = o1 X0 X1 X2 := by
  refine Eq.trans (b := o1 Y0 Y1 Y2) ?_
    (congr_args (fun X0 X1 X2 X3 X4 X5 X6 => o1 X0 X1 X2) h0 h1 h2 h3 h4 h5 h6)
  funext i
  obtain ⟨r, l, rfl⟩ : ∃ (r : Fin 16384) (l : Fin 512), i = ix2 r l := ⟨i 0, i 1, eq_ix2 i⟩
  exact Cert.MixRef.v131_at Y0 Y1 Y2 r l

/-- Result 2 of the kernel. -/
theorem kernel2 (m : (ℓ : Loc Cert.Kernel3Ideal.nD Cert.Kernel3Ideal.τ Cert.Kernel3Ideal.sig) → Buf (Elt Ideal) ℓ) (c : Dev Cert.Kernel3Ideal.nD) :
    (show FVec Ideal Cert.Kernel3Ideal.S16384x512 .f32 from (Cert.Kernel3Ideal.Gen.dats m 0 c).arrAt 12 (Cert.Kernel3Ideal.cfgs 0).N) = o2 (A0 m c) (A1 m c) (A2 m c) := by
  funext i
  obtain ⟨r, l, rfl⟩ : ∃ (r : Fin 16384) (l : Fin 512), i = ix2 r l := ⟨i 0, i 1, eq_ix2 i⟩
  exact Cert.MixArray.final12 m c r l

/-- Result 2 of the reference. -/
theorem reference2 {X0 Y0 : FVec Ideal Cert.Kernel3Ideal.S8x2048x1024 .f32} {X1 Y1 : FVec Ideal Cert.Kernel3Ideal.S1024 .f32} {X2 Y2 : FVec Ideal Cert.Kernel3Ideal.S1024x1952 .f32}
    {X3 Y3 : FVec Ideal Cert.Kernel3Ideal.S256 .f32} {X4 Y4 : FVec Ideal Cert.Kernel3Ideal.S256x768 .f32} {X5 Y5 : FVec Ideal Cert.Kernel3Ideal.S128 .f32}
    {X6 Y6 : FVec Ideal Cert.Kernel3Ideal.S128x8x64 .f32}
    (h0 : Y0 = X0) (h1 : Y1 = X1) (h2 : Y2 = X2) (h3 : Y3 = X3) (h4 : Y4 = X4) (h5 : Y5 = X5) (h6 : Y6 = X6) :
    Cert.Reference3Ideal.Read.val_main_v132 (F := Ideal) Y0 Y1 Y2 = o2 X0 X1 X2 := by
  refine Eq.trans (b := o2 Y0 Y1 Y2) ?_
    (congr_args (fun X0 X1 X2 X3 X4 X5 X6 => o2 X0 X1 X2) h0 h1 h2 h3 h4 h5 h6)
  funext i
  obtain ⟨r, l, rfl⟩ : ∃ (r : Fin 16384) (l : Fin 512), i = ix2 r l := ⟨i 0, i 1, eq_ix2 i⟩
  exact Cert.MixRef.v132_at Y0 Y1 Y2 r l

/-- Result 3 of the kernel. -/
theorem kernel3 (m : (ℓ : Loc Cert.Kernel3Ideal.nD Cert.Kernel3Ideal.τ Cert.Kernel3Ideal.sig) → Buf (Elt Ideal) ℓ) (c : Dev Cert.Kernel3Ideal.nD) :
    (show FVec Ideal Cert.Kernel3Ideal.S16384x512 .bf16 from (Cert.Kernel3Ideal.Gen.dats m 0 c).arrAt 13 (Cert.Kernel3Ideal.cfgs 0).N) = o1 (A0 m c) (A1 m c) (A2 m c) := by
  funext i
  obtain ⟨r, l, rfl⟩ : ∃ (r : Fin 16384) (l : Fin 512), i = ix2 r l := ⟨i 0, i 1, eq_ix2 i⟩
  exact Cert.MixArray.final13 m c r l

/-- Result 3 of the reference. -/
theorem reference3 {X0 Y0 : FVec Ideal Cert.Kernel3Ideal.S8x2048x1024 .f32} {X1 Y1 : FVec Ideal Cert.Kernel3Ideal.S1024 .f32} {X2 Y2 : FVec Ideal Cert.Kernel3Ideal.S1024x1952 .f32}
    {X3 Y3 : FVec Ideal Cert.Kernel3Ideal.S256 .f32} {X4 Y4 : FVec Ideal Cert.Kernel3Ideal.S256x768 .f32} {X5 Y5 : FVec Ideal Cert.Kernel3Ideal.S128 .f32}
    {X6 Y6 : FVec Ideal Cert.Kernel3Ideal.S128x8x64 .f32}
    (h0 : Y0 = X0) (h1 : Y1 = X1) (h2 : Y2 = X2) (h3 : Y3 = X3) (h4 : Y4 = X4) (h5 : Y5 = X5) (h6 : Y6 = X6) :
    Cert.Reference3Ideal.Read.val_main_v134 (F := Ideal) Y0 Y1 Y2 = o1 X0 X1 X2 := by
  refine Eq.trans (b := o1 Y0 Y1 Y2) ?_
    (congr_args (fun X0 X1 X2 X3 X4 X5 X6 => o1 X0 X1 X2) h0 h1 h2 h3 h4 h5 h6)
  funext i
  obtain ⟨r, l, rfl⟩ : ∃ (r : Fin 16384) (l : Fin 512), i = ix2 r l := ⟨i 0, i 1, eq_ix2 i⟩
  exact Cert.MixRef.v134_at Y0 Y1 Y2 r l

/-- Result 4 of the kernel. -/
theorem kernel4 (m : (ℓ : Loc Cert.Kernel3Ideal.nD Cert.Kernel3Ideal.τ Cert.Kernel3Ideal.sig) → Buf (Elt Ideal) ℓ) (c : Dev Cert.Kernel3Ideal.nD) :
    (show FVec Ideal Cert.Kernel3Ideal.S16384x512 .bf16 from (Cert.Kernel3Ideal.Gen.dats m 0 c).arrAt 14 (Cert.Kernel3Ideal.cfgs 0).N) = o2 (A0 m c) (A1 m c) (A2 m c) := by
  funext i
  obtain ⟨r, l, rfl⟩ : ∃ (r : Fin 16384) (l : Fin 512), i = ix2 r l := ⟨i 0, i 1, eq_ix2 i⟩
  exact Cert.MixArray.final14 m c r l

/-- Result 4 of the reference. -/
theorem reference4 {X0 Y0 : FVec Ideal Cert.Kernel3Ideal.S8x2048x1024 .f32} {X1 Y1 : FVec Ideal Cert.Kernel3Ideal.S1024 .f32} {X2 Y2 : FVec Ideal Cert.Kernel3Ideal.S1024x1952 .f32}
    {X3 Y3 : FVec Ideal Cert.Kernel3Ideal.S256 .f32} {X4 Y4 : FVec Ideal Cert.Kernel3Ideal.S256x768 .f32} {X5 Y5 : FVec Ideal Cert.Kernel3Ideal.S128 .f32}
    {X6 Y6 : FVec Ideal Cert.Kernel3Ideal.S128x8x64 .f32}
    (h0 : Y0 = X0) (h1 : Y1 = X1) (h2 : Y2 = X2) (h3 : Y3 = X3) (h4 : Y4 = X4) (h5 : Y5 = X5) (h6 : Y6 = X6) :
    Cert.Reference3Ideal.Read.val_main_v136 (F := Ideal) Y0 Y1 Y2 = o2 X0 X1 X2 := by
  refine Eq.trans (b := o2 Y0 Y1 Y2) ?_
    (congr_args (fun X0 X1 X2 X3 X4 X5 X6 => o2 X0 X1 X2) h0 h1 h2 h3 h4 h5 h6)
  funext i
  obtain ⟨r, l, rfl⟩ : ∃ (r : Fin 16384) (l : Fin 512), i = ix2 r l := ⟨i 0, i 1, eq_ix2 i⟩
  exact Cert.MixRef.v136_at Y0 Y1 Y2 r l

/-- Result 5 of the kernel. -/
theorem kernel5 (m : (ℓ : Loc Cert.Kernel3Ideal.nD Cert.Kernel3Ideal.τ Cert.Kernel3Ideal.sig) → Buf (Elt Ideal) ℓ) (c : Dev Cert.Kernel3Ideal.nD) :
    (show FVec Ideal Cert.Kernel3Ideal.S8x16384x256 .bf16 from (Cert.Kernel3Ideal.Gen.dats m 0 c).arrAt 15 (Cert.Kernel3Ideal.cfgs 0).N) = o5 (A0 m c) (A1 m c) (A2 m c) (A3 m c) (A4 m c) (A6 m c) := by
  funext i
  obtain ⟨h, r, l, rfl⟩ : ∃ (h : Fin 8) (r : Fin 16384) (l : Fin 256), i = ix3 h r l := ⟨i 0, i 1, i 2, eq_ix3 i⟩
  exact Cert.MixArray.final15 m c h r l

/-- Result 5 of the reference. -/
theorem reference5 {X0 Y0 : FVec Ideal Cert.Kernel3Ideal.S8x2048x1024 .f32} {X1 Y1 : FVec Ideal Cert.Kernel3Ideal.S1024 .f32} {X2 Y2 : FVec Ideal Cert.Kernel3Ideal.S1024x1952 .f32}
    {X3 Y3 : FVec Ideal Cert.Kernel3Ideal.S256 .f32} {X4 Y4 : FVec Ideal Cert.Kernel3Ideal.S256x768 .f32} {X5 Y5 : FVec Ideal Cert.Kernel3Ideal.S128 .f32}
    {X6 Y6 : FVec Ideal Cert.Kernel3Ideal.S128x8x64 .f32}
    (h0 : Y0 = X0) (h1 : Y1 = X1) (h2 : Y2 = X2) (h3 : Y3 = X3) (h4 : Y4 = X4) (h5 : Y5 = X5) (h6 : Y6 = X6) :
    Cert.Reference3Ideal.Read.val_main_v137 (F := Ideal) Y0 Y1 Y2 Y3 Y4 Y6 = o5 X0 X1 X2 X3 X4 X6 := by
  refine Eq.trans (b := o5 Y0 Y1 Y2 Y3 Y4 Y6) ?_
    (congr_args (fun X0 X1 X2 X3 X4 X5 X6 => o5 X0 X1 X2 X3 X4 X6) h0 h1 h2 h3 h4 h5 h6)
  funext i
  obtain ⟨h, r, l, rfl⟩ : ∃ (h : Fin 8) (r : Fin 16384) (l : Fin 256), i = ix3 h r l := ⟨i 0, i 1, i 2, eq_ix3 i⟩
  exact Cert.MixRef.v137_at Y0 Y1 Y2 Y3 Y4 Y6 h r l

/-- Result 6 of the kernel. -/
theorem kernel6 (m : (ℓ : Loc Cert.Kernel3Ideal.nD Cert.Kernel3Ideal.τ Cert.Kernel3Ideal.sig) → Buf (Elt Ideal) ℓ) (c : Dev Cert.Kernel3Ideal.nD) :
    (show FVec Ideal Cert.Kernel3Ideal.S16384x128 .f32 from (Cert.Kernel3Ideal.Gen.dats m 0 c).arrAt 16 (Cert.Kernel3Ideal.cfgs 0).N) = o6 (A0 m c) (A1 m c) (A2 m c) (A5 m c) := by
  funext i
  obtain ⟨r, l, rfl⟩ : ∃ (r : Fin 16384) (l : Fin 128), i = ix2 r l := ⟨i 0, i 1, eq_ix2 i⟩
  exact Cert.MixArray.final16 m c r l

/-- Result 6 of the reference. -/
theorem reference6 {X0 Y0 : FVec Ideal Cert.Kernel3Ideal.S8x2048x1024 .f32} {X1 Y1 : FVec Ideal Cert.Kernel3Ideal.S1024 .f32} {X2 Y2 : FVec Ideal Cert.Kernel3Ideal.S1024x1952 .f32}
    {X3 Y3 : FVec Ideal Cert.Kernel3Ideal.S256 .f32} {X4 Y4 : FVec Ideal Cert.Kernel3Ideal.S256x768 .f32} {X5 Y5 : FVec Ideal Cert.Kernel3Ideal.S128 .f32}
    {X6 Y6 : FVec Ideal Cert.Kernel3Ideal.S128x8x64 .f32}
    (h0 : Y0 = X0) (h1 : Y1 = X1) (h2 : Y2 = X2) (h3 : Y3 = X3) (h4 : Y4 = X4) (h5 : Y5 = X5) (h6 : Y6 = X6) :
    Cert.Reference3Ideal.Read.val_main_v138 (F := Ideal) Y0 Y1 Y2 Y5 = o6 X0 X1 X2 X5 := by
  refine Eq.trans (b := o6 Y0 Y1 Y2 Y5) ?_
    (congr_args (fun X0 X1 X2 X3 X4 X5 X6 => o6 X0 X1 X2 X5) h0 h1 h2 h3 h4 h5 h6)
  funext i
  obtain ⟨r, l, rfl⟩ : ∃ (r : Fin 16384) (l : Fin 128), i = ix2 r l := ⟨i 0, i 1, eq_ix2 i⟩
  exact Cert.MixRef.v138_at Y0 Y1 Y2 Y5 r l

/-- Result 7 of the kernel. -/
theorem kernel7 (m : (ℓ : Loc Cert.Kernel3Ideal.nD Cert.Kernel3Ideal.τ Cert.Kernel3Ideal.sig) → Buf (Elt Ideal) ℓ) (c : Dev Cert.Kernel3Ideal.nD) :
    (show FVec Ideal Cert.Kernel3Ideal.S16384x32 .f32 from (Cert.Kernel3Ideal.Gen.dats m 0 c).arrAt 17 (Cert.Kernel3Ideal.cfgs 0).N) = o7 (A0 m c) (A1 m c) (A2 m c) := by
  funext i
  obtain ⟨r, l, rfl⟩ : ∃ (r : Fin 16384) (l : Fin 32), i = ix2 r l := ⟨i 0, i 1, eq_ix2 i⟩
  exact Cert.MixArray.final17 m c r l

/-- Result 7 of the reference. -/
theorem reference7 {X0 Y0 : FVec Ideal Cert.Kernel3Ideal.S8x2048x1024 .f32} {X1 Y1 : FVec Ideal Cert.Kernel3Ideal.S1024 .f32} {X2 Y2 : FVec Ideal Cert.Kernel3Ideal.S1024x1952 .f32}
    {X3 Y3 : FVec Ideal Cert.Kernel3Ideal.S256 .f32} {X4 Y4 : FVec Ideal Cert.Kernel3Ideal.S256x768 .f32} {X5 Y5 : FVec Ideal Cert.Kernel3Ideal.S128 .f32}
    {X6 Y6 : FVec Ideal Cert.Kernel3Ideal.S128x8x64 .f32}
    (h0 : Y0 = X0) (h1 : Y1 = X1) (h2 : Y2 = X2) (h3 : Y3 = X3) (h4 : Y4 = X4) (h5 : Y5 = X5) (h6 : Y6 = X6) :
    Cert.Reference3Ideal.Read.val_main_v139 (F := Ideal) Y0 Y1 Y2 = o7 X0 X1 X2 := by
  refine Eq.trans (b := o7 Y0 Y1 Y2) ?_
    (congr_args (fun X0 X1 X2 X3 X4 X5 X6 => o7 X0 X1 X2) h0 h1 h2 h3 h4 h5 h6)
  funext i
  obtain ⟨r, l, rfl⟩ : ∃ (r : Fin 16384) (l : Fin 32), i = ix2 r l := ⟨i 0, i 1, eq_ix2 i⟩
  exact Cert.MixRef.v139_at Y0 Y1 Y2 r l

/-- Result 8 of the kernel. -/
theorem kernel8 (m : (ℓ : Loc Cert.Kernel3Ideal.nD Cert.Kernel3Ideal.τ Cert.Kernel3Ideal.sig) → Buf (Elt Ideal) ℓ) (c : Dev Cert.Kernel3Ideal.nD) :
    (show FVec Ideal Cert.Kernel3Ideal.S16384x256 .bf16 from (Cert.Kernel3Ideal.Gen.dats m 0 c).arrAt 18 (Cert.Kernel3Ideal.cfgs 0).N) = o8 (A0 m c) (A1 m c) (A2 m c) (A5 m c) := by
  funext i
  obtain ⟨r, l, rfl⟩ : ∃ (r : Fin 16384) (l : Fin 256), i = ix2 r l := ⟨i 0, i 1, eq_ix2 i⟩
  exact Cert.MixArray.final18 m c r l

/-- Result 8 of the reference. -/
theorem reference8 {X0 Y0 : FVec Ideal Cert.Kernel3Ideal.S8x2048x1024 .f32} {X1 Y1 : FVec Ideal Cert.Kernel3Ideal.S1024 .f32} {X2 Y2 : FVec Ideal Cert.Kernel3Ideal.S1024x1952 .f32}
    {X3 Y3 : FVec Ideal Cert.Kernel3Ideal.S256 .f32} {X4 Y4 : FVec Ideal Cert.Kernel3Ideal.S256x768 .f32} {X5 Y5 : FVec Ideal Cert.Kernel3Ideal.S128 .f32}
    {X6 Y6 : FVec Ideal Cert.Kernel3Ideal.S128x8x64 .f32}
    (h0 : Y0 = X0) (h1 : Y1 = X1) (h2 : Y2 = X2) (h3 : Y3 = X3) (h4 : Y4 = X4) (h5 : Y5 = X5) (h6 : Y6 = X6) :
    Cert.Reference3Ideal.Read.val_main_v140 (F := Ideal) Y0 Y1 Y2 Y5 = o8 X0 X1 X2 X5 := by
  refine Eq.trans (b := o8 Y0 Y1 Y2 Y5) ?_
    (congr_args (fun X0 X1 X2 X3 X4 X5 X6 => o8 X0 X1 X2 X5) h0 h1 h2 h3 h4 h5 h6)
  funext i
  obtain ⟨r, l, rfl⟩ : ∃ (r : Fin 16384) (l : Fin 256), i = ix2 r l := ⟨i 0, i 1, eq_ix2 i⟩
  exact Cert.MixRef.v140_at Y0 Y1 Y2 Y5 r l

/-- Over the extended reals kernel and reference end with the same nine arrays. -/
theorem algebraic : Cert.algebraic_Kernel3Ideal_Reference3Ideal := by
  intro m g m' g' hpre hargs
  refine ⟨fun c => o0 (A0 m c) (A1 m c) (A2 m c), fun c => o1 (A0 m c) (A1 m c) (A2 m c), fun c => o2 (A0 m c) (A1 m c) (A2 m c), fun c => o1 (A0 m c) (A1 m c) (A2 m c), fun c => o2 (A0 m c) (A1 m c) (A2 m c), fun c => o5 (A0 m c) (A1 m c) (A2 m c) (A3 m c) (A4 m c) (A6 m c), fun c => o6 (A0 m c) (A1 m c) (A2 m c) (A5 m c), fun c => o7 (A0 m c) (A1 m c) (A2 m c), fun c => o8 (A0 m c) (A1 m c) (A2 m c) (A5 m c), ?_, ?_⟩
  · refine (θ_run Cert.Kernel3Ideal.defs _ _).mono (fun r h c => ?_) (Cert.Kernel3Ideal.Value.run_blocks m g)
    obtain ⟨k0, k1, k2, k3, k4, k5, k6, k7, k8, kr⟩ := h c
    exact ⟨k0.trans (kernel0 m c), k1.trans (kernel1 m c), k2.trans (kernel2 m c), k3.trans (kernel3 m c), k4.trans (kernel4 m c), k5.trans (kernel5 m c), k6.trans (kernel6 m c), k7.trans (kernel7 m c), k8.trans (kernel8 m c), kr⟩
  · refine (θ_run Cert.Reference3Ideal.defs _ _).mono (fun r h c => ?_) (Cert.Reference3Ideal.Value.run m' g')
    obtain ⟨k0, k1, k2, k3, k4, k5, k6, k7, k8, kr⟩ := h c
    obtain ⟨a0, a1, a2, a3, a4, a5, a6⟩ := hargs c
    exact ⟨k0.trans ((Cert.Reference3Ideal.Read.val_main_v130_eq _ _ _ ).trans (reference0 a0 a1 a2 a3 a4 a5 a6)), k1.trans ((Cert.Reference3Ideal.Read.val_main_v131_eq _ _ _ ).trans (reference1 a0 a1 a2 a3 a4 a5 a6)), k2.trans ((Cert.Reference3Ideal.Read.val_main_v132_eq _ _ _ ).trans (reference2 a0 a1 a2 a3 a4 a5 a6)), k3.trans ((Cert.Reference3Ideal.Read.val_main_v134_eq _ _ _ ).trans (reference3 a0 a1 a2 a3 a4 a5 a6)), k4.trans ((Cert.Reference3Ideal.Read.val_main_v136_eq _ _ _ ).trans (reference4 a0 a1 a2 a3 a4 a5 a6)), k5.trans ((Cert.Reference3Ideal.Read.val_main_v137_eq m' c).trans (reference5 a0 a1 a2 a3 a4 a5 a6)), k6.trans ((Cert.Reference3Ideal.Read.val_main_v138_eq _ _ _ _ ).trans (reference6 a0 a1 a2 a3 a4 a5 a6)), k7.trans ((Cert.Reference3Ideal.Read.val_main_v139_eq m' c).trans (reference7 a0 a1 a2 a3 a4 a5 a6)), k8.trans ((Cert.Reference3Ideal.Read.val_main_v140_eq m' c).trans (reference8 a0 a1 a2 a3 a4 a5 a6)), kr⟩

end Cert.MixClaim
-- ==== Proof.SmpMath.lean ====
module
public import proofs.«01_k».proof.Proof.MixMath
/-! The sample's rotary angles, over the extended reals. -/
@[expose] public section
set_option maxRecDepth 16384
noncomputable section
open Idealize.ShloMosaic
namespace Cert.Smp

/-- The angle of the sample's position `16384 + s` in pair `j`: the position times 10000 to the power -2j/32. -/
def ang (s : Fin 8) (j : Fin 16) : EReal :=
  FloatOps.sitofp (F := Ideal) FTy.f32 (IntOp.addi 16384#32 (BitVec.ofNat 32 s.val)) * Ideal.pow (Ideal.ofBits .f32 0x461C4000#32)
    (Ideal.div (Ideal.ofBits .f32 0xC0000000#32 * FloatOps.sitofp (F := Ideal) FTy.f32 (BitVec.ofNat 32 j.val)) (Ideal.ofBits .f32 0x42000000#32))
/-- Its cosine. -/
def co (s : Fin 8) (j : Fin 16) : EReal := Ideal.cos (ang s j)
/-- Its sine. -/
def si (s : Fin 8) (j : Fin 16) : EReal := Ideal.sin (ang s j)

end Cert.Smp
-- ==== Proof.SmpBlk.lean ====
module
public import proofs.«01_k».proof.Proof.Gen.Kernel4Ideal.Value
public import proofs.«01_k».proof.Proof.SmpMath
public import Idealize.ShloMosaic.Lib.Pipeline.ValueKit
public import Idealize.ShloMosaic.Lib.Pointwise
public import Idealize.ShloMosaic.Lib.WordCmp
/-! The blocks the sample's mixer inputs' kernel stages, read at an index of the launched arrays. -/
@[expose] public section
set_option maxRecDepth 16384
noncomputable section
open Idealize.ShloMosaic Idealize.ShloMosaic.TcCoe Idealize.SL.Sem
open Idealize.ShloMosaic.Pipeline (Dat)
open Cert.Kernel4Ideal Cert.Kernel4Ideal.Gen
namespace Cert.SmpBlk
open Cert.Smp
open Cert.Mix hiding ang co si
variable (m : (ℓ : Loc nD τ sig) → Buf (Elt Ideal) ℓ)

/-- The blocks a grid point stages: point `t` is row block `t`, the tokens of 64 sequences. -/
theorem idx : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ t.val < 2 :=
  (by decide +kernel : ∀ t : Fin grid0.N, _)

/-- Where it writes its results. -/
theorem idxo : ∀ t : Fin cfg0.N,
    win0_10.index t = ![t.val, 0] ∧ win0_11.index t = ![t.val, 0] ∧ win0_12.index t = ![t.val, 0] ∧ win0_13.index t = ![t.val, 0]
    ∧ win0_14.index t = ![t.val, 0] ∧ win0_15.index t = ![0, t.val, 0] ∧ win0_16.index t = ![t.val, 0] ∧ win0_17.index t = ![t.val, 0]
    ∧ win0_18.index t = ![t.val, 0] ∧ t.val < 2 :=
  (by decide +kernel : ∀ t : Fin grid0.N, _)

/-- An entry of the identity, as it is made of the two indices' comparison, times a number. -/
theorem eye (a b : ℕ) (ha : a < 1024) (hb : b < 1024) (x : EReal) :
    FloatOps.uitofp (F := Ideal) FTy.f32 (IntOp.cmpi CmpIPredicate.eq (IntOp.addi (BitVec.ofNat 32 a) 0#32) (BitVec.ofNat 32 b)) * x
      = if a = b then x else 0 := by
  have e : IntOp.cmpi CmpIPredicate.eq (IntOp.addi (BitVec.ofNat 32 a) 0#32) (BitVec.ofNat 32 b) = BitVec.ofBool (decide (a = b)) := by
    rw [show IntOp.addi (BitVec.ofNat 32 a) 0#32 = BitVec.ofNat 32 a from BitVec.add_zero _]
    word_cmp
  rw [e]
  by_cases h : a = b
  · rw [if_pos h, decide_eq_true h]
    refine (congrArg (· * x) (?_ : _ = (1 : EReal))).trans (one_mul x)
    show (((1#1 : BitVec 1).toNat : ℝ) : EReal) = 1
    simp
  · rw [if_neg h, decide_eq_false h]
    refine (congrArg (· * x) (?_ : _ = (0 : EReal))).trans (zero_mul x)
    show (((0#1 : BitVec 1).toNat : ℝ) : EReal) = 0
    simp

/-- A list of host operations in two parts runs one part after the other. -/
theorem after_parts (l k : List (HloOp τ sig (Elt Ideal))) (σ : Valuation τ sig (Elt Ideal)) :
    StableHlo.after (l ++ k) σ = StableHlo.after k (StableHlo.after l σ) := by
  induction l generalizing σ with
  | nil => rfl
  | cons op l ih => exact ih _

/-- The host line in its three parts: before the remainder, the remainder, after it. -/
theorem V_parts (c : Dev nD) (b : Ref sig .tc) :
    V m c b = StableHlo.after hostOps0_2 (StableHlo.after hostOps0_1 (StableHlo.after hostOps0 (fun b => m (c, b)))) b := by
  have e : List.flatten [hostOps0, hostOps0_1, hostOps0_2] = hostOps0 ++ (hostOps0_1 ++ (hostOps0_2 : List (HloOp τ sig (Elt Ideal)))) := by
    simp only [List.flatten_cons, List.flatten_nil, List.append_nil]
  unfold V
  rw [e, after_parts, after_parts]

/-- The arrays as launched. -/
abbrev A0 (c : Dev nD) : FVec Ideal S128x8x1024 .f32 := m ((c : Thread nD τ).loc main_arg0)
abbrev A1 (c : Dev nD) : FVec Ideal S1024 .f32 := m ((c : Thread nD τ).loc main_arg1)
abbrev A2 (c : Dev nD) : FVec Ideal S1024x1952 .f32 := m ((c : Thread nD τ).loc main_arg2)
abbrev A3 (c : Dev nD) : FVec Ideal S256 .f32 := m ((c : Thread nD τ).loc main_arg3)
abbrev A4 (c : Dev nD) : FVec Ideal S256x768 .f32 := m ((c : Thread nD τ).loc main_arg4)
abbrev A5 (c : Dev nD) : FVec Ideal S128 .f32 := m ((c : Thread nD τ).loc main_arg5)
abbrev A6 (c : Dev nD) : FVec Ideal S128x8x64 .f32 := m ((c : Thread nD τ).loc main_arg6)

/-- The rows. -/
theorem blk0 (c : Dev nD) (t : Fin cfg0.N) (r : Fin 512) (l : Fin 1024) :
    (show FVec Ideal S512x1024 .f32 from iblk m c 0 t) (ix2 r l) = A0 m c (ix3 ⟨(512 * t.val + r.val) / 8, by have := lt_of_lt_of_eq t.isLt N_0; omega⟩ ⟨(512 * t.val + r.val) % 8, by omega⟩ l) := by
  obtain ⟨h0, h1, h2, h3, h4, h5, h6, h7, h8, h9, ht⟩ := idx t
  have e : iblk m c 0 t (ix2 r l) = V m c main_v52 (ix2 ⟨512 * t.val + r.val, by have := lt_of_lt_of_eq t.isLt N_0; omega⟩ l) := by blk_ext [iblk, h0]
  refine Eq.trans e ?_
  unfold V
  simp only [hostOps0, hostOps0_1, hostOps0_2, List.flatten_cons, List.flatten_nil, List.append_nil, List.cons_append, List.nil_append]
  entry_read
  pointwise

/-- The first normalisation's gains. -/
theorem blk3 (c : Dev nD) (t : Fin cfg0.N) (l : Fin 1024) :
    (show FVec Ideal S1x1024 .f32 from iblk m c 3 t) (ix2 0 l) = A1 m c (ix1 l) := by
  obtain ⟨h0, h1, h2, h3, h4, h5, h6, h7, h8, h9, ht⟩ := idx t
  have e : iblk m c 3 t (ix2 0 l) = V m c main_v22 (ix2 0 l) := by blk_ext [iblk, h3]
  refine Eq.trans e ?_
  unfold V
  simp only [hostOps0, hostOps0_1, hostOps0_2, List.flatten_cons, List.flatten_nil, List.append_nil, List.cons_append, List.nil_append]
  entry_read
  pointwise

/-- The input projection, filled up with zero columns. -/
theorem blk4 (c : Dev nD) (t : Fin cfg0.N) (k : Fin 1024) (l : Fin 2048) :
    (show FVec Ideal S1024x2048 .bf16 from iblk m c 4 t) (ix2 k l) = (if h : l.val < 1952 then A2 m c (ix2 k ⟨l.val, h⟩) else 0) := by
  obtain ⟨h0, h1, h2, h3, h4, h5, h6, h7, h8, h9, ht⟩ := idx t
  have e : iblk m c 4 t (ix2 k l) = V m c main_v23 (ix2 k l) := by blk_ext [iblk, h4]
  refine Eq.trans e ?_
  unfold V
  simp only [hostOps0, hostOps0_1, hostOps0_2, List.flatten_cons, List.flatten_nil, List.append_nil, List.cons_append, List.nil_append]
  entry_read
  pointwise

/-- The queries' gains. -/
theorem blk5 (c : Dev nD) (t : Fin cfg0.N) (l : Fin 256) :
    (show FVec Ideal S1x256 .f32 from iblk m c 5 t) (ix2 0 l) = A3 m c (ix1 l) := by
  obtain ⟨h0, h1, h2, h3, h4, h5, h6, h7, h8, h9, ht⟩ := idx t
  have e : iblk m c 5 t (ix2 0 l) = V m c main_v24 (ix2 0 l) := by blk_ext [iblk, h5]
  refine Eq.trans e ?_
  unfold V
  simp only [hostOps0, hostOps0_1, hostOps0_2, List.flatten_cons, List.flatten_nil, List.append_nil, List.cons_append, List.nil_append]
  entry_read
  pointwise

/-- The plain part of the queries' up-projection. -/
theorem blk6 (c : Dev nD) (t : Fin cfg0.N) (k : Fin 256) (l : Fin 512) :
    (show FVec Ideal S256x512 .bf16 from iblk m c 6 t) (ix2 k l) = A4 m c (ix2 k ⟨l.val / 64 * 96 + l.val % 64, by omega⟩) := by
  obtain ⟨h0, h1, h2, h3, h4, h5, h6, h7, h8, h9, ht⟩ := idx t
  have e : iblk m c 6 t (ix2 k l) = V m c main_v25 (ix2 k l) := by blk_ext [iblk, h6]
  refine Eq.trans e ?_
  unfold V
  simp only [hostOps0, hostOps0_1, hostOps0_2, List.flatten_cons, List.flatten_nil, List.append_nil, List.cons_append, List.nil_append]
  entry_read
  pointwise

/-- Its rotary part, each head's 32 columns followed by zeros. -/
theorem blk7 (c : Dev nD) (t : Fin cfg0.N) (k : Fin 256) (l : Fin 1024) :
    (show FVec Ideal S256x1024 .bf16 from iblk m c 7 t) (ix2 k l) = (if h : l.val % 128 < 32 then A4 m c (ix2 k ⟨l.val / 128 * 96 + (64 + l.val % 128), by omega⟩) else 0) := by
  obtain ⟨h0, h1, h2, h3, h4, h5, h6, h7, h8, h9, ht⟩ := idx t
  have e : iblk m c 7 t (ix2 k l) = V m c main_v26 (ix2 k l) := by blk_ext [iblk, h7]
  refine Eq.trans e ?_
  unfold V
  simp only [hostOps0, hostOps0_1, hostOps0_2, List.flatten_cons, List.flatten_nil, List.append_nil, List.cons_append, List.nil_append]
  entry_read
  pointwise

/-- The heads' key up-projections as the blocks of a diagonal. -/
theorem blk8 (c : Dev nD) (t : Fin cfg0.N) (k : Fin 512) (l : Fin 1024) :
    (show FVec Ideal S512x1024 .bf16 from iblk m c 8 t) (ix2 k l) = (if k.val / 64 = l.val / 128 then A6 m c (ix3 ⟨l.val % 128, by omega⟩ ⟨l.val / 128, by omega⟩ ⟨k.val % 64, by omega⟩) else 0) := by
  obtain ⟨h0, h1, h2, h3, h4, h5, h6, h7, h8, h9, ht⟩ := idx t
  have e : iblk m c 8 t (ix2 k l) = V m c main_v27 (ix2 k l) := by blk_ext [iblk, h8]
  refine Eq.trans e ?_
  unfold V
  simp only [hostOps0, hostOps0_1, hostOps0_2, List.flatten_cons, List.flatten_nil, List.append_nil, List.cons_append, List.nil_append]
  entry_read
  pointwise
  refine (eye _ _ (by omega) (by omega) _).trans ?_
  split_ifs with h
  · simp only [h]
  · rfl

/-- The latent keys' gains. -/
theorem blk9 (c : Dev nD) (t : Fin cfg0.N) (l : Fin 128) :
    (show FVec Ideal S1x128 .f32 from iblk m c 9 t) (ix2 0 l) = A5 m c (ix1 l) := by
  obtain ⟨h0, h1, h2, h3, h4, h5, h6, h7, h8, h9, ht⟩ := idx t
  have e : iblk m c 9 t (ix2 0 l) = V m c main_v28 (ix2 0 l) := by blk_ext [iblk, h9]
  refine Eq.trans e ?_
  unfold V
  simp only [hostOps0, hostOps0_1, hostOps0_2, List.flatten_cons, List.flatten_nil, List.append_nil, List.cons_append, List.nil_append]
  entry_read
  pointwise

end Cert.SmpBlk
-- ==== Proof.SmpTab.lean ====
module
public import proofs.«01_k».proof.Proof.SmpBlk
public import Idealize.ShloMosaic.Lib.Pipeline.ValueKit
public import Idealize.ShloMosaic.Lib.Pointwise
public import Idealize.ShloMosaic.Lib.StableHlo.ReadAt
/-! The rotary tables' blocks the sample's mixer inputs' kernel stages, read at an index of the launched arrays. -/
@[expose] public section
set_option maxRecDepth 16384
noncomputable section
open Idealize.ShloMosaic Idealize.ShloMosaic.TcCoe Idealize.SL.Sem
open Idealize.ShloMosaic.Pipeline (Dat)
open Cert.Kernel4Ideal Cert.Kernel4Ideal.Gen
namespace Cert.SmpBlk
open Cert.Smp
open Cert.Mix hiding ang co si
variable (m : (ℓ : Loc nD τ sig) → Buf (Elt Ideal) ℓ)

/-- The rows' numbers by 8, as the line computes the remainder. -/
theorem rem_at (σ : Valuation τ sig (Elt Ideal)) (r : Fin 512) :
    (show IVec S512 32 from StableHlo.after hostOps0_1 (StableHlo.after hostOps0 σ) (Proc.devRef .tc main_v30)) (ix1 r) = BitVec.ofNat 32 (r.val % 8) := by
  after_reads_at
  revert r
  decide +kernel

/-- The angle at a word. -/
def angw (w : BitVec 32) (j : Fin 16) : EReal :=
  FloatOps.sitofp (F := Ideal) FTy.f32 (IntOp.addi 16384#32 w) * Ideal.pow (Ideal.ofBits .f32 0x461C4000#32) (Ideal.div (Ideal.ofBits .f32 0xC0000000#32 * FloatOps.sitofp (F := Ideal) FTy.f32 (BitVec.ofNat 32 j.val)) (Ideal.ofBits .f32 0x42000000#32))

/-- The first table over the remainders. -/
theorem cos_of (σ : Valuation τ sig (Elt Ideal)) (r : Fin 512) (l : Fin 128) (w : BitVec 32)
    (hw : (show IVec S512 32 from σ (Proc.devRef .tc main_v30)) (ix1 r) = w) :
    (show FVec Ideal S512x128 .f32 from StableHlo.after hostOps0_2 σ (Proc.devRef .tc main_v49)) (ix2 r l)
      = if h : l.val < 16 then Ideal.cos (angw w ⟨l.val, h⟩) else if h' : l.val < 32 then Ideal.cos (angw w ⟨l.val - 16, by omega⟩) else 0 := by
  subst hw
  after_reads_at
  simp only [StableHlo.unary_result']
  after_reads_at
  split_ifs <;> first | rfl | omega

/-- The second. -/
theorem sin_of (σ : Valuation τ sig (Elt Ideal)) (r : Fin 512) (l : Fin 128) (w : BitVec 32)
    (hw : (show IVec S512 32 from σ (Proc.devRef .tc main_v30)) (ix1 r) = w) :
    (show FVec Ideal S512x128 .f32 from StableHlo.after hostOps0_2 σ (Proc.devRef .tc main_v51)) (ix2 r l)
      = if h : l.val < 16 then - Ideal.sin (angw w ⟨l.val, h⟩) else if h' : l.val < 32 then Ideal.sin (angw w ⟨l.val - 16, by omega⟩) else 0 := by
  subst hw
  after_reads_at
  simp only [StableHlo.unary_result']
  after_reads_at
  split_ifs <;> first | rfl | omega

/-- The cosines, twice, then zeros. -/
theorem blk1 (c : Dev nD) (t : Fin cfg0.N) (r : Fin 512) (l : Fin 128) :
    (show FVec Ideal S512x128 .f32 from iblk m c 1 t) (ix2 r l) = (if h : l.val < 16 then co ⟨(512 * t.val + r.val) % 8, by omega⟩ ⟨l.val, h⟩ else if h' : l.val < 32 then co ⟨(512 * t.val + r.val) % 8, by omega⟩ ⟨l.val - 16, by omega⟩ else 0) := by
  obtain ⟨h0, h1, h2, h3, h4, h5, h6, h7, h8, h9, ht⟩ := idx t
  have e : iblk m c 1 t (ix2 r l) = V m c main_v49 (ix2 r l) := by blk_ext [iblk, h1]
  refine Eq.trans e ?_
  refine (congrFun (V_parts m c main_v49) (ix2 r l)).trans ?_
  refine (cos_of _ r l _ (rem_at _ r)).trans ?_
  have hs : r.val % 8 = (512 * t.val + r.val) % 8 := by omega
  rw [hs]
  rfl

/-- The sines, the first negated, then zeros. -/
theorem blk2 (c : Dev nD) (t : Fin cfg0.N) (r : Fin 512) (l : Fin 128) :
    (show FVec Ideal S512x128 .f32 from iblk m c 2 t) (ix2 r l) = (if h : l.val < 16 then - si ⟨(512 * t.val + r.val) % 8, by omega⟩ ⟨l.val, h⟩ else if h' : l.val < 32 then si ⟨(512 * t.val + r.val) % 8, by omega⟩ ⟨l.val - 16, by omega⟩ else 0) := by
  obtain ⟨h0, h1, h2, h3, h4, h5, h6, h7, h8, h9, ht⟩ := idx t
  have e : iblk m c 2 t (ix2 r l) = V m c main_v51 (ix2 r l) := by blk_ext [iblk, h2]
  refine Eq.trans e ?_
  refine (congrFun (V_parts m c main_v51) (ix2 r l)).trans ?_
  refine (sin_of _ r l _ (rem_at _ r)).trans ?_
  have hs : r.val % 8 = (512 * t.val + r.val) % 8 := by omega
  rw [hs]
  rfl

end Cert.SmpBlk
-- ==== Proof.SmpPay.lean ====
module
public import proofs.«01_k».proof.Proof.Gen.Kernel4Ideal.Skeleton
public import proofs.«01_k».proof.Proof.SmpMath
public import Idealize.ShloMosaic.Lib.Pointwise
public import Idealize.ShloMosaic.Lib.WordCmp
/-! What the sample's mixer inputs' kernel stores, read at an index. -/
@[expose] public section
set_option maxRecDepth 16384
noncomputable section
open Idealize.ShloMosaic Idealize.ShloMosaic.TcCoe Idealize.SL.Sem
open Cert.Kernel4Ideal Cert.Kernel4Ideal.Gen
namespace Cert.SmpPay
open Cert.Tail Cert.Smp
open Cert.Mix hiding ang co si

/-- A projected row's rotary keys. -/
def keys (p : Fin 1952 → EReal) : Fin 32 → EReal := fun l => p ⟨1920 + l.val, by omega⟩

/-- The projected row, zero in the columns that fill up. -/
theorem pay1_at (x : Vec Ideal S512x1024 .f32) (g : Vec Ideal S1x1024 .f32) (w : Vec Ideal S1024x2048 .bf16) (r : Fin 512) (l : Fin 2048)
    (X G : Fin 1024 → EReal) (W : Fin 1024 → Fin 1952 → EReal) (hx : ∀ k, x (ix2 r k) = X k) (hg : ∀ k, g (ix2 0 k) = G k)
    (hw : ∀ k l, w (ix2 k l) = if h : l.val < 1952 then W k ⟨l.val, h⟩ else 0) :
    k0_pay1 (F := Ideal) x g w (ix2 r l) = if h : l.val < 1952 then proj X G W ⟨l.val, h⟩ else 0 := by
  pointwise [k0_pay1]
  simp only [hx, hg, hw]
  exact vm_pad (rms c1024 X G) W l

section slices
variable (x : Vec Ideal S512x1024 .f32) (g : Vec Ideal S1x1024 .f32) (w : Vec Ideal S1024x2048 .bf16) (r : Fin 512) (p : Fin 1952 → EReal)
  (hp : ∀ l : Fin 2048, k0_pay1 (F := Ideal) x g w (ix2 r l) = if h : l.val < 1952 then p ⟨l.val, h⟩ else 0)
include hp

/-- The scaled queries. -/
theorem pay7_at (l : Fin 512) : k0_pay7 (F := Ideal) x g w (ix2 r l) = p ⟨l.val, by omega⟩ * scale := by
  pointwise [k0_pay7]
  rw [hp, dif_pos]
  rfl

/-- The keys. -/
theorem pay2_at (l : Fin 512) : k0_pay2 (F := Ideal) x g w (ix2 r l) = p ⟨512 + l.val, by omega⟩ := by
  pointwise [k0_pay2]
  rw [hp, dif_pos]

/-- The values. -/
theorem pay3_at (l : Fin 512) : k0_pay3 (F := Ideal) x g w (ix2 r l) = p ⟨1024 + l.val, by omega⟩ := by
  pointwise [k0_pay3]
  rw [hp, dif_pos]

/-- The keys again. -/
theorem pay8_at (l : Fin 512) : k0_pay8 (F := Ideal) x g w (ix2 r l) = p ⟨512 + l.val, by omega⟩ := by
  pointwise [k0_pay8]
  exact pay2_at x g w r p hp l

/-- The values again. -/
theorem pay9_at (l : Fin 512) : k0_pay9 (F := Ideal) x g w (ix2 r l) = p ⟨1024 + l.val, by omega⟩ := by
  pointwise [k0_pay9]
  exact pay3_at x g w r p hp l

/-- The compressed queries. -/
theorem pay4_at (l : Fin 256) : k0_pay4 (F := Ideal) x g w (ix2 r l) = p ⟨1536 + l.val, by omega⟩ := by
  pointwise [k0_pay4]
  rw [hp, dif_pos]

/-- The compressed keys. -/
theorem pay5_at (l : Fin 128) : k0_pay5 (F := Ideal) x g w (ix2 r l) = p ⟨1792 + l.val, by omega⟩ := by
  pointwise [k0_pay5]
  rw [hp, dif_pos]

/-- The rotary keys before they are turned, zero beyond the 32nd lane. -/
theorem pay6_at (l : Fin 128) : k0_pay6 (F := Ideal) x g w (ix2 r l) = if h : l.val < 32 then keys p ⟨l.val, h⟩ else 0 := by
  pointwise [k0_pay6]
  rw [hp]
  by_cases h : l.val < 32
  · rw [dif_pos h, dif_pos (by dsimp only; omega)]
    rfl
  · rw [dif_neg h, dif_neg (by dsimp only; omega)]
end slices

section queries
variable (c : FVec Ideal S512x256 .f32) (gq : Vec Ideal S1x256 .f32) (r : Fin 512) (p : Fin 1952 → EReal) (G : Fin 256 → EReal)
  (hc : ∀ l : Fin 256, c (ix2 r l) = p ⟨1536 + l.val, by omega⟩) (hg : ∀ l, gq (ix2 0 l) = G l) (Wuq : Fin 256 → Fin 768 → EReal)
include hc hg

/-- The normalised compressed queries. -/
theorem pay10_at (l : Fin 256) : k0_pay10 (F := Ideal) c gq (ix2 r l) = rms c256 (fun k : Fin 256 => p ⟨1536 + k.val, by omega⟩) G l := by
  pointwise [k0_pay10]
  simp only [hc, hg]
  rfl

/-- The rotary queries before they are turned, each head's 32 followed by zeros. -/
theorem pay11_at (w : Vec Ideal S256x1024 .bf16) (l : Fin 1024)
    (hw : ∀ k (l : Fin 1024), w (ix2 k l) = if h : l.val % 128 < 32 then Wuq k ⟨l.val / 128 * 96 + (64 + l.val % 128), by omega⟩ else 0) :
    k0_pay11 (F := Ideal) c gq w (ix2 r l) = if h : l.val % 128 < 32 then qrow p G Wuq ⟨l.val / 128 * 96 + (64 + l.val % 128), by omega⟩ else 0 := by
  pointwise [k0_pay11]
  simp only [hw, pay10_at c gq r p G hc hg]
  by_cases h : l.val % 128 < 32
  · simp only [dif_pos h]
    rfl
  · simp only [dif_neg h, mul_zero, Finset.sum_const_zero]

/-- The latent queries, head after head. -/
theorem pay12_at (wn : Vec Ideal S256x512 .bf16) (wb : Vec Ideal S512x1024 .bf16) (l : Fin 1024) (uk : Fin 128 → Fin 8 → Fin 64 → EReal)
    (hn : ∀ k (l : Fin 512), wn (ix2 k l) = Wuq k ⟨l.val / 64 * 96 + l.val % 64, by omega⟩)
    (hb : ∀ (k : Fin 512) (l : Fin 1024), wb (ix2 k l) = if k.val / 64 = l.val / 128 then uk ⟨l.val % 128, by omega⟩ ⟨l.val / 128, by omega⟩ ⟨k.val % 64, by omega⟩ else 0) :
    k0_pay12 (F := Ideal) c gq wn wb (ix2 r l) = qlat (qrow p G Wuq) uk ⟨l.val / 128, by omega⟩ ⟨l.val % 128, by omega⟩ := by
  pointwise [k0_pay12]
  simp only [hn, pay10_at c gq r p G hc hg]
  exact sum_block (qrow p G Wuq) uk _ (fun k => wb (ix2 k l)) ⟨l.val / 128, by omega⟩ ⟨l.val % 128, by omega⟩ (fun _ => rfl) fun k => hb k l
end queries

/-- The latent keys. -/
theorem pay29_at (c : FVec Ideal S512x128 .f32) (g : Vec Ideal S1x128 .f32) (r : Fin 512) (p : Fin 1952 → EReal) (G : Fin 128 → EReal)
    (hc : ∀ l : Fin 128, c (ix2 r l) = p ⟨1792 + l.val, by omega⟩) (hg : ∀ l, g (ix2 0 l) = G l) (l : Fin 128) :
    k0_pay29 (F := Ideal) c g (ix2 r l) = ckv p G l := by
  pointwise [k0_pay29]
  simp only [hc, hg]
  rfl

/-- The rotary step as it is computed over 128 lanes: the lane times the cosine plus the other half's lane times the sine. -/
theorem turn (x co si : Fin 128 → EReal) (X : Fin 32 → EReal) (C S : Fin 16 → EReal) (m : BitVec 1) (l : Fin 128)
    (hm : m = BitVec.ofBool (decide (l.val < 16)))
    (hx : ∀ l : Fin 128, x l = if h : l.val < 32 then X ⟨l.val, h⟩ else 0)
    (hc : ∀ l : Fin 128, co l = if h : l.val < 16 then C ⟨l.val, h⟩ else if h' : l.val < 32 then C ⟨l.val - 16, by omega⟩ else 0)
    (hs : ∀ l : Fin 128, si l = if h : l.val < 16 then - S ⟨l.val, h⟩ else if h' : l.val < 32 then S ⟨l.val - 16, by omega⟩ else 0) :
    x l * co l + Scalar.select m (x ⟨(l.val + 128 - 112) % 128, by omega⟩) (x ⟨(l.val + 128 - 16) % 128, by omega⟩) * si l
      = if h : l.val < 32 then rope X C S ⟨l.val, h⟩ else 0 := by
  refine Eq.trans ?_ (rope_lanes x (fun l => if h : l.val < 16 then x ⟨l.val + 16, by omega⟩ else x ⟨l.val - 16, by omega⟩) co si X C S l hx (fun _ => rfl) hc hs)
  refine congrArg (fun z => x l * co l + z * si l) ?_
  subst hm
  by_cases h : l.val < 16
  · rw [dif_pos h, decide_eq_true h]
    exact congrArg x (Fin.ext (show (l.val + 128 - 112) % 128 = l.val + 16 by omega))
  · rw [dif_neg h, decide_eq_false h]
    exact congrArg x (Fin.ext (show (l.val + 128 - 16) % 128 = l.val - 16 by omega))

/-- A latent row and a rotary row over 128 lanes, side by side. -/
theorem wide_dite (A : Fin 128 → EReal) (B : Fin 32 → EReal) (l : Fin 256) :
    (if h : l.val < 128 then A ⟨l.val, h⟩ else if h' : l.val - 128 < 32 then B ⟨l.val - 128, h'⟩ else 0) = wide A B l := by
  unfold wide
  split_ifs <;> first | rfl | omega

/-- A latent row and a row turned over 128 lanes, side by side. -/
theorem wide_turn (x co si : Fin 128 → EReal) (A : Fin 128 → EReal) (X : Fin 32 → EReal) (C S : Fin 16 → EReal) (m : Fin 128 → BitVec 1)
    (hm : ∀ l : Fin 128, m l = BitVec.ofBool (decide (l.val < 16)))
    (hx : ∀ l : Fin 128, x l = if h : l.val < 32 then X ⟨l.val, h⟩ else 0)
    (hc : ∀ l : Fin 128, co l = if h : l.val < 16 then C ⟨l.val, h⟩ else if h' : l.val < 32 then C ⟨l.val - 16, by omega⟩ else 0)
    (hs : ∀ l : Fin 128, si l = if h : l.val < 16 then - S ⟨l.val, h⟩ else if h' : l.val < 32 then S ⟨l.val - 16, by omega⟩ else 0)
    (a : Fin 128 → EReal) (ha : ∀ l, a l = A l) (l : Fin 256) :
    (if h : l.val < 128 then a ⟨l.val, h⟩ else
      x ⟨l.val - 128, by omega⟩ * co ⟨l.val - 128, by omega⟩ + Scalar.select (m ⟨l.val - 128, by omega⟩) (x ⟨(l.val - 128 + 128 - 112) % 128, by omega⟩)
        (x ⟨(l.val - 128 + 128 - 16) % 128, by omega⟩) * si ⟨l.val - 128, by omega⟩) = wide A (rope X C S) l := by
  refine Eq.trans ?_ (wide_dite A (rope X C S) l)
  by_cases h : l.val < 128
  · rw [dif_pos h, dif_pos h, ha]
  · rw [dif_neg h, dif_neg h]
    exact turn x co si X C S _ ⟨l.val - 128, by omega⟩ (hm _) hx hc hs

/-- The mask of the first 16 lanes. -/
theorem pay15_at (r : Fin 512) (l : Fin 128) : k0_pay15 (ix2 r l) = BitVec.ofBool (decide (l.val < 16)) := by
  pointwise [k0_pay15]
  word_cmp

section heads
variable (v56 v60 : FVec Ideal S512x1024 .f32) (v62 v64 : FVec Ideal S512x128 .f32) (v67 : IVec S512x128 1) (r : Fin 512)
  (X : Fin 32 → EReal) (C S : Fin 16 → EReal)
  (hm : ∀ l : Fin 128, v67 (ix2 r l) = BitVec.ofBool (decide (l.val < 16)))
  (hc : ∀ l : Fin 128, v62 (ix2 r l) = if h : l.val < 16 then C ⟨l.val, h⟩ else if h' : l.val < 32 then C ⟨l.val - 16, by omega⟩ else 0)
  (hs : ∀ l : Fin 128, v64 (ix2 r l) = if h : l.val < 16 then - S ⟨l.val, h⟩ else if h' : l.val < 32 then S ⟨l.val - 16, by omega⟩ else 0)
include hm hc hs

/-- The rotary keys, zero beyond the 32nd lane. -/
theorem pay30_at (v25 : FVec Ideal S512x128 .f32) (hx : ∀ l : Fin 128, v25 (ix2 r l) = if h : l.val < 32 then X ⟨l.val, h⟩ else 0) (l : Fin 128) :
    k0_pay30 (F := Ideal) v25 v62 v64 v67 (ix2 r l) = if h : l.val < 32 then rope X C S ⟨l.val, h⟩ else 0 := by
  pointwise [k0_pay30]
  exact turn (fun l => v25 (ix2 r l)) (fun l => v62 (ix2 r l)) (fun l => v64 (ix2 r l)) X C S _ l (hm l) hx hc hs

/-- The row of head 0. -/
theorem head0_at (c : FVec Ideal S512x256 .f32) (gq : Vec Ideal S1x256 .f32) (wn : Vec Ideal S256x512 .bf16) (wp : Vec Ideal S256x1024 .bf16)
    (wb : Vec Ideal S512x1024 .bf16) (A : Fin 128 → EReal)
    (hx : ∀ l : Fin 128, k0_pay11 (F := Ideal) c gq wp (ix2 r ⟨l.val, by omega⟩) = if h : l.val < 32 then X ⟨l.val, h⟩ else 0)
    (ha : ∀ l : Fin 128, k0_pay12 (F := Ideal) c gq wn wb (ix2 r ⟨l.val, by omega⟩) = A l) (l : Fin 256) :
    k0_pay19 (F := Ideal) v62 v64 (k0_pay16 c gq wn wb) (k0_pay17 c gq wp) (k0_pay18 c gq wp) (ix3 0 r l) = wide A (rope X C S) l := by
  unfold k0_pay18 k0_pay16 k0_pay17
  generalize k0_pay11 (F := Ideal) c gq wp = v56 at *
  generalize k0_pay12 (F := Ideal) c gq wn wb = v60 at *
  pointwise [k0_pay19]
  exact wide_turn (fun l => v56 (ix2 r ⟨l.val, by omega⟩)) (fun l => v62 (ix2 r l)) (fun l => v64 (ix2 r l)) A X C S (fun l => k0_pay15 (ix2 r l)) (pay15_at r) hx hc hs
    (fun l => v60 (ix2 r ⟨l.val, by omega⟩)) ha l

/-- The row of head 1. -/
theorem head1_at (A : Fin 128 → EReal) (hx : ∀ l : Fin 128, v56 (ix2 r ⟨128 + l.val, by omega⟩) = if h : l.val < 32 then X ⟨l.val, h⟩ else 0)
    (ha : ∀ l : Fin 128, v60 (ix2 r ⟨128 + l.val, by omega⟩) = A l) (l : Fin 256) :
    k0_pay20 (F := Ideal) v56 v60 v62 v64 v67 (ix3 0 r l) = wide A (rope X C S) l := by
  pointwise [k0_pay20]
  exact wide_turn (fun l => v56 (ix2 r ⟨128 + l.val, by omega⟩)) (fun l => v62 (ix2 r l)) (fun l => v64 (ix2 r l)) A X C S (fun l => v67 (ix2 r l)) hm hx hc hs
    (fun l => v60 (ix2 r ⟨128 + l.val, by omega⟩)) ha l

/-- The row of head 2. -/
theorem head2_at (A : Fin 128 → EReal) (hx : ∀ l : Fin 128, v56 (ix2 r ⟨256 + l.val, by omega⟩) = if h : l.val < 32 then X ⟨l.val, h⟩ else 0)
    (ha : ∀ l : Fin 128, v60 (ix2 r ⟨256 + l.val, by omega⟩) = A l) (l : Fin 256) :
    k0_pay21 (F := Ideal) v56 v60 v62 v64 v67 (ix3 0 r l) = wide A (rope X C S) l := by
  pointwise [k0_pay21]
  exact wide_turn (fun l => v56 (ix2 r ⟨256 + l.val, by omega⟩)) (fun l => v62 (ix2 r l)) (fun l => v64 (ix2 r l)) A X C S (fun l => v67 (ix2 r l)) hm hx hc hs
    (fun l => v60 (ix2 r ⟨256 + l.val, by omega⟩)) ha l

/-- The row of head 3. -/
theorem head3_at (A : Fin 128 → EReal) (hx : ∀ l : Fin 128, v56 (ix2 r ⟨384 + l.val, by omega⟩) = if h : l.val < 32 then X ⟨l.val, h⟩ else 0)
    (ha : ∀ l : Fin 128, v60 (ix2 r ⟨384 + l.val, by omega⟩) = A l) (l : Fin 256) :
    k0_pay23 (F := Ideal) (k0_pay22 v56 v60 v62 v64 v67) (ix3 0 r l) = wide A (rope X C S) l := by
  pointwise [k0_pay22, k0_pay23]
  exact wide_turn (fun l => v56 (ix2 r ⟨384 + l.val, by omega⟩)) (fun l => v62 (ix2 r l)) (fun l => v64 (ix2 r l)) A X C S (fun l => v67 (ix2 r l)) hm hx hc hs
    (fun l => v60 (ix2 r ⟨384 + l.val, by omega⟩)) ha l

/-- The row of head 4. -/
theorem head4_at (A : Fin 128 → EReal) (hx : ∀ l : Fin 128, v56 (ix2 r ⟨512 + l.val, by omega⟩) = if h : l.val < 32 then X ⟨l.val, h⟩ else 0)
    (ha : ∀ l : Fin 128, v60 (ix2 r ⟨512 + l.val, by omega⟩) = A l) (l : Fin 256) :
    k0_pay24 (F := Ideal) v56 v60 v62 v64 v67 (ix3 0 r l) = wide A (rope X C S) l := by
  pointwise [k0_pay24]
  exact wide_turn (fun l => v56 (ix2 r ⟨512 + l.val, by omega⟩)) (fun l => v62 (ix2 r l)) (fun l => v64 (ix2 r l)) A X C S (fun l => v67 (ix2 r l)) hm hx hc hs
    (fun l => v60 (ix2 r ⟨512 + l.val, by omega⟩)) ha l

/-- The row of head 5. -/
theorem head5_at (A : Fin 128 → EReal) (hx : ∀ l : Fin 128, v56 (ix2 r ⟨640 + l.val, by omega⟩) = if h : l.val < 32 then X ⟨l.val, h⟩ else 0)
    (ha : ∀ l : Fin 128, v60 (ix2 r ⟨640 + l.val, by omega⟩) = A l) (l : Fin 256) :
    k0_pay25 (F := Ideal) v56 v60 v62 v64 v67 (ix3 0 r l) = wide A (rope X C S) l := by
  pointwise [k0_pay25]
  exact wide_turn (fun l => v56 (ix2 r ⟨640 + l.val, by omega⟩)) (fun l => v62 (ix2 r l)) (fun l => v64 (ix2 r l)) A X C S (fun l => v67 (ix2 r l)) hm hx hc hs
    (fun l => v60 (ix2 r ⟨640 + l.val, by omega⟩)) ha l

/-- The row of head 6. -/
theorem head6_at (A : Fin 128 → EReal) (hx : ∀ l : Fin 128, v56 (ix2 r ⟨768 + l.val, by omega⟩) = if h : l.val < 32 then X ⟨l.val, h⟩ else 0)
    (ha : ∀ l : Fin 128, v60 (ix2 r ⟨768 + l.val, by omega⟩) = A l) (l : Fin 256) :
    k0_pay26 (F := Ideal) v56 v60 v62 v64 v67 (ix3 0 r l) = wide A (rope X C S) l := by
  pointwise [k0_pay26]
  exact wide_turn (fun l => v56 (ix2 r ⟨768 + l.val, by omega⟩)) (fun l => v62 (ix2 r l)) (fun l => v64 (ix2 r l)) A X C S (fun l => v67 (ix2 r l)) hm hx hc hs
    (fun l => v60 (ix2 r ⟨768 + l.val, by omega⟩)) ha l

/-- The row of head 7. -/
theorem head7_at (A : Fin 128 → EReal) (hx : ∀ l : Fin 128, v56 (ix2 r ⟨896 + l.val, by omega⟩) = if h : l.val < 32 then X ⟨l.val, h⟩ else 0)
    (ha : ∀ l : Fin 128, v60 (ix2 r ⟨896 + l.val, by omega⟩) = A l) (l : Fin 256) :
    k0_pay28 (F := Ideal) v56 v62 v64 v67 (k0_pay27 v60) (ix3 0 r l) = wide A (rope X C S) l := by
  pointwise [k0_pay27, k0_pay28]
  exact wide_turn (fun l => v56 (ix2 r ⟨896 + l.val, by omega⟩)) (fun l => v62 (ix2 r l)) (fun l => v64 (ix2 r l)) A X C S (fun l => v67 (ix2 r l)) hm hx hc hs
    (fun l => v60 (ix2 r ⟨896 + l.val, by omega⟩)) ha l

/-- The rotary keys' first 32 lanes. -/
theorem pay31_at (v25 : FVec Ideal S512x128 .f32) (hx : ∀ l : Fin 128, v25 (ix2 r l) = if h : l.val < 32 then X ⟨l.val, h⟩ else 0) (l : Fin 32) :
    k0_pay31 (F := Ideal) v25 v62 v64 v67 (ix2 r l) = rope X C S l := by
  pointwise [k0_pay31]
  rw [pay30_at v62 v64 v67 r X C S hm hc hs v25 hx, dif_pos]
end heads

/-- The latent attention's keys: the latent row, the rotary row, zeros. -/
theorem pay32_at (u v : FVec Ideal S512x128 .f32) (x y : FVec Ideal S512x128 .f32) (z : IVec S512x128 1) (g : Vec Ideal S1x128 .f32) (r : Fin 512)
    (A : Fin 128 → EReal) (B : Fin 32 → EReal) (ha : ∀ l : Fin 128, k0_pay29 (F := Ideal) u g (ix2 r l) = A l)
    (hb : ∀ l : Fin 128, k0_pay30 (F := Ideal) v x y z (ix2 r l) = if h : l.val < 32 then B ⟨l.val, h⟩ else 0) (l : Fin 256) :
    k0_pay32 (F := Ideal) u v x y z g (ix2 r l) = wide A B l := by
  pointwise [k0_pay32]
  simp only [ha, hb]
  exact wide_dite A B l

end Cert.SmpPay
-- ==== Proof.SmpPoint.lean ====
module
public import proofs.«01_k».proof.Proof.SmpTab
public import proofs.«01_k».proof.Proof.SmpPay
public import Idealize.ShloMosaic.Lib.Pipeline.ValueKit
public import Idealize.ShloMosaic.Lib.Pointwise
public import Idealize.ShloMosaic.Lib.WordCmp
/-! What a point of the sample's mixer inputs' kernel leaves in its output blocks. -/
@[expose] public section
set_option maxRecDepth 16384
noncomputable section
open Idealize.ShloMosaic Idealize.ShloMosaic.TcCoe Idealize.SL.Sem
open Idealize.ShloMosaic.Pipeline (Dat)
open Cert.Kernel4Ideal Cert.Kernel4Ideal.Gen
namespace Cert.SmpPoint
open Cert.Smp Cert.SmpBlk Cert.SmpPay
open Cert.Mix hiding ang co si
variable (m : (ℓ : Loc nD τ sig) → Buf (Elt Ideal) ℓ)

/-- The token of row `r` of the block at point `t`. -/
abbrev rowAt (t : Fin cfg0.N) (r : Fin 512) : Fin 1024 := ⟨512 * t.val + r.val, by have := lt_of_lt_of_eq t.isLt N_0; omega⟩

/-- A token's projected row. -/
def P (c : Dev nD) (R : Fin 1024) : Fin 1952 → EReal :=
  proj (fun l => A0 m c (ix3 ⟨R.val / 8, by omega⟩ ⟨R.val % 8, by omega⟩ l)) (fun l => A1 m c (ix1 l)) (fun k l => A2 m c (ix2 k l))
/-- Its queries. -/
def Q (c : Dev nD) (R : Fin 1024) : Fin 768 → EReal := qrow (P m c R) (fun l => A3 m c (ix1 l)) (fun k l => A4 m c (ix2 k l))
/-- Its cosines. -/
def C (R : Fin 1024) : Fin 16 → EReal := co ⟨R.val % 8, by omega⟩
/-- Its sines. -/
def S (R : Fin 1024) : Fin 16 → EReal := si ⟨R.val % 8, by omega⟩
/-- Its scaled queries. -/
def W10 (c : Dev nD) (R : Fin 1024) (l : Fin 512) : EReal := P m c R ⟨l.val, by omega⟩ * scale
/-- Its keys. -/
def W11 (c : Dev nD) (R : Fin 1024) (l : Fin 512) : EReal := P m c R ⟨512 + l.val, by omega⟩
/-- Its values. -/
def W12 (c : Dev nD) (R : Fin 1024) (l : Fin 512) : EReal := P m c R ⟨1024 + l.val, by omega⟩
/-- Its attention row of a head. -/
def W15 (c : Dev nD) (h : Fin 8) (R : Fin 1024) : Fin 256 → EReal :=
  wide (qlat (Q m c R) (fun c' h n => A6 m c (ix3 c' h n)) h) (qpe (Q m c R) (C R) (S R) h)
/-- Its latent keys. -/
def W16 (c : Dev nD) (R : Fin 1024) : Fin 128 → EReal := ckv (P m c R) (fun l => A5 m c (ix1 l))
/-- Its rotary keys. -/
def W17 (R : Fin 1024) (c : Dev nD) : Fin 32 → EReal := kpe (P m c R) (C R) (S R)
/-- Its latent attention's keys. -/
def W18 (c : Dev nD) (R : Fin 1024) : Fin 256 → EReal := wide (W16 m c R) (W17 m R c)

section
variable (c : Dev nD) (t : Fin cfg0.N) (r : Fin 512)

theorem row_at (l : Fin 2048) :
    k0_pay1 (F := Ideal) (iblk m c 0 t) (iblk m c 3 t) (iblk m c 4 t) (ix2 r l) = if h : l.val < 1952 then P m c (rowAt t r) ⟨l.val, h⟩ else 0 :=
  pay1_at (iblk m c 0 t) (iblk m c 3 t) (iblk m c 4 t) r l _ _ _ (blk0 m c t r) (blk3 m c t) (blk4 m c t)

theorem cos_at (l : Fin 128) : k0_pay13 (F := Ideal) (iblk m c 1 t) (ix2 r l)
    = if h : l.val < 16 then C (rowAt t r) ⟨l.val, h⟩ else if h' : l.val < 32 then C (rowAt t r) ⟨l.val - 16, by omega⟩ else 0 := by
  refine Eq.trans ?_ (blk1 m c t r l)
  generalize iblk m c 1 t = z
  pointwise [k0_pay13]

theorem sin_at (l : Fin 128) : k0_pay14 (F := Ideal) (iblk m c 2 t) (ix2 r l)
    = if h : l.val < 16 then - S (rowAt t r) ⟨l.val, h⟩ else if h' : l.val < 32 then S (rowAt t r) ⟨l.val - 16, by omega⟩ else 0 := by
  refine Eq.trans ?_ (blk2 m c t r l)
  generalize iblk m c 2 t = z
  pointwise [k0_pay14]

theorem cq_at (l : Fin 256) : k0_pay4 (F := Ideal) (iblk m c 0 t) (iblk m c 3 t) (iblk m c 4 t) (ix2 r l) = P m c (rowAt t r) ⟨1536 + l.val, by omega⟩ :=
  pay4_at _ _ _ r _ (row_at m c t r) l

theorem pe_at (l : Fin 1024) :
    k0_pay11 (F := Ideal) (k0_pay4 (iblk m c 0 t) (iblk m c 3 t) (iblk m c 4 t)) (iblk m c 5 t) (iblk m c 7 t) (ix2 r l)
      = if h : l.val % 128 < 32 then Q m c (rowAt t r) ⟨l.val / 128 * 96 + (64 + l.val % 128), by omega⟩ else 0 :=
  pay11_at _ (iblk m c 5 t) r (P m c (rowAt t r)) _ (cq_at m c t r) (blk5 m c t) _ (iblk m c 7 t) l (blk7 m c t)

theorem lat_at (l : Fin 1024) :
    k0_pay12 (F := Ideal) (k0_pay4 (iblk m c 0 t) (iblk m c 3 t) (iblk m c 4 t)) (iblk m c 5 t) (iblk m c 6 t) (iblk m c 8 t) (ix2 r l)
      = qlat (Q m c (rowAt t r)) (fun c' h n => A6 m c (ix3 c' h n)) ⟨l.val / 128, by omega⟩ ⟨l.val % 128, by omega⟩ :=
  pay12_at _ (iblk m c 5 t) r (P m c (rowAt t r)) _ (cq_at m c t r) (blk5 m c t) _ (iblk m c 6 t) (iblk m c 8 t) l _ (blk6 m c t) (blk8 m c t)

theorem ckv_at (l : Fin 128) :
    k0_pay29 (F := Ideal) (k0_pay5 (iblk m c 0 t) (iblk m c 3 t) (iblk m c 4 t)) (iblk m c 9 t) (ix2 r l) = W16 m c (rowAt t r) l :=
  pay29_at _ (iblk m c 9 t) r (P m c (rowAt t r)) _ (pay5_at _ _ _ r _ (row_at m c t r)) (blk9 m c t) l

theorem kpe_at (l : Fin 128) :
    k0_pay30 (F := Ideal) (k0_pay6 (iblk m c 0 t) (iblk m c 3 t) (iblk m c 4 t)) (k0_pay13 (iblk m c 1 t)) (k0_pay14 (iblk m c 2 t)) k0_pay15 (ix2 r l)
      = if h : l.val < 32 then W17 m (rowAt t r) c ⟨l.val, h⟩ else 0 :=
  pay30_at _ _ _ r (keys (P m c (rowAt t r))) (C (rowAt t r)) (S (rowAt t r)) (pay15_at r) (cos_at m c t r) (sin_at m c t r) _
    (pay6_at _ _ _ r _ (row_at m c t r)) l

/-- Output 0's block. -/
theorem out10_eq : out0_10 (iblk m c 0 t) (iblk m c 1 t) (iblk m c 2 t) (iblk m c 3 t) (iblk m c 4 t) (iblk m c 5 t) (iblk m c 6 t) (iblk m c 7 t) (iblk m c 8 t) (iblk m c 9 t) = k0_pay7 (F := Ideal) (iblk m c 0 t) (iblk m c 3 t) (iblk m c 4 t) := by
  unfold_out out0_10
  frame_out

theorem out10_at (l : Fin 512) : (show FVec Ideal S512x512 .f32 from out0_10 (iblk m c 0 t) (iblk m c 1 t) (iblk m c 2 t) (iblk m c 3 t) (iblk m c 4 t) (iblk m c 5 t) (iblk m c 6 t) (iblk m c 7 t) (iblk m c 8 t) (iblk m c 9 t)) (ix2 r l) = W10 m c (rowAt t r) l := by
  refine (congrFun (out10_eq m c t) (ix2 r l)).trans ?_
  exact pay7_at _ _ _ r _ (row_at m c t r) l

/-- Output 1's block. -/
theorem out11_eq : out0_11 (iblk m c 0 t) (iblk m c 1 t) (iblk m c 2 t) (iblk m c 3 t) (iblk m c 4 t) (iblk m c 5 t) (iblk m c 6 t) (iblk m c 7 t) (iblk m c 8 t) (iblk m c 9 t) = k0_pay2 (F := Ideal) (iblk m c 0 t) (iblk m c 3 t) (iblk m c 4 t) := by
  unfold_out out0_11
  frame_out

theorem out11_at (l : Fin 512) : (show FVec Ideal S512x512 .f32 from out0_11 (iblk m c 0 t) (iblk m c 1 t) (iblk m c 2 t) (iblk m c 3 t) (iblk m c 4 t) (iblk m c 5 t) (iblk m c 6 t) (iblk m c 7 t) (iblk m c 8 t) (iblk m c 9 t)) (ix2 r l) = W11 m c (rowAt t r) l := by
  refine (congrFun (out11_eq m c t) (ix2 r l)).trans ?_
  exact pay2_at _ _ _ r _ (row_at m c t r) l

/-- Output 2's block. -/
theorem out12_eq : out0_12 (iblk m c 0 t) (iblk m c 1 t) (iblk m c 2 t) (iblk m c 3 t) (iblk m c 4 t) (iblk m c 5 t) (iblk m c 6 t) (iblk m c 7 t) (iblk m c 8 t) (iblk m c 9 t) = k0_pay3 (F := Ideal) (iblk m c 0 t) (iblk m c 3 t) (iblk m c 4 t) := by
  unfold_out out0_12
  frame_out

theorem out12_at (l : Fin 512) : (show FVec Ideal S512x512 .f32 from out0_12 (iblk m c 0 t) (iblk m c 1 t) (iblk m c 2 t) (iblk m c 3 t) (iblk m c 4 t) (iblk m c 5 t) (iblk m c 6 t) (iblk m c 7 t) (iblk m c 8 t) (iblk m c 9 t)) (ix2 r l) = W12 m c (rowAt t r) l := by
  refine (congrFun (out12_eq m c t) (ix2 r l)).trans ?_
  exact pay3_at _ _ _ r _ (row_at m c t r) l

/-- Output 3's block. -/
theorem out13_eq : out0_13 (iblk m c 0 t) (iblk m c 1 t) (iblk m c 2 t) (iblk m c 3 t) (iblk m c 4 t) (iblk m c 5 t) (iblk m c 6 t) (iblk m c 7 t) (iblk m c 8 t) (iblk m c 9 t) = k0_pay8 (F := Ideal) (iblk m c 0 t) (iblk m c 3 t) (iblk m c 4 t) := by
  unfold_out out0_13
  frame_out

theorem out13_at (l : Fin 512) : (show FVec Ideal S512x512 .bf16 from out0_13 (iblk m c 0 t) (iblk m c 1 t) (iblk m c 2 t) (iblk m c 3 t) (iblk m c 4 t) (iblk m c 5 t) (iblk m c 6 t) (iblk m c 7 t) (iblk m c 8 t) (iblk m c 9 t)) (ix2 r l) = W11 m c (rowAt t r) l := by
  refine (congrFun (out13_eq m c t) (ix2 r l)).trans ?_
  exact pay8_at _ _ _ r _ (row_at m c t r) l

/-- Output 4's block. -/
theorem out14_eq : out0_14 (iblk m c 0 t) (iblk m c 1 t) (iblk m c 2 t) (iblk m c 3 t) (iblk m c 4 t) (iblk m c 5 t) (iblk m c 6 t) (iblk m c 7 t) (iblk m c 8 t) (iblk m c 9 t) = k0_pay9 (F := Ideal) (iblk m c 0 t) (iblk m c 3 t) (iblk m c 4 t) := by
  unfold_out out0_14
  frame_out

theorem out14_at (l : Fin 512) : (show FVec Ideal S512x512 .bf16 from out0_14 (iblk m c 0 t) (iblk m c 1 t) (iblk m c 2 t) (iblk m c 3 t) (iblk m c 4 t) (iblk m c 5 t) (iblk m c 6 t) (iblk m c 7 t) (iblk m c 8 t) (iblk m c 9 t)) (ix2 r l) = W12 m c (rowAt t r) l := by
  refine (congrFun (out14_eq m c t) (ix2 r l)).trans ?_
  exact pay9_at _ _ _ r _ (row_at m c t r) l

/-- Output 6's block. -/
theorem out16_eq : out0_16 (iblk m c 0 t) (iblk m c 1 t) (iblk m c 2 t) (iblk m c 3 t) (iblk m c 4 t) (iblk m c 5 t) (iblk m c 6 t) (iblk m c 7 t) (iblk m c 8 t) (iblk m c 9 t) = k0_pay29 (F := Ideal) (k0_pay5 (iblk m c 0 t) (iblk m c 3 t) (iblk m c 4 t)) (iblk m c 9 t) := by
  unfold_out out0_16
  frame_out

theorem out16_at (l : Fin 128) : (show FVec Ideal S512x128 .f32 from out0_16 (iblk m c 0 t) (iblk m c 1 t) (iblk m c 2 t) (iblk m c 3 t) (iblk m c 4 t) (iblk m c 5 t) (iblk m c 6 t) (iblk m c 7 t) (iblk m c 8 t) (iblk m c 9 t)) (ix2 r l) = W16 m c (rowAt t r) l := by
  refine (congrFun (out16_eq m c t) (ix2 r l)).trans ?_
  exact ckv_at m c t r l

/-- Output 7's block. -/
theorem out17_eq : out0_17 (iblk m c 0 t) (iblk m c 1 t) (iblk m c 2 t) (iblk m c 3 t) (iblk m c 4 t) (iblk m c 5 t) (iblk m c 6 t) (iblk m c 7 t) (iblk m c 8 t) (iblk m c 9 t) = k0_pay31 (F := Ideal) (k0_pay6 (iblk m c 0 t) (iblk m c 3 t) (iblk m c 4 t)) (k0_pay13 (iblk m c 1 t)) (k0_pay14 (iblk m c 2 t)) k0_pay15 := by
  unfold_out out0_17
  frame_out

theorem out17_at (l : Fin 32) : (show FVec Ideal S512x32 .f32 from out0_17 (iblk m c 0 t) (iblk m c 1 t) (iblk m c 2 t) (iblk m c 3 t) (iblk m c 4 t) (iblk m c 5 t) (iblk m c 6 t) (iblk m c 7 t) (iblk m c 8 t) (iblk m c 9 t)) (ix2 r l) = W17 m (rowAt t r) c l := by
  refine (congrFun (out17_eq m c t) (ix2 r l)).trans ?_
  exact pay31_at _ _ _ r (keys (P m c (rowAt t r))) (C (rowAt t r)) (S (rowAt t r)) (pay15_at r) (cos_at m c t r) (sin_at m c t r) _
    (pay6_at _ _ _ r _ (row_at m c t r)) l

/-- Output 8's block. -/
theorem out18_eq : out0_18 (iblk m c 0 t) (iblk m c 1 t) (iblk m c 2 t) (iblk m c 3 t) (iblk m c 4 t) (iblk m c 5 t) (iblk m c 6 t) (iblk m c 7 t) (iblk m c 8 t) (iblk m c 9 t) = k0_pay32 (F := Ideal) (k0_pay5 (iblk m c 0 t) (iblk m c 3 t) (iblk m c 4 t)) (k0_pay6 (iblk m c 0 t) (iblk m c 3 t) (iblk m c 4 t)) (k0_pay13 (iblk m c 1 t)) (k0_pay14 (iblk m c 2 t)) k0_pay15 (iblk m c 9 t) := by
  unfold_out out0_18
  frame_out

theorem out18_at (l : Fin 256) : (show FVec Ideal S512x256 .bf16 from out0_18 (iblk m c 0 t) (iblk m c 1 t) (iblk m c 2 t) (iblk m c 3 t) (iblk m c 4 t) (iblk m c 5 t) (iblk m c 6 t) (iblk m c 7 t) (iblk m c 8 t) (iblk m c 9 t)) (ix2 r l) = W18 m c (rowAt t r) l := by
  refine (congrFun (out18_eq m c t) (ix2 r l)).trans ?_
  exact pay32_at _ _ _ _ _ _ r _ _ (ckv_at m c t r) (kpe_at m c t r) l

end

end Cert.SmpPoint
-- ==== Proof.SmpHead.lean ====
module
public import proofs.«01_k».proof.Proof.SmpPoint
public import Idealize.ShloMosaic.Lib.Pipeline.ValueKit
public import Idealize.ShloMosaic.Lib.Pointwise
public import Idealize.ShloMosaic.Lib.WordCmp
/-! The heads' attention rows a point of the sample's mixer inputs' kernel leaves. -/
@[expose] public section
set_option maxRecDepth 16384
noncomputable section
open Idealize.ShloMosaic Idealize.ShloMosaic.TcCoe Idealize.SL.Sem
open Idealize.ShloMosaic.Pipeline (Dat)
open Cert.Kernel4Ideal Cert.Kernel4Ideal.Gen
namespace Cert.SmpHead
open Cert.SmpPoint
open Cert.Smp Cert.SmpBlk Cert.SmpPay
open Cert.Mix hiding ang co si
variable (m : (ℓ : Loc nD τ sig) → Buf (Elt Ideal) ℓ)

section
variable (c : Dev nD) (t : Fin cfg0.N) (r : Fin 512)

/-- A head's lanes of the rotary queries. -/
theorem pe_head (h : Fin 8) (l : Fin 128) (j : Fin 1024) (hj : j.val = 128 * h.val + l.val) :
    (k0_pay11 (F := Ideal) (k0_pay4 (iblk m c 0 t) (iblk m c 3 t) (iblk m c 4 t)) (iblk m c 5 t) (iblk m c 7 t)) (ix2 r j)
      = if hl : l.val < 32 then (fun x : Fin 32 => Q m c (rowAt t r) ⟨h.val * 96 + (64 + x.val), by omega⟩) ⟨l.val, hl⟩ else 0 := by
  refine (pe_at m c t r j).trans ?_
  have e1 : j.val / 128 = h.val := by omega
  have e2 : j.val % 128 = l.val := by omega
  simp only [e1, e2]

/-- A head's lanes of the latent queries. -/
theorem lat_head (h : Fin 8) (l : Fin 128) (j : Fin 1024) (hj : j.val = 128 * h.val + l.val) :
    (k0_pay12 (F := Ideal) (k0_pay4 (iblk m c 0 t) (iblk m c 3 t) (iblk m c 4 t)) (iblk m c 5 t) (iblk m c 6 t) (iblk m c 8 t)) (ix2 r j)
      = qlat (Q m c (rowAt t r)) (fun c' h n => A6 m c (ix3 c' h n)) h l := by
  refine (lat_at m c t r j).trans ?_
  have e1 : (⟨j.val / 128, by omega⟩ : Fin 8) = h := Fin.ext (by dsimp only; omega)
  have e2 : (⟨j.val % 128, by omega⟩ : Fin 128) = l := Fin.ext (by dsimp only; omega)
  rw [e1, e2]

/-- Head 0's row. -/
theorem head0_row (l : Fin 256) : k0_pay19 (F := Ideal) (k0_pay13 (F := Ideal) (iblk m c 1 t)) (k0_pay14 (F := Ideal) (iblk m c 2 t)) (k0_pay16 (k0_pay4 (iblk m c 0 t) (iblk m c 3 t) (iblk m c 4 t)) (iblk m c 5 t) (iblk m c 6 t) (iblk m c 8 t)) (k0_pay17 (k0_pay4 (iblk m c 0 t) (iblk m c 3 t) (iblk m c 4 t)) (iblk m c 5 t) (iblk m c 7 t)) (k0_pay18 (k0_pay4 (iblk m c 0 t) (iblk m c 3 t) (iblk m c 4 t)) (iblk m c 5 t) (iblk m c 7 t)) (ix3 0 r l) = W15 m c 0 (rowAt t r) l :=
  head0_at _ _ _ r _ (C (rowAt t r)) (S (rowAt t r)) (pay15_at r) (cos_at m c t r) (sin_at m c t r) (k0_pay4 (iblk m c 0 t) (iblk m c 3 t) (iblk m c 4 t)) (iblk m c 5 t) (iblk m c 6 t) (iblk m c 7 t) (iblk m c 8 t) _ (fun l => pe_head m c t r 0 l _ (by simp)) (fun l => lat_head m c t r 0 l _ (by simp)) l

/-- Head 1's row. -/
theorem head1_row (l : Fin 256) : k0_pay20 (F := Ideal) (k0_pay11 (F := Ideal) (k0_pay4 (iblk m c 0 t) (iblk m c 3 t) (iblk m c 4 t)) (iblk m c 5 t) (iblk m c 7 t)) (k0_pay12 (F := Ideal) (k0_pay4 (iblk m c 0 t) (iblk m c 3 t) (iblk m c 4 t)) (iblk m c 5 t) (iblk m c 6 t) (iblk m c 8 t)) (k0_pay13 (F := Ideal) (iblk m c 1 t)) (k0_pay14 (F := Ideal) (iblk m c 2 t)) k0_pay15 (ix3 0 r l) = W15 m c 1 (rowAt t r) l :=
  head1_at _ _ _ _ _ r _ (C (rowAt t r)) (S (rowAt t r)) (pay15_at r) (cos_at m c t r) (sin_at m c t r) _ (fun l => pe_head m c t r 1 l _ (by simp)) (fun l => lat_head m c t r 1 l _ (by simp)) l

/-- Head 2's row. -/
theorem head2_row (l : Fin 256) : k0_pay21 (F := Ideal) (k0_pay11 (F := Ideal) (k0_pay4 (iblk m c 0 t) (iblk m c 3 t) (iblk m c 4 t)) (iblk m c 5 t) (iblk m c 7 t)) (k0_pay12 (F := Ideal) (k0_pay4 (iblk m c 0 t) (iblk m c 3 t) (iblk m c 4 t)) (iblk m c 5 t) (iblk m c 6 t) (iblk m c 8 t)) (k0_pay13 (F := Ideal) (iblk m c 1 t)) (k0_pay14 (F := Ideal) (iblk m c 2 t)) k0_pay15 (ix3 0 r l) = W15 m c 2 (rowAt t r) l :=
  head2_at _ _ _ _ _ r _ (C (rowAt t r)) (S (rowAt t r)) (pay15_at r) (cos_at m c t r) (sin_at m c t r) _ (fun l => pe_head m c t r 2 l _ (by simp)) (fun l => lat_head m c t r 2 l _ (by simp)) l

/-- Head 3's row. -/
theorem head3_row (l : Fin 256) : k0_pay23 (F := Ideal) (k0_pay22 (k0_pay11 (F := Ideal) (k0_pay4 (iblk m c 0 t) (iblk m c 3 t) (iblk m c 4 t)) (iblk m c 5 t) (iblk m c 7 t)) (k0_pay12 (F := Ideal) (k0_pay4 (iblk m c 0 t) (iblk m c 3 t) (iblk m c 4 t)) (iblk m c 5 t) (iblk m c 6 t) (iblk m c 8 t)) (k0_pay13 (F := Ideal) (iblk m c 1 t)) (k0_pay14 (F := Ideal) (iblk m c 2 t)) k0_pay15) (ix3 0 r l) = W15 m c 3 (rowAt t r) l :=
  head3_at _ _ _ _ _ r _ (C (rowAt t r)) (S (rowAt t r)) (pay15_at r) (cos_at m c t r) (sin_at m c t r) _ (fun l => pe_head m c t r 3 l _ (by simp)) (fun l => lat_head m c t r 3 l _ (by simp)) l

/-- Head 4's row. -/
theorem head4_row (l : Fin 256) : k0_pay24 (F := Ideal) (k0_pay11 (F := Ideal) (k0_pay4 (iblk m c 0 t) (iblk m c 3 t) (iblk m c 4 t)) (iblk m c 5 t) (iblk m c 7 t)) (k0_pay12 (F := Ideal) (k0_pay4 (iblk m c 0 t) (iblk m c 3 t) (iblk m c 4 t)) (iblk m c 5 t) (iblk m c 6 t) (iblk m c 8 t)) (k0_pay13 (F := Ideal) (iblk m c 1 t)) (k0_pay14 (F := Ideal) (iblk m c 2 t)) k0_pay15 (ix3 0 r l) = W15 m c 4 (rowAt t r) l :=
  head4_at _ _ _ _ _ r _ (C (rowAt t r)) (S (rowAt t r)) (pay15_at r) (cos_at m c t r) (sin_at m c t r) _ (fun l => pe_head m c t r 4 l _ (by simp)) (fun l => lat_head m c t r 4 l _ (by simp)) l

/-- Head 5's row. -/
theorem head5_row (l : Fin 256) : k0_pay25 (F := Ideal) (k0_pay11 (F := Ideal) (k0_pay4 (iblk m c 0 t) (iblk m c 3 t) (iblk m c 4 t)) (iblk m c 5 t) (iblk m c 7 t)) (k0_pay12 (F := Ideal) (k0_pay4 (iblk m c 0 t) (iblk m c 3 t) (iblk m c 4 t)) (iblk m c 5 t) (iblk m c 6 t) (iblk m c 8 t)) (k0_pay13 (F := Ideal) (iblk m c 1 t)) (k0_pay14 (F := Ideal) (iblk m c 2 t)) k0_pay15 (ix3 0 r l) = W15 m c 5 (rowAt t r) l :=
  head5_at _ _ _ _ _ r _ (C (rowAt t r)) (S (rowAt t r)) (pay15_at r) (cos_at m c t r) (sin_at m c t r) _ (fun l => pe_head m c t r 5 l _ (by simp)) (fun l => lat_head m c t r 5 l _ (by simp)) l

/-- Head 6's row. -/
theorem head6_row (l : Fin 256) : k0_pay26 (F := Ideal) (k0_pay11 (F := Ideal) (k0_pay4 (iblk m c 0 t) (iblk m c 3 t) (iblk m c 4 t)) (iblk m c 5 t) (iblk m c 7 t)) (k0_pay12 (F := Ideal) (k0_pay4 (iblk m c 0 t) (iblk m c 3 t) (iblk m c 4 t)) (iblk m c 5 t) (iblk m c 6 t) (iblk m c 8 t)) (k0_pay13 (F := Ideal) (iblk m c 1 t)) (k0_pay14 (F := Ideal) (iblk m c 2 t)) k0_pay15 (ix3 0 r l) = W15 m c 6 (rowAt t r) l :=
  head6_at _ _ _ _ _ r _ (C (rowAt t r)) (S (rowAt t r)) (pay15_at r) (cos_at m c t r) (sin_at m c t r) _ (fun l => pe_head m c t r 6 l _ (by simp)) (fun l => lat_head m c t r 6 l _ (by simp)) l

/-- Head 7's row. -/
theorem head7_row (l : Fin 256) : k0_pay28 (F := Ideal) (k0_pay11 (F := Ideal) (k0_pay4 (iblk m c 0 t) (iblk m c 3 t) (iblk m c 4 t)) (iblk m c 5 t) (iblk m c 7 t)) (k0_pay13 (F := Ideal) (iblk m c 1 t)) (k0_pay14 (F := Ideal) (iblk m c 2 t)) k0_pay15 (k0_pay27 (k0_pay12 (F := Ideal) (k0_pay4 (iblk m c 0 t) (iblk m c 3 t) (iblk m c 4 t)) (iblk m c 5 t) (iblk m c 6 t) (iblk m c 8 t))) (ix3 0 r l) = W15 m c 7 (rowAt t r) l :=
  head7_at _ _ _ _ _ r _ (C (rowAt t r)) (S (rowAt t r)) (pay15_at r) (cos_at m c t r) (sin_at m c t r) _ (fun l => pe_head m c t r 7 l _ (by simp)) (fun l => lat_head m c t r 7 l _ (by simp)) l

/-- Output 5's block. -/
theorem out15_at (h : Fin 8) (l : Fin 256) : (show FVec Ideal S8x512x256 .f32 from out0_15 (iblk m c 0 t) (iblk m c 1 t) (iblk m c 2 t) (iblk m c 3 t) (iblk m c 4 t) (iblk m c 5 t) (iblk m c 6 t) (iblk m c 7 t) (iblk m c 8 t) (iblk m c 9 t)) (ix3 h r l) = W15 m c h (rowAt t r) l := by
  unfold_out out0_15
  frame_out
  canon_tiles x hx
  · have e0 : h = 7 := Fin.ext (by simp only [ix3_0] at hx0; simp; omega)
    have e : x = ix3 0 r l := by
      refine (eq_ix3 x).trans ?_
      congr 1 <;> apply Fin.ext <;> simp_all <;> omega
    subst e0 e
    exact head7_row m c t r l
  · have e0 : h = 6 := Fin.ext (by simp only [ix3_0] at hx0; simp; omega)
    have e : x = ix3 0 r l := by
      refine (eq_ix3 x).trans ?_
      congr 1 <;> apply Fin.ext <;> simp_all <;> omega
    subst e0 e
    exact head6_row m c t r l
  · have e0 : h = 5 := Fin.ext (by simp only [ix3_0] at hx0; simp; omega)
    have e : x = ix3 0 r l := by
      refine (eq_ix3 x).trans ?_
      congr 1 <;> apply Fin.ext <;> simp_all <;> omega
    subst e0 e
    exact head5_row m c t r l
  · have e0 : h = 4 := Fin.ext (by simp only [ix3_0] at hx0; simp; omega)
    have e : x = ix3 0 r l := by
      refine (eq_ix3 x).trans ?_
      congr 1 <;> apply Fin.ext <;> simp_all <;> omega
    subst e0 e
    exact head4_row m c t r l
  · have e0 : h = 3 := Fin.ext (by simp only [ix3_0] at hx0; simp; omega)
    have e : x = ix3 0 r l := by
      refine (eq_ix3 x).trans ?_
      congr 1 <;> apply Fin.ext <;> simp_all <;> omega
    subst e0 e
    exact head3_row m c t r l
  · have e0 : h = 2 := Fin.ext (by simp only [ix3_0] at hx0; simp; omega)
    have e : x = ix3 0 r l := by
      refine (eq_ix3 x).trans ?_
      congr 1 <;> apply Fin.ext <;> simp_all <;> omega
    subst e0 e
    exact head2_row m c t r l
  · have e0 : h = 1 := Fin.ext (by simp only [ix3_0] at hx0; simp; omega)
    have e : x = ix3 0 r l := by
      refine (eq_ix3 x).trans ?_
      congr 1 <;> apply Fin.ext <;> simp_all <;> omega
    subst e0 e
    exact head1_row m c t r l
  · have e0 : h = 0 := Fin.ext (by simp only [ix3_0] at hx0; simp; omega)
    have e : x = ix3 0 r l := by
      refine (eq_ix3 x).trans ?_
      congr 1 <;> apply Fin.ext <;> simp_all <;> omega
    subst e0 e
    exact head0_row m c t r l

end

end Cert.SmpHead
-- ==== Proof.SmpArray.lean ====
module
public import proofs.«01_k».proof.Proof.SmpHead
public import Idealize.ShloMosaic.Lib.Pipeline.ValueKit
public import Idealize.ShloMosaic.Lib.Pointwise
public import Idealize.ShloMosaic.Lib.WordCmp
/-! What the sample's mixer inputs' kernel leaves in its result arrays. -/
@[expose] public section
set_option maxRecDepth 16384
noncomputable section
open Idealize.ShloMosaic Idealize.ShloMosaic.TcCoe Idealize.SL.Sem
open Idealize.ShloMosaic.Pipeline (Dat)
open Cert.Kernel4Ideal Cert.Kernel4Ideal.Gen
namespace Cert.SmpArray
open Cert.SmpPoint Cert.SmpHead
open Cert.Smp Cert.SmpBlk Cert.SmpPay
open Cert.Mix hiding ang co si
variable (m : (ℓ : Loc nD τ sig) → Buf (Elt Ideal) ℓ)

/-- Result 0 after the run. -/
theorem final10 (c : Dev nD) (r : Fin 1024) (l : Fin 512) :
    (show FVec Ideal S1024x512 .f32 from (dats m 0 c).arrAt 10 (cfgs 0).N) (ix2 r l) = W10 m c r l := by
  refine congrFun (f := (dats m 0 c).arrAt 10 (cfgs 0).N) (g := fun i => W10 m c ⟨(i 0).val, (i 0).isLt⟩ ⟨(i 1).val, (i 1).isLt⟩) ?_ (ix2 r l)
  refine (dats m 0 c).arrAt_eq_of_covers 10 _ (by decide +kernel) fun t hf y => ?_
  blk_simp
  rw [after0_10]
  idx_vars y
  refine (out10_at m c t y0 y1).trans ?_
  obtain ⟨hw, -, -, -, -, -, -, -, -, ht⟩ := idxo t
  blk_simp [hw]
  have e : rowAt t y0 = ⟨t.val * 512 + y0.val, by omega⟩ := Fin.ext (by dsimp only; omega)
  exact congrArg (fun R => W10 m c R y1) e

/-- Result 1 after the run. -/
theorem final11 (c : Dev nD) (r : Fin 1024) (l : Fin 512) :
    (show FVec Ideal S1024x512 .f32 from (dats m 0 c).arrAt 11 (cfgs 0).N) (ix2 r l) = W11 m c r l := by
  refine congrFun (f := (dats m 0 c).arrAt 11 (cfgs 0).N) (g := fun i => W11 m c ⟨(i 0).val, (i 0).isLt⟩ ⟨(i 1).val, (i 1).isLt⟩) ?_ (ix2 r l)
  refine (dats m 0 c).arrAt_eq_of_covers 11 _ (by decide +kernel) fun t hf y => ?_
  blk_simp
  rw [after0_11]
  idx_vars y
  refine (out11_at m c t y0 y1).trans ?_
  obtain ⟨-, hw, -, -, -, -, -, -, -, ht⟩ := idxo t
  blk_simp [hw]
  have e : rowAt t y0 = ⟨t.val * 512 + y0.val, by omega⟩ := Fin.ext (by dsimp only; omega)
  exact congrArg (fun R => W11 m c R y1) e

/-- Result 2 after the run. -/
theorem final12 (c : Dev nD) (r : Fin 1024) (l : Fin 512) :
    (show FVec Ideal S1024x512 .f32 from (dats m 0 c).arrAt 12 (cfgs 0).N) (ix2 r l) = W12 m c r l := by
  refine congrFun (f := (dats m 0 c).arrAt 12 (cfgs 0).N) (g := fun i => W12 m c ⟨(i 0).val, (i 0).isLt⟩ ⟨(i 1).val, (i 1).isLt⟩) ?_ (ix2 r l)
  refine (dats m 0 c).arrAt_eq_of_covers 12 _ (by decide +kernel) fun t hf y => ?_
  blk_simp
  rw [after0_12]
  idx_vars y
  refine (out12_at m c t y0 y1).trans ?_
  obtain ⟨-, -, hw, -, -, -, -, -, -, ht⟩ := idxo t
  blk_simp [hw]
  have e : rowAt t y0 = ⟨t.val * 512 + y0.val, by omega⟩ := Fin.ext (by dsimp only; omega)
  exact congrArg (fun R => W12 m c R y1) e

end Cert.SmpArray
-- ==== Proof.SmpArrayB.lean ====
module
public import proofs.«01_k».proof.Proof.SmpHead
public import Idealize.ShloMosaic.Lib.Pipeline.ValueKit
public import Idealize.ShloMosaic.Lib.Pointwise
public import Idealize.ShloMosaic.Lib.WordCmp
/-! What the sample's mixer inputs' kernel leaves in its result arrays. -/
@[expose] public section
set_option maxRecDepth 16384
noncomputable section
open Idealize.ShloMosaic Idealize.ShloMosaic.TcCoe Idealize.SL.Sem
open Idealize.ShloMosaic.Pipeline (Dat)
open Cert.Kernel4Ideal Cert.Kernel4Ideal.Gen
namespace Cert.SmpArray
open Cert.SmpPoint Cert.SmpHead
open Cert.Smp Cert.SmpBlk Cert.SmpPay
open Cert.Mix hiding ang co si
variable (m : (ℓ : Loc nD τ sig) → Buf (Elt Ideal) ℓ)

/-- Result 3 after the run. -/
theorem final13 (c : Dev nD) (r : Fin 1024) (l : Fin 512) :
    (show FVec Ideal S1024x512 .bf16 from (dats m 0 c).arrAt 13 (cfgs 0).N) (ix2 r l) = W11 m c r l := by
  refine congrFun (f := (dats m 0 c).arrAt 13 (cfgs 0).N) (g := fun i => W11 m c ⟨(i 0).val, (i 0).isLt⟩ ⟨(i 1).val, (i 1).isLt⟩) ?_ (ix2 r l)
  refine (dats m 0 c).arrAt_eq_of_covers 13 _ (by decide +kernel) fun t hf y => ?_
  blk_simp
  rw [after0_13]
  idx_vars y
  refine (out13_at m c t y0 y1).trans ?_
  obtain ⟨-, -, -, hw, -, -, -, -, -, ht⟩ := idxo t
  blk_simp [hw]
  have e : rowAt t y0 = ⟨t.val * 512 + y0.val, by omega⟩ := Fin.ext (by dsimp only; omega)
  exact congrArg (fun R => W11 m c R y1) e

/-- Result 4 after the run. -/
theorem final14 (c : Dev nD) (r : Fin 1024) (l : Fin 512) :
    (show FVec Ideal S1024x512 .bf16 from (dats m 0 c).arrAt 14 (cfgs 0).N) (ix2 r l) = W12 m c r l := by
  refine congrFun (f := (dats m 0 c).arrAt 14 (cfgs 0).N) (g := fun i => W12 m c ⟨(i 0).val, (i 0).isLt⟩ ⟨(i 1).val, (i 1).isLt⟩) ?_ (ix2 r l)
  refine (dats m 0 c).arrAt_eq_of_covers 14 _ (by decide +kernel) fun t hf y => ?_
  blk_simp
  rw [after0_14]
  idx_vars y
  refine (out14_at m c t y0 y1).trans ?_
  obtain ⟨-, -, -, -, hw, -, -, -, -, ht⟩ := idxo t
  blk_simp [hw]
  have e : rowAt t y0 = ⟨t.val * 512 + y0.val, by omega⟩ := Fin.ext (by dsimp only; omega)
  exact congrArg (fun R => W12 m c R y1) e

set_option maxHeartbeats 1000000 in
/-- Result 5 after the run. -/
theorem final15 (c : Dev nD) (h : Fin 8) (r : Fin 1024) (l : Fin 256) :
    (show FVec Ideal S8x1024x256 .f32 from (dats m 0 c).arrAt 15 (cfgs 0).N) (ix3 h r l) = W15 m c h r l := by
  refine congrFun (f := (dats m 0 c).arrAt 15 (cfgs 0).N) (g := fun i => W15 m c ⟨(i 0).val, (i 0).isLt⟩ ⟨(i 1).val, (i 1).isLt⟩ ⟨(i 2).val, (i 2).isLt⟩) ?_ (ix3 h r l)
  refine (dats m 0 c).arrAt_eq_of_covers 15 _ (by decide +kernel) fun t hf y => ?_
  blk_simp
  rw [after0_15]
  idx_vars y
  refine (out15_at m c t y1 y0 y2).trans ?_
  obtain ⟨-, -, -, -, -, hw, -, -, -, ht⟩ := idxo t
  blk_simp [hw]
  have e : rowAt t y1 = ⟨t.val * 512 + y1.val, by omega⟩ := Fin.ext (by dsimp only; omega)
  exact congrArg (fun R => W15 m c y0 R y2) e

end Cert.SmpArray
-- ==== Proof.SmpArrayC.lean ====
module
public import proofs.«01_k».proof.Proof.SmpHead
public import Idealize.ShloMosaic.Lib.Pipeline.ValueKit
public import Idealize.ShloMosaic.Lib.Pointwise
public import Idealize.ShloMosaic.Lib.WordCmp
/-! What the sample's mixer inputs' kernel leaves in its result arrays. -/
@[expose] public section
set_option maxRecDepth 16384
noncomputable section
open Idealize.ShloMosaic Idealize.ShloMosaic.TcCoe Idealize.SL.Sem
open Idealize.ShloMosaic.Pipeline (Dat)
open Cert.Kernel4Ideal Cert.Kernel4Ideal.Gen
namespace Cert.SmpArray
open Cert.SmpPoint Cert.SmpHead
open Cert.Smp Cert.SmpBlk Cert.SmpPay
open Cert.Mix hiding ang co si
variable (m : (ℓ : Loc nD τ sig) → Buf (Elt Ideal) ℓ)

/-- Result 6 after the run. -/
theorem final16 (c : Dev nD) (r : Fin 1024) (l : Fin 128) :
    (show FVec Ideal S1024x128 .f32 from (dats m 0 c).arrAt 16 (cfgs 0).N) (ix2 r l) = W16 m c r l := by
  refine congrFun (f := (dats m 0 c).arrAt 16 (cfgs 0).N) (g := fun i => W16 m c ⟨(i 0).val, (i 0).isLt⟩ ⟨(i 1).val, (i 1).isLt⟩) ?_ (ix2 r l)
  refine (dats m 0 c).arrAt_eq_of_covers 16 _ (by decide +kernel) fun t hf y => ?_
  blk_simp
  rw [after0_16]
  idx_vars y
  refine (out16_at m c t y0 y1).trans ?_
  obtain ⟨-, -, -, -, -, -, hw, -, -, ht⟩ := idxo t
  blk_simp [hw]
  have e : rowAt t y0 = ⟨t.val * 512 + y0.val, by omega⟩ := Fin.ext (by dsimp only; omega)
  exact congrArg (fun R => W16 m c R y1) e

/-- Result 7 after the run. -/
theorem final17 (c : Dev nD) (r : Fin 1024) (l : Fin 32) :
    (show FVec Ideal S1024x32 .f32 from (dats m 0 c).arrAt 17 (cfgs 0).N) (ix2 r l) = W17 m r c l := by
  refine congrFun (f := (dats m 0 c).arrAt 17 (cfgs 0).N) (g := fun i => W17 m ⟨(i 0).val, (i 0).isLt⟩ c ⟨(i 1).val, (i 1).isLt⟩) ?_ (ix2 r l)
  refine (dats m 0 c).arrAt_eq_of_covers 17 _ (by decide +kernel) fun t hf y => ?_
  blk_simp
  rw [after0_17]
  idx_vars y
  refine (out17_at m c t y0 y1).trans ?_
  obtain ⟨-, -, -, -, -, -, -, hw, -, ht⟩ := idxo t
  blk_simp [hw]
  have e : rowAt t y0 = ⟨t.val * 512 + y0.val, by omega⟩ := Fin.ext (by dsimp only; omega)
  exact congrArg (fun R => W17 m R c y1) e

/-- Result 8 after the run. -/
theorem final18 (c : Dev nD) (r : Fin 1024) (l : Fin 256) :
    (show FVec Ideal S1024x256 .bf16 from (dats m 0 c).arrAt 18 (cfgs 0).N) (ix2 r l) = W18 m c r l := by
  refine congrFun (f := (dats m 0 c).arrAt 18 (cfgs 0).N) (g := fun i => W18 m c ⟨(i 0).val, (i 0).isLt⟩ ⟨(i 1).val, (i 1).isLt⟩) ?_ (ix2 r l)
  refine (dats m 0 c).arrAt_eq_of_covers 18 _ (by decide +kernel) fun t hf y => ?_
  blk_simp
  rw [after0_18]
  idx_vars y
  refine (out18_at m c t y0 y1).trans ?_
  obtain ⟨-, -, -, -, -, -, -, -, hw, ht⟩ := idxo t
  blk_simp [hw]
  have e : rowAt t y0 = ⟨t.val * 512 + y0.val, by omega⟩ := Fin.ext (by dsimp only; omega)
  exact congrArg (fun R => W18 m c R y1) e

end Cert.SmpArray
-- ==== Proof.SmpRefA.lean ====
module
public import proofs.«01_k».proof.Proof.Gen.Reference4Ideal.Read
public import proofs.«01_k».proof.Proof.SmpMath
public import Idealize.ShloMosaic.Lib.Pointwise
/-! What the sample's mixer inputs' reference computes, read at an index. -/
@[expose] public section
set_option maxRecDepth 16384
noncomputable section
open Idealize.ShloMosaic Idealize.ShloMosaic.TcCoe Idealize.SL.Sem
open Cert.Reference4Ideal Cert.Reference4Ideal.Read
namespace Cert.SmpRef
open Cert.Tail Cert.Smp
open Cert.Mix hiding ang co si

variable (X0 : FVec Ideal S128x8x1024 .f32) (X1 : FVec Ideal S1024 .f32) (X2 : FVec Ideal S1024x1952 .f32) (X3 : FVec Ideal S256 .f32)
  (X4 : FVec Ideal S256x768 .f32) (X5 : FVec Ideal S128 .f32) (X6 : FVec Ideal S128x8x64 .f32)

/-- The input projection. -/
theorem v16_at (b : Fin 128) (s : Fin 8) (l : Fin 1952) :
    val_main_v16 (F := Ideal) X0 X1 X2 (ix3 b s l) = proj (fun l => X0 (ix3 b s l)) (fun l => X1 (ix1 l)) (fun k l => X2 (ix2 k l)) l := by
  pointwise [val_main_v0, val_main_v1, val_main_v2, val_main_v3, val_main_v4, val_main_v5, val_main_v6, val_main_v7, val_main_v8, val_main_v9, val_main_v10, val_main_v11, val_main_v12, val_main_v16, val_main_cst, val_main_cst_0, val_main_cst_1]
  rfl

/-- The queries. -/
theorem v39_at (b : Fin 128) (s : Fin 8) (l : Fin 768) (p : Fin 1952 → EReal) (hp : ∀ l, val_main_v16 (F := Ideal) X0 X1 X2 (ix3 b s l) = p l) :
    val_main_v39 (F := Ideal) X0 X1 X2 X3 X4 (ix3 b s l) = qrow p (fun l => X3 (ix1 l)) (fun k l => X4 (ix2 k l)) l := by
  pointwise [val_main_v20, val_main_v26, val_main_v27, val_main_v28, val_main_v29, val_main_v30, val_main_v31, val_main_v32, val_main_v33, val_main_v34, val_main_v35, val_main_v36, val_main_v37, val_main_v38, val_main_v39, val_main_cst_2, val_main_cst_3, val_main_cst_4]
  simp only [hp]
  rfl

/-- The rotary queries. -/
theorem v72_at (b : Fin 128) (s : Fin 8) (h : Fin 8) (l : Fin 32) (q : Fin 768 → EReal)
    (hq : ∀ l, val_main_v39 (F := Ideal) X0 X1 X2 X3 X4 (ix3 b s l) = q l) :
    val_main_v72 (F := Ideal) X0 X1 X2 X3 X4 (ix4 b s h l) = qpe q (co s) (si s) h l := by
  pointwise [val_main_v13, val_main_v14, val_main_v15, val_main_c, val_main_v40, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst_5, val_main_cst_6, val_main_cst_7]
  simp only [hq]
  unfold qpe rope
  by_cases h16 : l.val < 16
  · rw [dif_pos h16, dif_pos h16]
    refine congrArg₂ (· - ·) (congrArg₂ (· * ·) (congrArg q (Fin.ext ?_)) rfl) (congrArg₂ (· * ·) (congrArg q (Fin.ext ?_)) rfl) <;>
      dsimp only <;> omega
  · rw [dif_neg h16, dif_neg h16]
    refine congrArg₂ (· + ·) (congrArg₂ (· * ·) (congrArg q (Fin.ext ?_)) rfl) (congrArg₂ (· * ·) (congrArg q (Fin.ext ?_)) rfl) <;>
      dsimp only <;> omega

/-- The plain queries through the key up-projection. -/
theorem v74_at (b : Fin 128) (s : Fin 8) (h : Fin 8) (c : Fin 128) (q : Fin 768 → EReal)
    (hq : ∀ l, val_main_v39 (F := Ideal) X0 X1 X2 X3 X4 (ix3 b s l) = q l) :
    val_main_v74 (F := Ideal) X0 X1 X2 X3 X4 X6 (ix4 b s h c) = qlat q (fun c h n => X6 (ix3 c h n)) h c := by
  pointwise [val_main_v40, val_main_v41, val_main_v73, val_main_v74]
  simp only [hq]
  exact Finset.sum_congr rfl fun n _ => mul_comm _ _

/-- The latent keys. -/
theorem v87_at (b : Fin 128) (s : Fin 8) (l : Fin 128) (p : Fin 1952 → EReal) (hp : ∀ l, val_main_v16 (F := Ideal) X0 X1 X2 (ix3 b s l) = p l) :
    val_main_v87 (F := Ideal) X0 X1 X2 X5 (ix3 b s l) = ckv p (fun l => X5 (ix1 l)) l := by
  pointwise [val_main_v21, val_main_v75, val_main_v76, val_main_v77, val_main_v78, val_main_v79, val_main_v80, val_main_v81, val_main_v82, val_main_v83, val_main_v84, val_main_v85, val_main_v86, val_main_v87, val_main_cst_8, val_main_cst_9, val_main_cst_10]
  simp only [hp]
  rfl

/-- The rotary keys. -/
theorem v119_at (b : Fin 128) (s : Fin 8) (l : Fin 32) (p : Fin 1952 → EReal) (hp : ∀ l, val_main_v16 (F := Ideal) X0 X1 X2 (ix3 b s l) = p l) :
    val_main_v119 (F := Ideal) X0 X1 X2 (ix3 b s l) = kpe p (co s) (si s) l := by
  pointwise [val_main_v13, val_main_v14, val_main_v15, val_main_c, val_main_v22, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_cst_11, val_main_cst_12, val_main_cst_13]
  simp only [hp]
  unfold kpe rope
  by_cases h16 : l.val < 16
  · rw [dif_pos h16, dif_pos h16]
    refine congrArg₂ (· - ·) (congrArg₂ (· * ·) (congrArg p (Fin.ext ?_)) rfl) (congrArg₂ (· * ·) (congrArg p (Fin.ext ?_)) rfl) <;>
      dsimp only <;> omega
  · rw [dif_neg h16, dif_neg h16]
    refine congrArg₂ (· + ·) (congrArg₂ (· * ·) (congrArg p (Fin.ext ?_)) rfl) (congrArg₂ (· * ·) (congrArg p (Fin.ext ?_)) rfl) <;>
      dsimp only <;> omega

end Cert.SmpRef
-- ==== Proof.SmpRef.lean ====
module
public import proofs.«01_k».proof.Proof.SmpRefA
public import Idealize.ShloMosaic.Lib.Pointwise
/-! What the sample's mixer inputs' reference computes, result by result. -/
@[expose] public section
set_option maxRecDepth 16384
noncomputable section
open Idealize.ShloMosaic Idealize.ShloMosaic.TcCoe Idealize.SL.Sem
open Cert.Reference4Ideal Cert.Reference4Ideal.Read
namespace Cert.SmpRef
open Cert.Tail Cert.Smp
open Cert.Mix hiding ang co si

variable (X0 : FVec Ideal S128x8x1024 .f32) (X1 : FVec Ideal S1024 .f32) (X2 : FVec Ideal S1024x1952 .f32) (X3 : FVec Ideal S256 .f32)
  (X4 : FVec Ideal S256x768 .f32) (X5 : FVec Ideal S128 .f32) (X6 : FVec Ideal S128x8x64 .f32)

/-- The projected row of token `s` of sequence `b`. -/
def pAt (b : Fin 128) (s : Fin 8) : Fin 1952 → EReal := proj (fun l => X0 (ix3 b s l)) (fun l => X1 (ix1 l)) (fun k l => X2 (ix2 k l))
/-- Its queries. -/
def qAt (b : Fin 128) (s : Fin 8) : Fin 768 → EReal := qrow (pAt X0 X1 X2 b s) (fun l => X3 (ix1 l)) (fun k l => X4 (ix2 k l))
/-- Its attention row of head `h`: the latent query, the rotary query, zeros. -/
def qmlaAt (h : Fin 8) (b : Fin 128) (s : Fin 8) : Fin 256 → EReal :=
  wide (qlat (qAt X0 X1 X2 X3 X4 b s) (fun c h n => X6 (ix3 c h n)) h) (qpe (qAt X0 X1 X2 X3 X4 b s) (co s) (si s) h)
/-- Its key row: the latent key, the rotary key, zeros. -/
def kmlaAt (b : Fin 128) (s : Fin 8) : Fin 256 → EReal :=
  wide (ckv (pAt X0 X1 X2 b s) (fun l => X5 (ix1 l))) (kpe (pAt X0 X1 X2 b s) (co s) (si s))

/-- The scaled queries. -/
theorem v131_at (r : Fin 1024) (l : Fin 512) :
    val_main_v131 (F := Ideal) X0 X1 X2 (ix2 r l) = pAt X0 X1 X2 ⟨r.val / 8, by omega⟩ ⟨r.val % 8, by omega⟩ ⟨l.val, by omega⟩ * scale := by
  pointwise [val_main_v17, val_main_v23, val_main_v129, val_main_v130, val_main_v131, val_main_cst_16]
  simp only [v16_at]
  rfl

/-- The keys. -/
theorem v132_at (r : Fin 1024) (l : Fin 512) :
    val_main_v132 (F := Ideal) X0 X1 X2 (ix2 r l) = pAt X0 X1 X2 ⟨r.val / 8, by omega⟩ ⟨r.val % 8, by omega⟩ ⟨512 + l.val, by omega⟩ := by
  pointwise [val_main_v18, val_main_v24, val_main_v132]
  simp only [v16_at]
  rfl

/-- The values. -/
theorem v133_at (r : Fin 1024) (l : Fin 512) :
    val_main_v133 (F := Ideal) X0 X1 X2 (ix2 r l) = pAt X0 X1 X2 ⟨r.val / 8, by omega⟩ ⟨r.val % 8, by omega⟩ ⟨1024 + l.val, by omega⟩ := by
  pointwise [val_main_v19, val_main_v25, val_main_v133]
  simp only [v16_at]
  rfl

/-- The keys again. -/
theorem v135_at (r : Fin 1024) (l : Fin 512) :
    val_main_v135 (F := Ideal) X0 X1 X2 (ix2 r l) = pAt X0 X1 X2 ⟨r.val / 8, by omega⟩ ⟨r.val % 8, by omega⟩ ⟨512 + l.val, by omega⟩ := by
  pointwise [val_main_v18, val_main_v24, val_main_v134, val_main_v135]
  simp only [v16_at]
  rfl

/-- The values again. -/
theorem v137_at (r : Fin 1024) (l : Fin 512) :
    val_main_v137 (F := Ideal) X0 X1 X2 (ix2 r l) = pAt X0 X1 X2 ⟨r.val / 8, by omega⟩ ⟨r.val % 8, by omega⟩ ⟨1024 + l.val, by omega⟩ := by
  pointwise [val_main_v19, val_main_v25, val_main_v136, val_main_v137]
  simp only [v16_at]
  rfl

/-- A latent row and a rotary row side by side and zeros after them. -/
theorem wide_pad (A : Fin 128 → EReal) (B : Fin 32 → EReal) (l : Fin 256) :
    (if h : l.val < 160 then if h' : l.val < 128 then A ⟨l.val, h'⟩ else B ⟨l.val - 128, by omega⟩ else 0) = wide A B l := by
  unfold wide
  split_ifs <;> first | rfl | omega

/-- The latent attention's queries, head by head. -/
theorem v123_at (b : Fin 128) (s : Fin 8) (h : Fin 8) (l : Fin 256) :
    val_main_v123 (F := Ideal) X0 X1 X2 X3 X4 X6 (ix4 h b s l) = qmlaAt X0 X1 X2 X3 X4 X6 h b s l := by
  have hq := fun l => v39_at X0 X1 X2 X3 X4 b s l _ (v16_at X0 X1 X2 b s)
  have hpe := fun l => v72_at X0 X1 X2 X3 X4 b s h l _ hq
  have hlat := fun l => v74_at X0 X1 X2 X3 X4 X6 b s h l _ hq
  pointwise [val_main_v120, val_main_v121, val_main_v122, val_main_v123, val_main_cst_14]
  simp only [hpe, hlat]
  exact wide_pad _ _ l

/-- The latent keys. -/
theorem v138_at (r : Fin 1024) (l : Fin 128) :
    val_main_v138 (F := Ideal) X0 X1 X2 X5 (ix2 r l) = ckv (pAt X0 X1 X2 ⟨r.val / 8, by omega⟩ ⟨r.val % 8, by omega⟩) (fun l => X5 (ix1 l)) l := by
  pointwise [val_main_v138]
  exact v87_at X0 X1 X2 X5 _ _ l _ (v16_at X0 X1 X2 _ _)

/-- The rotary keys. -/
theorem v139_at (r : Fin 1024) (l : Fin 32) :
    val_main_v139 (F := Ideal) X0 X1 X2 (ix2 r l)
      = kpe (pAt X0 X1 X2 ⟨r.val / 8, by omega⟩ ⟨r.val % 8, by omega⟩) (co ⟨r.val % 8, by omega⟩) (si ⟨r.val % 8, by omega⟩) l := by
  pointwise [val_main_v139]
  exact v119_at X0 X1 X2 _ _ l _ (v16_at X0 X1 X2 _ _)

/-- The latent attention's keys. -/
theorem v140_at (r : Fin 1024) (l : Fin 256) :
    val_main_v140 (F := Ideal) X0 X1 X2 X5 (ix2 r l) = kmlaAt X0 X1 X2 X5 ⟨r.val / 8, by omega⟩ ⟨r.val % 8, by omega⟩ l := by
  pointwise [val_main_v125, val_main_v126, val_main_v127, val_main_v128, val_main_v140, val_main_cst_15]
  simp only [fun (b : Fin 128) (s : Fin 8) l => v87_at X0 X1 X2 X5 b s l _ (v16_at X0 X1 X2 b s), fun (b : Fin 128) (s : Fin 8) l => v119_at X0 X1 X2 b s l _ (v16_at X0 X1 X2 b s)]
  exact wide_pad (ckv (pAt X0 X1 X2 ⟨r.val / 8, by omega⟩ ⟨r.val % 8, by omega⟩) (fun l => X5 (ix1 l)))
    (kpe (pAt X0 X1 X2 ⟨r.val / 8, by omega⟩ ⟨r.val % 8, by omega⟩) (co ⟨r.val % 8, by omega⟩) (si ⟨r.val % 8, by omega⟩)) l

end Cert.SmpRef
-- ==== Proof.SmpRefQ.lean ====
module
public import proofs.«01_k».proof.Proof.SmpRef
public import Idealize.ShloMosaic.Lib.Pointwise
/-! What the sample's mixer inputs' reference computes, the latent attention's queries. -/
@[expose] public section
set_option maxRecDepth 16384
noncomputable section
open Idealize.ShloMosaic Idealize.ShloMosaic.TcCoe Idealize.SL.Sem
open Cert.Reference4Ideal Cert.Reference4Ideal.Read
namespace Cert.SmpRef
open Cert.Tail Cert.Smp
open Cert.Mix hiding ang co si

variable (X0 : FVec Ideal S128x8x1024 .f32) (X1 : FVec Ideal S1024 .f32) (X2 : FVec Ideal S1024x1952 .f32) (X3 : FVec Ideal S256 .f32)
  (X4 : FVec Ideal S256x768 .f32) (X5 : FVec Ideal S128 .f32) (X6 : FVec Ideal S128x8x64 .f32)

/-- Where an entry of the one array per head lies among the sequences' tokens. -/
theorem idx_at (h : Fin 8) (r : Fin 1024) (l : Fin 256) :
    idx_main_v124 (ix3 h r l) = ix4 h (⟨r.val / 8, by omega⟩ : Fin 128) (⟨r.val % 8, by omega⟩ : Fin 8) l := by
  have hh := h.isLt
  have hr := r.isLt
  have hl := l.isLt
  have h0 : ((h.val * 1024 + r.val) * 256 + l.val) / 262144 = h.val := by omega
  have h1 : ((h.val * 1024 + r.val) * 256 + l.val) / 2048 % 128 = r.val / 8 := by omega
  have h2 : ((h.val * 1024 + r.val) * 256 + l.val) / 256 % 8 = r.val % 8 := by omega
  have h3 : ((h.val * 1024 + r.val) * 256 + l.val) % 256 = l.val := by omega
  funext a
  match a with
  | ⟨0, _⟩ => exact Fin.ext h0
  | ⟨1, _⟩ => exact Fin.ext h1
  | ⟨2, _⟩ => exact Fin.ext h2
  | ⟨3, _⟩ => exact Fin.ext h3

/-- The latent attention's queries, as one array per head. -/
theorem v124_at (h : Fin 8) (r : Fin 1024) (l : Fin 256) :
    val_main_v124 (F := Ideal) X0 X1 X2 X3 X4 X6 (ix3 h r l) = qmlaAt X0 X1 X2 X3 X4 X6 h ⟨r.val / 8, by omega⟩ ⟨r.val % 8, by omega⟩ l := by
  rw [val_main_v124_apply, idx_at]
  exact v123_at X0 X1 X2 X3 X4 X6 _ _ h l

end Cert.SmpRef
-- ==== Proof.SmpClaim.lean ====
/- The mixer inputs: the kernel and the reference end with the same nine arrays. -/
module

public import proofs.«01_k».proof.Defs
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.SmpArray
public import proofs.«01_k».proof.Proof.SmpArrayB
public import proofs.«01_k».proof.Proof.SmpArrayC
public import proofs.«01_k».proof.Proof.SmpRefQ
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.SmpClaim

open Cert.Smp Cert.SmpBlk
open Cert.Mix hiding ang co si

/-- The reference runs, leaves its arguments and every counter. -/
theorem reference_frame : Cert.quiescent_Reference4Ideal := by
  intro m g _
  exact (θ_run Cert.Reference4Ideal.defs _ _).mono (fun r h => ⟨fun c => (h c).2.2.2.2.2.2.2.2.2, sem_eq_zero_of_no_sems (by decide) r.2⟩) (Cert.Reference4Ideal.Value.run m g)

section
variable (X0 : FVec Ideal Cert.Kernel4Ideal.S128x8x1024 .f32) (X1 : FVec Ideal Cert.Kernel4Ideal.S1024 .f32) (X2 : FVec Ideal Cert.Kernel4Ideal.S1024x1952 .f32)
  (X3 : FVec Ideal Cert.Kernel4Ideal.S256 .f32) (X4 : FVec Ideal Cert.Kernel4Ideal.S256x768 .f32) (X5 : FVec Ideal Cert.Kernel4Ideal.S128 .f32)
  (X6 : FVec Ideal Cert.Kernel4Ideal.S128x8x64 .f32)

/-- The scaled queries of a token. -/
def e0 (r : Fin 1024) (l : Fin 512) : EReal := Cert.SmpRef.pAt X0 X1 X2 ⟨r.val / 8, by omega⟩ ⟨r.val % 8, by omega⟩ ⟨l.val, by omega⟩ * scale
/-- The scaled queries. -/
def o0 : Cert.Kernel4Ideal.S1024x512.Idx → EReal := fun i => e0 X0 X1 X2 ⟨(i 0).val, (i 0).isLt⟩ ⟨(i 1).val, (i 1).isLt⟩
/-- The keys of a token. -/
def e1 (r : Fin 1024) (l : Fin 512) : EReal := Cert.SmpRef.pAt X0 X1 X2 ⟨r.val / 8, by omega⟩ ⟨r.val % 8, by omega⟩ ⟨512 + l.val, by omega⟩
/-- The keys. -/
def o1 : Cert.Kernel4Ideal.S1024x512.Idx → EReal := fun i => e1 X0 X1 X2 ⟨(i 0).val, (i 0).isLt⟩ ⟨(i 1).val, (i 1).isLt⟩
/-- The values of a token. -/
def e2 (r : Fin 1024) (l : Fin 512) : EReal := Cert.SmpRef.pAt X0 X1 X2 ⟨r.val / 8, by omega⟩ ⟨r.val % 8, by omega⟩ ⟨1024 + l.val, by omega⟩
/-- The values. -/
def o2 : Cert.Kernel4Ideal.S1024x512.Idx → EReal := fun i => e2 X0 X1 X2 ⟨(i 0).val, (i 0).isLt⟩ ⟨(i 1).val, (i 1).isLt⟩
/-- A head's attention row of a token. -/
def e5 (h : Fin 8) (r : Fin 1024) (l : Fin 256) : EReal := Cert.SmpRef.qmlaAt X0 X1 X2 X3 X4 X6 h ⟨r.val / 8, by omega⟩ ⟨r.val % 8, by omega⟩ l
/-- The latent attention's queries. -/
def o5 : Cert.Kernel4Ideal.S8x1024x256.Idx → EReal := fun i => e5 X0 X1 X2 X3 X4 X6 ⟨(i 0).val, (i 0).isLt⟩ ⟨(i 1).val, (i 1).isLt⟩ ⟨(i 2).val, (i 2).isLt⟩
/-- The latent keys of a token. -/
def e6 (r : Fin 1024) (l : Fin 128) : EReal := ckv (Cert.SmpRef.pAt X0 X1 X2 ⟨r.val / 8, by omega⟩ ⟨r.val % 8, by omega⟩) (fun l => X5 (ix1 l)) l
/-- The latent keys. -/
def o6 : Cert.Kernel4Ideal.S1024x128.Idx → EReal := fun i => e6 X0 X1 X2 X5 ⟨(i 0).val, (i 0).isLt⟩ ⟨(i 1).val, (i 1).isLt⟩
/-- The rotary keys of a token. -/
def e7 (r : Fin 1024) (l : Fin 32) : EReal := kpe (Cert.SmpRef.pAt X0 X1 X2 ⟨r.val / 8, by omega⟩ ⟨r.val % 8, by omega⟩) (co ⟨r.val % 8, by omega⟩) (si ⟨r.val % 8, by omega⟩) l
/-- The rotary keys. -/
def o7 : Cert.Kernel4Ideal.S1024x32.Idx → EReal := fun i => e7 X0 X1 X2 ⟨(i 0).val, (i 0).isLt⟩ ⟨(i 1).val, (i 1).isLt⟩
/-- The latent attention's keys of a token. -/
def e8 (r : Fin 1024) (l : Fin 256) : EReal := Cert.SmpRef.kmlaAt X0 X1 X2 X5 ⟨r.val / 8, by omega⟩ ⟨r.val % 8, by omega⟩ l
/-- The latent attention's keys. -/
def o8 : Cert.Kernel4Ideal.S1024x256.Idx → EReal := fun i => e8 X0 X1 X2 X5 ⟨(i 0).val, (i 0).isLt⟩ ⟨(i 1).val, (i 1).isLt⟩

end

/-- Equal arguments give equal values. -/
theorem congr_args {β : Type} (f : FVec Ideal Cert.Kernel4Ideal.S128x8x1024 .f32 → FVec Ideal Cert.Kernel4Ideal.S1024 .f32 → FVec Ideal Cert.Kernel4Ideal.S1024x1952 .f32
      → FVec Ideal Cert.Kernel4Ideal.S256 .f32 → FVec Ideal Cert.Kernel4Ideal.S256x768 .f32 → FVec Ideal Cert.Kernel4Ideal.S128 .f32
      → FVec Ideal Cert.Kernel4Ideal.S128x8x64 .f32 → β)
    {X0 Y0 : FVec Ideal Cert.Kernel4Ideal.S128x8x1024 .f32} {X1 Y1 : FVec Ideal Cert.Kernel4Ideal.S1024 .f32} {X2 Y2 : FVec Ideal Cert.Kernel4Ideal.S1024x1952 .f32}
    {X3 Y3 : FVec Ideal Cert.Kernel4Ideal.S256 .f32} {X4 Y4 : FVec Ideal Cert.Kernel4Ideal.S256x768 .f32} {X5 Y5 : FVec Ideal Cert.Kernel4Ideal.S128 .f32}
    {X6 Y6 : FVec Ideal Cert.Kernel4Ideal.S128x8x64 .f32}
    (h0 : Y0 = X0) (h1 : Y1 = X1) (h2 : Y2 = X2) (h3 : Y3 = X3) (h4 : Y4 = X4) (h5 : Y5 = X5) (h6 : Y6 = X6) :
    f Y0 Y1 Y2 Y3 Y4 Y5 Y6 = f X0 X1 X2 X3 X4 X5 X6 := by
  subst h0 h1 h2 h3 h4 h5 h6
  rfl

/-- Result 0 of the kernel. -/
theorem kernel0 (m : (ℓ : Loc Cert.Kernel4Ideal.nD Cert.Kernel4Ideal.τ Cert.Kernel4Ideal.sig) → Buf (Elt Ideal) ℓ) (c : Dev Cert.Kernel4Ideal.nD) :
    (show FVec Ideal Cert.Kernel4Ideal.S1024x512 .f32 from (Cert.Kernel4Ideal.Gen.dats m 0 c).arrAt 10 (Cert.Kernel4Ideal.cfgs 0).N) = o0 (A0 m c) (A1 m c) (A2 m c) := by
  funext i
  obtain ⟨r, l, rfl⟩ : ∃ (r : Fin 1024) (l : Fin 512), i = ix2 r l := ⟨i 0, i 1, eq_ix2 i⟩
  exact Cert.SmpArray.final10 m c r l

/-- Result 0 of the reference. -/
theorem reference0 {X0 Y0 : FVec Ideal Cert.Kernel4Ideal.S128x8x1024 .f32} {X1 Y1 : FVec Ideal Cert.Kernel4Ideal.S1024 .f32} {X2 Y2 : FVec Ideal Cert.Kernel4Ideal.S1024x1952 .f32}
    {X3 Y3 : FVec Ideal Cert.Kernel4Ideal.S256 .f32} {X4 Y4 : FVec Ideal Cert.Kernel4Ideal.S256x768 .f32} {X5 Y5 : FVec Ideal Cert.Kernel4Ideal.S128 .f32}
    {X6 Y6 : FVec Ideal Cert.Kernel4Ideal.S128x8x64 .f32}
    (h0 : Y0 = X0) (h1 : Y1 = X1) (h2 : Y2 = X2) (h3 : Y3 = X3) (h4 : Y4 = X4) (h5 : Y5 = X5) (h6 : Y6 = X6) :
    Cert.Reference4Ideal.Read.val_main_v131 (F := Ideal) Y0 Y1 Y2 = o0 X0 X1 X2 := by
  refine Eq.trans (b := o0 Y0 Y1 Y2) ?_
    (congr_args (fun X0 X1 X2 X3 X4 X5 X6 => o0 X0 X1 X2) h0 h1 h2 h3 h4 h5 h6)
  funext i
  obtain ⟨r, l, rfl⟩ : ∃ (r : Fin 1024) (l : Fin 512), i = ix2 r l := ⟨i 0, i 1, eq_ix2 i⟩
  exact Cert.SmpRef.v131_at Y0 Y1 Y2 r l

/-- Result 1 of the kernel. -/
theorem kernel1 (m : (ℓ : Loc Cert.Kernel4Ideal.nD Cert.Kernel4Ideal.τ Cert.Kernel4Ideal.sig) → Buf (Elt Ideal) ℓ) (c : Dev Cert.Kernel4Ideal.nD) :
    (show FVec Ideal Cert.Kernel4Ideal.S1024x512 .f32 from (Cert.Kernel4Ideal.Gen.dats m 0 c).arrAt 11 (Cert.Kernel4Ideal.cfgs 0).N) = o1 (A0 m c) (A1 m c) (A2 m c) := by
  funext i
  obtain ⟨r, l, rfl⟩ : ∃ (r : Fin 1024) (l : Fin 512), i = ix2 r l := ⟨i 0, i 1, eq_ix2 i⟩
  exact Cert.SmpArray.final11 m c r l

/-- Result 1 of the reference. -/
theorem reference1 {X0 Y0 : FVec Ideal Cert.Kernel4Ideal.S128x8x1024 .f32} {X1 Y1 : FVec Ideal Cert.Kernel4Ideal.S1024 .f32} {X2 Y2 : FVec Ideal Cert.Kernel4Ideal.S1024x1952 .f32}
    {X3 Y3 : FVec Ideal Cert.Kernel4Ideal.S256 .f32} {X4 Y4 : FVec Ideal Cert.Kernel4Ideal.S256x768 .f32} {X5 Y5 : FVec Ideal Cert.Kernel4Ideal.S128 .f32}
    {X6 Y6 : FVec Ideal Cert.Kernel4Ideal.S128x8x64 .f32}
    (h0 : Y0 = X0) (h1 : Y1 = X1) (h2 : Y2 = X2) (h3 : Y3 = X3) (h4 : Y4 = X4) (h5 : Y5 = X5) (h6 : Y6 = X6) :
    Cert.Reference4Ideal.Read.val_main_v132 (F := Ideal) Y0 Y1 Y2 = o1 X0 X1 X2 := by
  refine Eq.trans (b := o1 Y0 Y1 Y2) ?_
    (congr_args (fun X0 X1 X2 X3 X4 X5 X6 => o1 X0 X1 X2) h0 h1 h2 h3 h4 h5 h6)
  funext i
  obtain ⟨r, l, rfl⟩ : ∃ (r : Fin 1024) (l : Fin 512), i = ix2 r l := ⟨i 0, i 1, eq_ix2 i⟩
  exact Cert.SmpRef.v132_at Y0 Y1 Y2 r l

/-- Result 2 of the kernel. -/
theorem kernel2 (m : (ℓ : Loc Cert.Kernel4Ideal.nD Cert.Kernel4Ideal.τ Cert.Kernel4Ideal.sig) → Buf (Elt Ideal) ℓ) (c : Dev Cert.Kernel4Ideal.nD) :
    (show FVec Ideal Cert.Kernel4Ideal.S1024x512 .f32 from (Cert.Kernel4Ideal.Gen.dats m 0 c).arrAt 12 (Cert.Kernel4Ideal.cfgs 0).N) = o2 (A0 m c) (A1 m c) (A2 m c) := by
  funext i
  obtain ⟨r, l, rfl⟩ : ∃ (r : Fin 1024) (l : Fin 512), i = ix2 r l := ⟨i 0, i 1, eq_ix2 i⟩
  exact Cert.SmpArray.final12 m c r l

/-- Result 2 of the reference. -/
theorem reference2 {X0 Y0 : FVec Ideal Cert.Kernel4Ideal.S128x8x1024 .f32} {X1 Y1 : FVec Ideal Cert.Kernel4Ideal.S1024 .f32} {X2 Y2 : FVec Ideal Cert.Kernel4Ideal.S1024x1952 .f32}
    {X3 Y3 : FVec Ideal Cert.Kernel4Ideal.S256 .f32} {X4 Y4 : FVec Ideal Cert.Kernel4Ideal.S256x768 .f32} {X5 Y5 : FVec Ideal Cert.Kernel4Ideal.S128 .f32}
    {X6 Y6 : FVec Ideal Cert.Kernel4Ideal.S128x8x64 .f32}
    (h0 : Y0 = X0) (h1 : Y1 = X1) (h2 : Y2 = X2) (h3 : Y3 = X3) (h4 : Y4 = X4) (h5 : Y5 = X5) (h6 : Y6 = X6) :
    Cert.Reference4Ideal.Read.val_main_v133 (F := Ideal) Y0 Y1 Y2 = o2 X0 X1 X2 := by
  refine Eq.trans (b := o2 Y0 Y1 Y2) ?_
    (congr_args (fun X0 X1 X2 X3 X4 X5 X6 => o2 X0 X1 X2) h0 h1 h2 h3 h4 h5 h6)
  funext i
  obtain ⟨r, l, rfl⟩ : ∃ (r : Fin 1024) (l : Fin 512), i = ix2 r l := ⟨i 0, i 1, eq_ix2 i⟩
  exact Cert.SmpRef.v133_at Y0 Y1 Y2 r l

/-- Result 3 of the kernel. -/
theorem kernel3 (m : (ℓ : Loc Cert.Kernel4Ideal.nD Cert.Kernel4Ideal.τ Cert.Kernel4Ideal.sig) → Buf (Elt Ideal) ℓ) (c : Dev Cert.Kernel4Ideal.nD) :
    (show FVec Ideal Cert.Kernel4Ideal.S1024x512 .bf16 from (Cert.Kernel4Ideal.Gen.dats m 0 c).arrAt 13 (Cert.Kernel4Ideal.cfgs 0).N) = o1 (A0 m c) (A1 m c) (A2 m c) := by
  funext i
  obtain ⟨r, l, rfl⟩ : ∃ (r : Fin 1024) (l : Fin 512), i = ix2 r l := ⟨i 0, i 1, eq_ix2 i⟩
  exact Cert.SmpArray.final13 m c r l

/-- Result 3 of the reference. -/
theorem reference3 {X0 Y0 : FVec Ideal Cert.Kernel4Ideal.S128x8x1024 .f32} {X1 Y1 : FVec Ideal Cert.Kernel4Ideal.S1024 .f32} {X2 Y2 : FVec Ideal Cert.Kernel4Ideal.S1024x1952 .f32}
    {X3 Y3 : FVec Ideal Cert.Kernel4Ideal.S256 .f32} {X4 Y4 : FVec Ideal Cert.Kernel4Ideal.S256x768 .f32} {X5 Y5 : FVec Ideal Cert.Kernel4Ideal.S128 .f32}
    {X6 Y6 : FVec Ideal Cert.Kernel4Ideal.S128x8x64 .f32}
    (h0 : Y0 = X0) (h1 : Y1 = X1) (h2 : Y2 = X2) (h3 : Y3 = X3) (h4 : Y4 = X4) (h5 : Y5 = X5) (h6 : Y6 = X6) :
    Cert.Reference4Ideal.Read.val_main_v135 (F := Ideal) Y0 Y1 Y2 = o1 X0 X1 X2 := by
  refine Eq.trans (b := o1 Y0 Y1 Y2) ?_
    (congr_args (fun X0 X1 X2 X3 X4 X5 X6 => o1 X0 X1 X2) h0 h1 h2 h3 h4 h5 h6)
  funext i
  obtain ⟨r, l, rfl⟩ : ∃ (r : Fin 1024) (l : Fin 512), i = ix2 r l := ⟨i 0, i 1, eq_ix2 i⟩
  exact Cert.SmpRef.v135_at Y0 Y1 Y2 r l

/-- Result 4 of the kernel. -/
theorem kernel4 (m : (ℓ : Loc Cert.Kernel4Ideal.nD Cert.Kernel4Ideal.τ Cert.Kernel4Ideal.sig) → Buf (Elt Ideal) ℓ) (c : Dev Cert.Kernel4Ideal.nD) :
    (show FVec Ideal Cert.Kernel4Ideal.S1024x512 .bf16 from (Cert.Kernel4Ideal.Gen.dats m 0 c).arrAt 14 (Cert.Kernel4Ideal.cfgs 0).N) = o2 (A0 m c) (A1 m c) (A2 m c) := by
  funext i
  obtain ⟨r, l, rfl⟩ : ∃ (r : Fin 1024) (l : Fin 512), i = ix2 r l := ⟨i 0, i 1, eq_ix2 i⟩
  exact Cert.SmpArray.final14 m c r l

/-- Result 4 of the reference. -/
theorem reference4 {X0 Y0 : FVec Ideal Cert.Kernel4Ideal.S128x8x1024 .f32} {X1 Y1 : FVec Ideal Cert.Kernel4Ideal.S1024 .f32} {X2 Y2 : FVec Ideal Cert.Kernel4Ideal.S1024x1952 .f32}
    {X3 Y3 : FVec Ideal Cert.Kernel4Ideal.S256 .f32} {X4 Y4 : FVec Ideal Cert.Kernel4Ideal.S256x768 .f32} {X5 Y5 : FVec Ideal Cert.Kernel4Ideal.S128 .f32}
    {X6 Y6 : FVec Ideal Cert.Kernel4Ideal.S128x8x64 .f32}
    (h0 : Y0 = X0) (h1 : Y1 = X1) (h2 : Y2 = X2) (h3 : Y3 = X3) (h4 : Y4 = X4) (h5 : Y5 = X5) (h6 : Y6 = X6) :
    Cert.Reference4Ideal.Read.val_main_v137 (F := Ideal) Y0 Y1 Y2 = o2 X0 X1 X2 := by
  refine Eq.trans (b := o2 Y0 Y1 Y2) ?_
    (congr_args (fun X0 X1 X2 X3 X4 X5 X6 => o2 X0 X1 X2) h0 h1 h2 h3 h4 h5 h6)
  funext i
  obtain ⟨r, l, rfl⟩ : ∃ (r : Fin 1024) (l : Fin 512), i = ix2 r l := ⟨i 0, i 1, eq_ix2 i⟩
  exact Cert.SmpRef.v137_at Y0 Y1 Y2 r l

/-- Result 5 of the kernel. -/
theorem kernel5 (m : (ℓ : Loc Cert.Kernel4Ideal.nD Cert.Kernel4Ideal.τ Cert.Kernel4Ideal.sig) → Buf (Elt Ideal) ℓ) (c : Dev Cert.Kernel4Ideal.nD) :
    (show FVec Ideal Cert.Kernel4Ideal.S8x1024x256 .f32 from (Cert.Kernel4Ideal.Gen.dats m 0 c).arrAt 15 (Cert.Kernel4Ideal.cfgs 0).N) = o5 (A0 m c) (A1 m c) (A2 m c) (A3 m c) (A4 m c) (A6 m c) := by
  funext i
  obtain ⟨h, r, l, rfl⟩ : ∃ (h : Fin 8) (r : Fin 1024) (l : Fin 256), i = ix3 h r l := ⟨i 0, i 1, i 2, eq_ix3 i⟩
  exact Cert.SmpArray.final15 m c h r l

/-- Result 5 of the reference. -/
theorem reference5 {X0 Y0 : FVec Ideal Cert.Kernel4Ideal.S128x8x1024 .f32} {X1 Y1 : FVec Ideal Cert.Kernel4Ideal.S1024 .f32} {X2 Y2 : FVec Ideal Cert.Kernel4Ideal.S1024x1952 .f32}
    {X3 Y3 : FVec Ideal Cert.Kernel4Ideal.S256 .f32} {X4 Y4 : FVec Ideal Cert.Kernel4Ideal.S256x768 .f32} {X5 Y5 : FVec Ideal Cert.Kernel4Ideal.S128 .f32}
    {X6 Y6 : FVec Ideal Cert.Kernel4Ideal.S128x8x64 .f32}
    (h0 : Y0 = X0) (h1 : Y1 = X1) (h2 : Y2 = X2) (h3 : Y3 = X3) (h4 : Y4 = X4) (h5 : Y5 = X5) (h6 : Y6 = X6) :
    Cert.Reference4Ideal.Read.val_main_v124 (F := Ideal) Y0 Y1 Y2 Y3 Y4 Y6 = o5 X0 X1 X2 X3 X4 X6 := by
  refine Eq.trans (b := o5 Y0 Y1 Y2 Y3 Y4 Y6) ?_
    (congr_args (fun X0 X1 X2 X3 X4 X5 X6 => o5 X0 X1 X2 X3 X4 X6) h0 h1 h2 h3 h4 h5 h6)
  funext i
  obtain ⟨h, r, l, rfl⟩ : ∃ (h : Fin 8) (r : Fin 1024) (l : Fin 256), i = ix3 h r l := ⟨i 0, i 1, i 2, eq_ix3 i⟩
  exact Cert.SmpRef.v124_at Y0 Y1 Y2 Y3 Y4 Y6 h r l

/-- Result 6 of the kernel. -/
theorem kernel6 (m : (ℓ : Loc Cert.Kernel4Ideal.nD Cert.Kernel4Ideal.τ Cert.Kernel4Ideal.sig) → Buf (Elt Ideal) ℓ) (c : Dev Cert.Kernel4Ideal.nD) :
    (show FVec Ideal Cert.Kernel4Ideal.S1024x128 .f32 from (Cert.Kernel4Ideal.Gen.dats m 0 c).arrAt 16 (Cert.Kernel4Ideal.cfgs 0).N) = o6 (A0 m c) (A1 m c) (A2 m c) (A5 m c) := by
  funext i
  obtain ⟨r, l, rfl⟩ : ∃ (r : Fin 1024) (l : Fin 128), i = ix2 r l := ⟨i 0, i 1, eq_ix2 i⟩
  exact Cert.SmpArray.final16 m c r l

/-- Result 6 of the reference. -/
theorem reference6 {X0 Y0 : FVec Ideal Cert.Kernel4Ideal.S128x8x1024 .f32} {X1 Y1 : FVec Ideal Cert.Kernel4Ideal.S1024 .f32} {X2 Y2 : FVec Ideal Cert.Kernel4Ideal.S1024x1952 .f32}
    {X3 Y3 : FVec Ideal Cert.Kernel4Ideal.S256 .f32} {X4 Y4 : FVec Ideal Cert.Kernel4Ideal.S256x768 .f32} {X5 Y5 : FVec Ideal Cert.Kernel4Ideal.S128 .f32}
    {X6 Y6 : FVec Ideal Cert.Kernel4Ideal.S128x8x64 .f32}
    (h0 : Y0 = X0) (h1 : Y1 = X1) (h2 : Y2 = X2) (h3 : Y3 = X3) (h4 : Y4 = X4) (h5 : Y5 = X5) (h6 : Y6 = X6) :
    Cert.Reference4Ideal.Read.val_main_v138 (F := Ideal) Y0 Y1 Y2 Y5 = o6 X0 X1 X2 X5 := by
  refine Eq.trans (b := o6 Y0 Y1 Y2 Y5) ?_
    (congr_args (fun X0 X1 X2 X3 X4 X5 X6 => o6 X0 X1 X2 X5) h0 h1 h2 h3 h4 h5 h6)
  funext i
  obtain ⟨r, l, rfl⟩ : ∃ (r : Fin 1024) (l : Fin 128), i = ix2 r l := ⟨i 0, i 1, eq_ix2 i⟩
  exact Cert.SmpRef.v138_at Y0 Y1 Y2 Y5 r l

/-- Result 7 of the kernel. -/
theorem kernel7 (m : (ℓ : Loc Cert.Kernel4Ideal.nD Cert.Kernel4Ideal.τ Cert.Kernel4Ideal.sig) → Buf (Elt Ideal) ℓ) (c : Dev Cert.Kernel4Ideal.nD) :
    (show FVec Ideal Cert.Kernel4Ideal.S1024x32 .f32 from (Cert.Kernel4Ideal.Gen.dats m 0 c).arrAt 17 (Cert.Kernel4Ideal.cfgs 0).N) = o7 (A0 m c) (A1 m c) (A2 m c) := by
  funext i
  obtain ⟨r, l, rfl⟩ : ∃ (r : Fin 1024) (l : Fin 32), i = ix2 r l := ⟨i 0, i 1, eq_ix2 i⟩
  exact Cert.SmpArray.final17 m c r l

/-- Result 7 of the reference. -/
theorem reference7 {X0 Y0 : FVec Ideal Cert.Kernel4Ideal.S128x8x1024 .f32} {X1 Y1 : FVec Ideal Cert.Kernel4Ideal.S1024 .f32} {X2 Y2 : FVec Ideal Cert.Kernel4Ideal.S1024x1952 .f32}
    {X3 Y3 : FVec Ideal Cert.Kernel4Ideal.S256 .f32} {X4 Y4 : FVec Ideal Cert.Kernel4Ideal.S256x768 .f32} {X5 Y5 : FVec Ideal Cert.Kernel4Ideal.S128 .f32}
    {X6 Y6 : FVec Ideal Cert.Kernel4Ideal.S128x8x64 .f32}
    (h0 : Y0 = X0) (h1 : Y1 = X1) (h2 : Y2 = X2) (h3 : Y3 = X3) (h4 : Y4 = X4) (h5 : Y5 = X5) (h6 : Y6 = X6) :
    Cert.Reference4Ideal.Read.val_main_v139 (F := Ideal) Y0 Y1 Y2 = o7 X0 X1 X2 := by
  refine Eq.trans (b := o7 Y0 Y1 Y2) ?_
    (congr_args (fun X0 X1 X2 X3 X4 X5 X6 => o7 X0 X1 X2) h0 h1 h2 h3 h4 h5 h6)
  funext i
  obtain ⟨r, l, rfl⟩ : ∃ (r : Fin 1024) (l : Fin 32), i = ix2 r l := ⟨i 0, i 1, eq_ix2 i⟩
  exact Cert.SmpRef.v139_at Y0 Y1 Y2 r l

/-- Result 8 of the kernel. -/
theorem kernel8 (m : (ℓ : Loc Cert.Kernel4Ideal.nD Cert.Kernel4Ideal.τ Cert.Kernel4Ideal.sig) → Buf (Elt Ideal) ℓ) (c : Dev Cert.Kernel4Ideal.nD) :
    (show FVec Ideal Cert.Kernel4Ideal.S1024x256 .bf16 from (Cert.Kernel4Ideal.Gen.dats m 0 c).arrAt 18 (Cert.Kernel4Ideal.cfgs 0).N) = o8 (A0 m c) (A1 m c) (A2 m c) (A5 m c) := by
  funext i
  obtain ⟨r, l, rfl⟩ : ∃ (r : Fin 1024) (l : Fin 256), i = ix2 r l := ⟨i 0, i 1, eq_ix2 i⟩
  exact Cert.SmpArray.final18 m c r l

/-- Result 8 of the reference. -/
theorem reference8 {X0 Y0 : FVec Ideal Cert.Kernel4Ideal.S128x8x1024 .f32} {X1 Y1 : FVec Ideal Cert.Kernel4Ideal.S1024 .f32} {X2 Y2 : FVec Ideal Cert.Kernel4Ideal.S1024x1952 .f32}
    {X3 Y3 : FVec Ideal Cert.Kernel4Ideal.S256 .f32} {X4 Y4 : FVec Ideal Cert.Kernel4Ideal.S256x768 .f32} {X5 Y5 : FVec Ideal Cert.Kernel4Ideal.S128 .f32}
    {X6 Y6 : FVec Ideal Cert.Kernel4Ideal.S128x8x64 .f32}
    (h0 : Y0 = X0) (h1 : Y1 = X1) (h2 : Y2 = X2) (h3 : Y3 = X3) (h4 : Y4 = X4) (h5 : Y5 = X5) (h6 : Y6 = X6) :
    Cert.Reference4Ideal.Read.val_main_v140 (F := Ideal) Y0 Y1 Y2 Y5 = o8 X0 X1 X2 X5 := by
  refine Eq.trans (b := o8 Y0 Y1 Y2 Y5) ?_
    (congr_args (fun X0 X1 X2 X3 X4 X5 X6 => o8 X0 X1 X2 X5) h0 h1 h2 h3 h4 h5 h6)
  funext i
  obtain ⟨r, l, rfl⟩ : ∃ (r : Fin 1024) (l : Fin 256), i = ix2 r l := ⟨i 0, i 1, eq_ix2 i⟩
  exact Cert.SmpRef.v140_at Y0 Y1 Y2 Y5 r l

/-- Over the extended reals kernel and reference end with the same nine arrays. -/
theorem algebraic : Cert.algebraic_Kernel4Ideal_Reference4Ideal := by
  intro m g m' g' hpre hargs
  refine ⟨fun c => o0 (A0 m c) (A1 m c) (A2 m c), fun c => o1 (A0 m c) (A1 m c) (A2 m c), fun c => o2 (A0 m c) (A1 m c) (A2 m c), fun c => o1 (A0 m c) (A1 m c) (A2 m c), fun c => o2 (A0 m c) (A1 m c) (A2 m c), fun c => o5 (A0 m c) (A1 m c) (A2 m c) (A3 m c) (A4 m c) (A6 m c), fun c => o6 (A0 m c) (A1 m c) (A2 m c) (A5 m c), fun c => o7 (A0 m c) (A1 m c) (A2 m c), fun c => o8 (A0 m c) (A1 m c) (A2 m c) (A5 m c), ?_, ?_⟩
  · refine (θ_run Cert.Kernel4Ideal.defs _ _).mono (fun r h c => ?_) (Cert.Kernel4Ideal.Value.run_blocks m g)
    obtain ⟨k0, k1, k2, k3, k4, k5, k6, k7, k8, kr⟩ := h c
    exact ⟨k0.trans (kernel0 m c), k1.trans (kernel1 m c), k2.trans (kernel2 m c), k3.trans (kernel3 m c), k4.trans (kernel4 m c), k5.trans (kernel5 m c), k6.trans (kernel6 m c), k7.trans (kernel7 m c), k8.trans (kernel8 m c), kr⟩
  · refine (θ_run Cert.Reference4Ideal.defs _ _).mono (fun r h c => ?_) (Cert.Reference4Ideal.Value.run m' g')
    obtain ⟨k0, k1, k2, k3, k4, k5, k6, k7, k8, kr⟩ := h c
    obtain ⟨a0, a1, a2, a3, a4, a5, a6⟩ := hargs c
    exact ⟨k0.trans ((Cert.Reference4Ideal.Read.val_main_v131_eq _ _ _ ).trans (reference0 a0 a1 a2 a3 a4 a5 a6)), k1.trans ((Cert.Reference4Ideal.Read.val_main_v132_eq _ _ _ ).trans (reference1 a0 a1 a2 a3 a4 a5 a6)), k2.trans ((Cert.Reference4Ideal.Read.val_main_v133_eq _ _ _ ).trans (reference2 a0 a1 a2 a3 a4 a5 a6)), k3.trans ((Cert.Reference4Ideal.Read.val_main_v135_eq _ _ _ ).trans (reference3 a0 a1 a2 a3 a4 a5 a6)), k4.trans ((Cert.Reference4Ideal.Read.val_main_v137_eq _ _ _ ).trans (reference4 a0 a1 a2 a3 a4 a5 a6)), k5.trans ((Cert.Reference4Ideal.Read.val_main_v124_eq m' c).trans (reference5 a0 a1 a2 a3 a4 a5 a6)), k6.trans ((Cert.Reference4Ideal.Read.val_main_v138_eq _ _ _ _ ).trans (reference6 a0 a1 a2 a3 a4 a5 a6)), k7.trans ((Cert.Reference4Ideal.Read.val_main_v139_eq m' c).trans (reference7 a0 a1 a2 a3 a4 a5 a6)), k8.trans ((Cert.Reference4Ideal.Read.val_main_v140_eq m' c).trans (reference8 a0 a1 a2 a3 a4 a5 a6)), kr⟩

end Cert.SmpClaim
-- ==== Proof.lean ====
module

public import proofs.«01_k».proof.Defs
public import proofs.«01_k».proof.Proof.Gen.Kernel.Frame
public import proofs.«01_k».proof.Proof.Gen.KernelIdeal.Frame
public import proofs.«01_k».proof.Proof.SbClaim
public import proofs.«01_k».proof.Proof.Gen.Kernel2.Frame
public import proofs.«01_k».proof.Proof.TailClaim
public import proofs.«01_k».proof.Proof.Gen.Kernel3.Frame
public import proofs.«01_k».proof.Proof.Gen.Kernel3Ideal.Frame
public import proofs.«01_k».proof.Proof.MixClaim
public import proofs.«01_k».proof.Proof.Gen.Kernel4.Frame
public import proofs.«01_k».proof.Proof.Gen.Kernel4Ideal.Frame
public import proofs.«01_k».proof.Proof.SmpClaim

@[expose] public section

noncomputable section

namespace Cert.Proof

/-- All the claims: the three frames, the idealization and the equality of the results. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.SbPre.facts,
    fun m ρ _ => Cert.Kernel.Gen.frame m ρ,
    fun m ρ _ => Cert.KernelIdeal.Gen.frame m ρ,
    fun m ρ _ => Cert.KernelIdeal.Gen.frame m ρ,
    fun m ρ _ => Cert.SbClaim.reference_frame m ρ,
    fun m ρ _ => Cert.SbClaim.reference_frame m ρ,
    fun m ρ _ => Cert.Kernel2.Gen.frame m ρ,
    fun m ρ _ => Cert.Kernel2Ideal.Gen.frame m ρ,
    Cert.TailClaim.reference_frame,
    fun m ρ _ => Cert.Kernel3.Gen.frame m ρ,
    fun m ρ _ => Cert.Kernel3Ideal.Gen.frame m ρ,
    Cert.MixClaim.reference_frame,
    fun m ρ _ => Cert.Kernel4.Gen.frame m ρ,
    fun m ρ _ => Cert.Kernel4Ideal.Gen.frame m ρ,
    Cert.SmpClaim.reference_frame,
    trivial,
    Cert.SbClaim.algebraic,
    trivial,
    Cert.TailClaim.algebraic,
    trivial,
    Cert.MixClaim.algebraic,
    trivial,
    Cert.SmpClaim.algebraic⟩

end Cert.Proof

end
